-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_RefIdeal (m : (ℓ : Loc Cert.RefIdeal.nD Cert.RefIdeal.τ Cert.RefIdeal.sig) → Buf (Elt Ideal) ℓ) : Prop :=
  True

def Pre_Quantdy (m : (ℓ : Loc Cert.Quantdy.nD Cert.Quantdy.τ Cert.Quantdy.sig) → Buf (Elt Bits) ℓ) : Prop :=
  True

def Pre_Quantref (m : (ℓ : Loc Cert.Quantref.nD Cert.Quantref.τ Cert.Quantref.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_RefIdeal [hRefIdeal : Cert.RefIdeal.Facts] : Prop :=
  ∀ (m : (ℓ : Loc Cert.RefIdeal.nD Cert.RefIdeal.τ Cert.RefIdeal.sig) → Buf (Elt Ideal) ℓ) (g : Dev Cert.RefIdeal.nD → PrngReg), Pre_RefIdeal m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4)
      ∧ r.2.mem ((c.tc : Thread Cert.RefIdeal.nD Cert.RefIdeal.τ).loc Cert.RefIdeal.main_arg5) = m ((c.tc : Thread Cert.RefIdeal.nD Cert.RefIdeal.τ).loc Cert.RefIdeal.main_arg5)
      ∧ r.2.mem ((c.tc : Thread Cert.RefIdeal.nD Cert.RefIdeal.τ).loc Cert.RefIdeal.main_arg6) = m ((c.tc : Thread Cert.RefIdeal.nD Cert.RefIdeal.τ).loc Cert.RefIdeal.main_arg6)
      ∧ r.2.mem ((c.tc : Thread Cert.RefIdeal.nD Cert.RefIdeal.τ).loc Cert.RefIdeal.main_arg7) = m ((c.tc : Thread Cert.RefIdeal.nD Cert.RefIdeal.τ).loc Cert.RefIdeal.main_arg7)
      ∧ r.2.mem ((c.tc : Thread Cert.RefIdeal.nD Cert.RefIdeal.τ).loc Cert.RefIdeal.main_arg8) = m ((c.tc : Thread Cert.RefIdeal.nD Cert.RefIdeal.τ).loc Cert.RefIdeal.main_arg8)
      ∧ r.2.mem ((c.tc : Thread Cert.RefIdeal.nD Cert.RefIdeal.τ).loc Cert.RefIdeal.main_arg9) = m ((c.tc : Thread Cert.RefIdeal.nD Cert.RefIdeal.τ).loc Cert.RefIdeal.main_arg9)
      ∧ r.2.mem ((c.tc : Thread Cert.RefIdeal.nD Cert.RefIdeal.τ).loc Cert.RefIdeal.main_arg10) = m ((c.tc : Thread Cert.RefIdeal.nD Cert.RefIdeal.τ).loc Cert.RefIdeal.main_arg10)
      ∧ r.2.mem ((c.tc : Thread Cert.RefIdeal.nD Cert.RefIdeal.τ).loc Cert.RefIdeal.main_arg11) = m ((c.tc : Thread Cert.RefIdeal.nD Cert.RefIdeal.τ).loc Cert.RefIdeal.main_arg11)
      ∧ r.2.mem ((c.tc : Thread Cert.RefIdeal.nD Cert.RefIdeal.τ).loc Cert.RefIdeal.main_arg12) = m ((c.tc : Thread Cert.RefIdeal.nD Cert.RefIdeal.τ).loc Cert.RefIdeal.main_arg12)
      ∧ r.2.mem ((c.tc : Thread Cert.RefIdeal.nD Cert.RefIdeal.τ).loc Cert.RefIdeal.main_arg13) = m ((c.tc : Thread Cert.RefIdeal.nD Cert.RefIdeal.τ).loc Cert.RefIdeal.main_arg13)
      ∧ r.2.mem ((c.tc : Thread Cert.RefIdeal.nD Cert.RefIdeal.τ).loc Cert.RefIdeal.main_arg14) = m ((c.tc : Thread Cert.RefIdeal.nD Cert.RefIdeal.τ).loc Cert.RefIdeal.main_arg14)
      ∧ r.2.mem ((c.tc : Thread Cert.RefIdeal.nD Cert.RefIdeal.τ).loc Cert.RefIdeal.main_arg15) = m ((c.tc : Thread Cert.RefIdeal.nD Cert.RefIdeal.τ).loc Cert.RefIdeal.main_arg15))
      ∧ r.2.sem = fun _ => 0)

def quiescent_Quantdy [hQuantdy : Cert.Quantdy.Facts] : Prop :=
  ∀ (m : (ℓ : Loc Cert.Quantdy.nD Cert.Quantdy.τ Cert.Quantdy.sig) → Buf (Elt Bits) ℓ) (g : Dev Cert.Quantdy.nD → PrngReg), Pre_Quantdy m →
    θ_run (Cert.Quantdy.defs (F := Bits)) (onTc (τ := Cert.Quantdy.τ) (Cert.Quantdy.main (F := Bits))) ⟨m, fun _ => 0, g⟩ (fun r => (∀ c : Dev Cert.Quantdy.nD,
      r.2.mem ((c.tc : Thread Cert.Quantdy.nD Cert.Quantdy.τ).loc Cert.Quantdy.main_arg0) = m ((c.tc : Thread Cert.Quantdy.nD Cert.Quantdy.τ).loc Cert.Quantdy.main_arg0)
      ∧ r.2.mem ((c.tc : Thread Cert.Quantdy.nD Cert.Quantdy.τ).loc Cert.Quantdy.main_arg1) = m ((c.tc : Thread Cert.Quantdy.nD Cert.Quantdy.τ).loc Cert.Quantdy.main_arg1)
      ∧ r.2.mem ((c.tc : Thread Cert.Quantdy.nD Cert.Quantdy.τ).loc Cert.Quantdy.main_arg2) = m ((c.tc : Thread Cert.Quantdy.nD Cert.Quantdy.τ).loc Cert.Quantdy.main_arg2))
      ∧ r.2.sem = fun _ => 0)

def quiescent_Quantref [hQuantref : Cert.Quantref.Facts] : Prop :=
  ∀ (m : (ℓ : Loc Cert.Quantref.nD Cert.Quantref.τ Cert.Quantref.sig) → Buf (Elt Bits) ℓ) (g : Dev Cert.Quantref.nD → PrngReg), Pre_Quantref m →
    θ_run (Cert.Quantref.defs (F := Bits)) (onTc (τ := Cert.Quantref.τ) (Cert.Quantref.main (F := Bits))) ⟨m, fun _ => 0, g⟩ (fun r => (∀ c : Dev Cert.Quantref.nD,
      r.2.mem ((c.tc : Thread Cert.Quantref.nD Cert.Quantref.τ).loc Cert.Quantref.main_arg0) = m ((c.tc : Thread Cert.Quantref.nD Cert.Quantref.τ).loc Cert.Quantref.main_arg0)
      ∧ r.2.mem ((c.tc : Thread Cert.Quantref.nD Cert.Quantref.τ).loc Cert.Quantref.main_arg1) = m ((c.tc : Thread Cert.Quantref.nD Cert.Quantref.τ).loc Cert.Quantref.main_arg1)
      ∧ r.2.mem ((c.tc : Thread Cert.Quantref.nD Cert.Quantref.τ).loc Cert.Quantref.main_arg2) = m ((c.tc : Thread Cert.Quantref.nD Cert.Quantref.τ).loc Cert.Quantref.main_arg2))
      ∧ r.2.sem = fun _ => 0)

def preserves_Kernel_KernelIdeal : Prop :=
  True

def algebraic_KernelIdeal_RefIdeal [hKernelIdeal : Cert.KernelIdeal.Facts] [hRefIdeal : Cert.RefIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.RefIdeal.nD Cert.RefIdeal.τ Cert.RefIdeal.sig) → Buf (Elt Ideal) ℓ) (g' : Dev Cert.RefIdeal.nD → PrngReg), Pre_KernelIdeal m →
    (∀ c : Dev Cert.KernelIdeal.nD,
      m' ((c.tc : Thread Cert.RefIdeal.nD Cert.RefIdeal.τ).loc Cert.RefIdeal.main_arg0) = m ((c.tc : Thread Cert.KernelIdeal.nD Cert.KernelIdeal.τ).loc Cert.KernelIdeal.main_arg0)
      ∧ m' ((c.tc : Thread Cert.RefIdeal.nD Cert.RefIdeal.τ).loc Cert.RefIdeal.main_arg1) = m ((c.tc : Thread Cert.KernelIdeal.nD Cert.KernelIdeal.τ).loc Cert.KernelIdeal.main_arg1)
      ∧ m' ((c.tc : Thread Cert.RefIdeal.nD Cert.RefIdeal.τ).loc Cert.RefIdeal.main_arg2) = m ((c.tc : Thread Cert.KernelIdeal.nD Cert.KernelIdeal.τ).loc Cert.KernelIdeal.main_arg2)
      ∧ m' ((c.tc : Thread Cert.RefIdeal.nD Cert.RefIdeal.τ).loc Cert.RefIdeal.main_arg3) = m ((c.tc : Thread Cert.KernelIdeal.nD Cert.KernelIdeal.τ).loc Cert.KernelIdeal.main_arg3)
      ∧ m' ((c.tc : Thread Cert.RefIdeal.nD Cert.RefIdeal.τ).loc Cert.RefIdeal.main_arg4) = m ((c.tc : Thread Cert.KernelIdeal.nD Cert.KernelIdeal.τ).loc Cert.KernelIdeal.main_arg4)
      ∧ m' ((c.tc : Thread Cert.RefIdeal.nD Cert.RefIdeal.τ).loc Cert.RefIdeal.main_arg5) = m ((c.tc : Thread Cert.KernelIdeal.nD Cert.KernelIdeal.τ).loc Cert.KernelIdeal.main_arg5)
      ∧ m' ((c.tc : Thread Cert.RefIdeal.nD Cert.RefIdeal.τ).loc Cert.RefIdeal.main_arg6) = m ((c.tc : Thread Cert.KernelIdeal.nD Cert.KernelIdeal.τ).loc Cert.KernelIdeal.main_arg6)
      ∧ m' ((c.tc : Thread Cert.RefIdeal.nD Cert.RefIdeal.τ).loc Cert.RefIdeal.main_arg7) = m ((c.tc : Thread Cert.KernelIdeal.nD Cert.KernelIdeal.τ).loc Cert.KernelIdeal.main_arg7)
      ∧ m' ((c.tc : Thread Cert.RefIdeal.nD Cert.RefIdeal.τ).loc Cert.RefIdeal.main_arg8) = m ((c.tc : Thread Cert.KernelIdeal.nD Cert.KernelIdeal.τ).loc Cert.KernelIdeal.main_arg8)
      ∧ m' ((c.tc : Thread Cert.RefIdeal.nD Cert.RefIdeal.τ).loc Cert.RefIdeal.main_arg9) = m ((c.tc : Thread Cert.KernelIdeal.nD Cert.KernelIdeal.τ).loc Cert.KernelIdeal.main_arg9)
      ∧ m' ((c.tc : Thread Cert.RefIdeal.nD Cert.RefIdeal.τ).loc Cert.RefIdeal.main_arg10) = m ((c.tc : Thread Cert.KernelIdeal.nD Cert.KernelIdeal.τ).loc Cert.KernelIdeal.main_arg10)
      ∧ m' ((c.tc : Thread Cert.RefIdeal.nD Cert.RefIdeal.τ).loc Cert.RefIdeal.main_arg11) = m ((c.tc : Thread Cert.KernelIdeal.nD Cert.KernelIdeal.τ).loc Cert.KernelIdeal.main_arg11)
      ∧ m' ((c.tc : Thread Cert.RefIdeal.nD Cert.RefIdeal.τ).loc Cert.RefIdeal.main_arg12) = m ((c.tc : Thread Cert.KernelIdeal.nD Cert.KernelIdeal.τ).loc Cert.KernelIdeal.main_arg12)
      ∧ m' ((c.tc : Thread Cert.RefIdeal.nD Cert.RefIdeal.τ).loc Cert.RefIdeal.main_arg13) = m ((c.tc : Thread Cert.KernelIdeal.nD Cert.KernelIdeal.τ).loc Cert.KernelIdeal.main_arg13)
      ∧ m' ((c.tc : Thread Cert.RefIdeal.nD Cert.RefIdeal.τ).loc Cert.RefIdeal.main_arg14) = m ((c.tc : Thread Cert.KernelIdeal.nD Cert.KernelIdeal.τ).loc Cert.KernelIdeal.main_arg14)
      ∧ m' ((c.tc : Thread Cert.RefIdeal.nD Cert.RefIdeal.τ).loc Cert.RefIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v5_0)) (v4 : (c : Dev Cert.KernelIdeal.nD) → Buf (Elt Ideal) ((c.tc : Thread Cert.KernelIdeal.nD Cert.KernelIdeal.τ).loc Cert.KernelIdeal.main_v10_0)) (v5 : (c : Dev Cert.KernelIdeal.nD) → Buf (Elt Ideal) ((c.tc : Thread Cert.KernelIdeal.nD Cert.KernelIdeal.τ).loc Cert.KernelIdeal.main_v23)) (v6 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_v5_0) = v3 c
          ∧ r.2.mem ((c.tc : Thread Cert.KernelIdeal.nD Cert.KernelIdeal.τ).loc Cert.KernelIdeal.main_v10_0) = v4 c
          ∧ r.2.mem ((c.tc : Thread Cert.KernelIdeal.nD Cert.KernelIdeal.τ).loc Cert.KernelIdeal.main_v23) = v5 c
          ∧ r.2.mem ((c.tc : Thread Cert.KernelIdeal.nD Cert.KernelIdeal.τ).loc Cert.KernelIdeal.main_v27) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.RefIdeal.defs (F := Ideal)) (onTc (τ := Cert.RefIdeal.τ) (Cert.RefIdeal.main (F := Ideal))) ⟨m', fun _ => 0, g'⟩ (fun r => ∀ c : Dev Cert.RefIdeal.nD,
          r.2.mem ((c.tc : Thread Cert.RefIdeal.nD Cert.RefIdeal.τ).loc Cert.RefIdeal.main_v13_0) = v0 c
          ∧ r.2.mem ((c.tc : Thread Cert.RefIdeal.nD Cert.RefIdeal.τ).loc Cert.RefIdeal.main_v13_1) = v1 c
          ∧ r.2.mem ((c.tc : Thread Cert.RefIdeal.nD Cert.RefIdeal.τ).loc Cert.RefIdeal.main_v13_2) = v2 c
          ∧ r.2.mem ((c.tc : Thread Cert.RefIdeal.nD Cert.RefIdeal.τ).loc Cert.RefIdeal.main_v13_3) = v3 c
          ∧ r.2.mem ((c.tc : Thread Cert.RefIdeal.nD Cert.RefIdeal.τ).loc Cert.RefIdeal.main_v13_4) = v4 c
          ∧ r.2.mem ((c.tc : Thread Cert.RefIdeal.nD Cert.RefIdeal.τ).loc Cert.RefIdeal.main_v16) = v5 c
          ∧ r.2.mem ((c.tc : Thread Cert.RefIdeal.nD Cert.RefIdeal.τ).loc Cert.RefIdeal.main_v19) = v6 c
          ∧ r.2.mem ((c.tc : Thread Cert.RefIdeal.nD Cert.RefIdeal.τ).loc Cert.RefIdeal.main_arg0) = m' ((c.tc : Thread Cert.RefIdeal.nD Cert.RefIdeal.τ).loc Cert.RefIdeal.main_arg0)
          ∧ r.2.mem ((c.tc : Thread Cert.RefIdeal.nD Cert.RefIdeal.τ).loc Cert.RefIdeal.main_arg1) = m' ((c.tc : Thread Cert.RefIdeal.nD Cert.RefIdeal.τ).loc Cert.RefIdeal.main_arg1)
          ∧ r.2.mem ((c.tc : Thread Cert.RefIdeal.nD Cert.RefIdeal.τ).loc Cert.RefIdeal.main_arg2) = m' ((c.tc : Thread Cert.RefIdeal.nD Cert.RefIdeal.τ).loc Cert.RefIdeal.main_arg2)
          ∧ r.2.mem ((c.tc : Thread Cert.RefIdeal.nD Cert.RefIdeal.τ).loc Cert.RefIdeal.main_arg3) = m' ((c.tc : Thread Cert.RefIdeal.nD Cert.RefIdeal.τ).loc Cert.RefIdeal.main_arg3)
          ∧ r.2.mem ((c.tc : Thread Cert.RefIdeal.nD Cert.RefIdeal.τ).loc Cert.RefIdeal.main_arg4) = m' ((c.tc : Thread Cert.RefIdeal.nD Cert.RefIdeal.τ).loc Cert.RefIdeal.main_arg4)
          ∧ r.2.mem ((c.tc : Thread Cert.RefIdeal.nD Cert.RefIdeal.τ).loc Cert.RefIdeal.main_arg5) = m' ((c.tc : Thread Cert.RefIdeal.nD Cert.RefIdeal.τ).loc Cert.RefIdeal.main_arg5)
          ∧ r.2.mem ((c.tc : Thread Cert.RefIdeal.nD Cert.RefIdeal.τ).loc Cert.RefIdeal.main_arg6) = m' ((c.tc : Thread Cert.RefIdeal.nD Cert.RefIdeal.τ).loc Cert.RefIdeal.main_arg6)
          ∧ r.2.mem ((c.tc : Thread Cert.RefIdeal.nD Cert.RefIdeal.τ).loc Cert.RefIdeal.main_arg7) = m' ((c.tc : Thread Cert.RefIdeal.nD Cert.RefIdeal.τ).loc Cert.RefIdeal.main_arg7)
          ∧ r.2.mem ((c.tc : Thread Cert.RefIdeal.nD Cert.RefIdeal.τ).loc Cert.RefIdeal.main_arg8) = m' ((c.tc : Thread Cert.RefIdeal.nD Cert.RefIdeal.τ).loc Cert.RefIdeal.main_arg8)
          ∧ r.2.mem ((c.tc : Thread Cert.RefIdeal.nD Cert.RefIdeal.τ).loc Cert.RefIdeal.main_arg9) = m' ((c.tc : Thread Cert.RefIdeal.nD Cert.RefIdeal.τ).loc Cert.RefIdeal.main_arg9)
          ∧ r.2.mem ((c.tc : Thread Cert.RefIdeal.nD Cert.RefIdeal.τ).loc Cert.RefIdeal.main_arg10) = m' ((c.tc : Thread Cert.RefIdeal.nD Cert.RefIdeal.τ).loc Cert.RefIdeal.main_arg10)
          ∧ r.2.mem ((c.tc : Thread Cert.RefIdeal.nD Cert.RefIdeal.τ).loc Cert.RefIdeal.main_arg11) = m' ((c.tc : Thread Cert.RefIdeal.nD Cert.RefIdeal.τ).loc Cert.RefIdeal.main_arg11)
          ∧ r.2.mem ((c.tc : Thread Cert.RefIdeal.nD Cert.RefIdeal.τ).loc Cert.RefIdeal.main_arg12) = m' ((c.tc : Thread Cert.RefIdeal.nD Cert.RefIdeal.τ).loc Cert.RefIdeal.main_arg12)
          ∧ r.2.mem ((c.tc : Thread Cert.RefIdeal.nD Cert.RefIdeal.τ).loc Cert.RefIdeal.main_arg13) = m' ((c.tc : Thread Cert.RefIdeal.nD Cert.RefIdeal.τ).loc Cert.RefIdeal.main_arg13)
          ∧ r.2.mem ((c.tc : Thread Cert.RefIdeal.nD Cert.RefIdeal.τ).loc Cert.RefIdeal.main_arg14) = m' ((c.tc : Thread Cert.RefIdeal.nD Cert.RefIdeal.τ).loc Cert.RefIdeal.main_arg14)
          ∧ r.2.mem ((c.tc : Thread Cert.RefIdeal.nD Cert.RefIdeal.τ).loc Cert.RefIdeal.main_arg15) = m' ((c.tc : Thread Cert.RefIdeal.nD Cert.RefIdeal.τ).loc Cert.RefIdeal.main_arg15))

def bitexact_Quantdy_Quantref [hQuantdy : Cert.Quantdy.Facts] [hQuantref : Cert.Quantref.Facts] : Prop :=
  ∀ (m : (ℓ : Loc Cert.Quantdy.nD Cert.Quantdy.τ Cert.Quantdy.sig) → Buf (Elt Bits) ℓ) (g : Dev Cert.Quantdy.nD → PrngReg)
    (m' : (ℓ : Loc Cert.Quantref.nD Cert.Quantref.τ Cert.Quantref.sig) → Buf (Elt Bits) ℓ) (g' : Dev Cert.Quantref.nD → PrngReg), Pre_Quantdy m →
    (∀ c : Dev Cert.Quantdy.nD,
      m' ((c.tc : Thread Cert.Quantref.nD Cert.Quantref.τ).loc Cert.Quantref.main_arg0) = m ((c.tc : Thread Cert.Quantdy.nD Cert.Quantdy.τ).loc Cert.Quantdy.main_arg0)
      ∧ m' ((c.tc : Thread Cert.Quantref.nD Cert.Quantref.τ).loc Cert.Quantref.main_arg1) = m ((c.tc : Thread Cert.Quantdy.nD Cert.Quantdy.τ).loc Cert.Quantdy.main_arg1)
      ∧ m' ((c.tc : Thread Cert.Quantref.nD Cert.Quantref.τ).loc Cert.Quantref.main_arg2) = m ((c.tc : Thread Cert.Quantdy.nD Cert.Quantdy.τ).loc Cert.Quantdy.main_arg2)) →
    ∃ (v0 : (c : Dev Cert.Quantdy.nD) → Buf (Elt Bits) ((c.tc : Thread Cert.Quantdy.nD Cert.Quantdy.τ).loc Cert.Quantdy.main_v18_0)) (v1 : (c : Dev Cert.Quantdy.nD) → Buf (Elt Bits) ((c.tc : Thread Cert.Quantdy.nD Cert.Quantdy.τ).loc Cert.Quantdy.main_v11)) (v2 : (c : Dev Cert.Quantdy.nD) → Buf (Elt Bits) ((c.tc : Thread Cert.Quantdy.nD Cert.Quantdy.τ).loc Cert.Quantdy.main_v14)),
      θ_run (Cert.Quantdy.defs (F := Bits)) (onTc (τ := Cert.Quantdy.τ) (Cert.Quantdy.main (F := Bits))) ⟨m, fun _ => 0, g⟩ (fun r => ∀ c : Dev Cert.Quantdy.nD,
          r.2.mem ((c.tc : Thread Cert.Quantdy.nD Cert.Quantdy.τ).loc Cert.Quantdy.main_v18_0) = v0 c
          ∧ r.2.mem ((c.tc : Thread Cert.Quantdy.nD Cert.Quantdy.τ).loc Cert.Quantdy.main_v11) = v1 c
          ∧ r.2.mem ((c.tc : Thread Cert.Quantdy.nD Cert.Quantdy.τ).loc Cert.Quantdy.main_v14) = v2 c
          ∧ r.2.mem ((c.tc : Thread Cert.Quantdy.nD Cert.Quantdy.τ).loc Cert.Quantdy.main_arg0) = m ((c.tc : Thread Cert.Quantdy.nD Cert.Quantdy.τ).loc Cert.Quantdy.main_arg0)
          ∧ r.2.mem ((c.tc : Thread Cert.Quantdy.nD Cert.Quantdy.τ).loc Cert.Quantdy.main_arg1) = m ((c.tc : Thread Cert.Quantdy.nD Cert.Quantdy.τ).loc Cert.Quantdy.main_arg1)
          ∧ r.2.mem ((c.tc : Thread Cert.Quantdy.nD Cert.Quantdy.τ).loc Cert.Quantdy.main_arg2) = m ((c.tc : Thread Cert.Quantdy.nD Cert.Quantdy.τ).loc Cert.Quantdy.main_arg2))
      ∧ θ_run (Cert.Quantref.defs (F := Bits)) (onTc (τ := Cert.Quantref.τ) (Cert.Quantref.main (F := Bits))) ⟨m', fun _ => 0, g'⟩ (fun r => ∀ c : Dev Cert.Quantref.nD,
          r.2.mem ((c.tc : Thread Cert.Quantref.nD Cert.Quantref.τ).loc Cert.Quantref.main_v18) = v0 c
          ∧ r.2.mem ((c.tc : Thread Cert.Quantref.nD Cert.Quantref.τ).loc Cert.Quantref.main_v5) = v1 c
          ∧ r.2.mem ((c.tc : Thread Cert.Quantref.nD Cert.Quantref.τ).loc Cert.Quantref.main_v13) = v2 c
          ∧ r.2.mem ((c.tc : Thread Cert.Quantref.nD Cert.Quantref.τ).loc Cert.Quantref.main_arg0) = m' ((c.tc : Thread Cert.Quantref.nD Cert.Quantref.τ).loc Cert.Quantref.main_arg0)
          ∧ r.2.mem ((c.tc : Thread Cert.Quantref.nD Cert.Quantref.τ).loc Cert.Quantref.main_arg1) = m' ((c.tc : Thread Cert.Quantref.nD Cert.Quantref.τ).loc Cert.Quantref.main_arg1)
          ∧ r.2.mem ((c.tc : Thread Cert.Quantref.nD Cert.Quantref.τ).loc Cert.Quantref.main_arg2) = m' ((c.tc : Thread Cert.Quantref.nD Cert.Quantref.τ).loc Cert.Quantref.main_arg2))

def Claim : Prop :=
  ∃ (hKernel : Cert.Kernel.Facts) (hKernelIdeal : Cert.KernelIdeal.Facts) (hRefIdeal : Cert.RefIdeal.Facts) (hQuantdy : Cert.Quantdy.Facts) (hQuantref : Cert.Quantref.Facts),
    quiescent_Kernel (hKernel := hKernel)
    ∧ quiescent_KernelIdeal (hKernelIdeal := hKernelIdeal)
    ∧ quiescent_RefIdeal (hRefIdeal := hRefIdeal)
    ∧ quiescent_Quantdy (hQuantdy := hQuantdy)
    ∧ quiescent_Quantref (hQuantref := hQuantref)
    ∧ preserves_Kernel_KernelIdeal
    ∧ algebraic_KernelIdeal_RefIdeal (hKernelIdeal := hKernelIdeal) (hRefIdeal := hRefIdeal)
    ∧ bitexact_Quantdy_Quantref (hQuantdy := hQuantdy) (hQuantref := hQuantref)
-- ==== Kernel.lean ====
abbrev S1x4608x4096 : Shape := ⟨3, ![1, 4608, 4096]⟩
abbrev S1x4608x28672 : Shape := ⟨3, ![1, 4608, 28672]⟩
abbrev S_ : Shape := ⟨0, ![]⟩
abbrev S1x4608x14336 : Shape := ⟨3, ![1, 4608, 14336]⟩
abbrev S4096x28672 : Shape := ⟨2, ![4096, 28672]⟩
abbrev S14336x4096 : Shape := ⟨2, ![14336, 4096]⟩
abbrev S16 : Shape := ⟨1, ![16]⟩
abbrev S4608x4096 : Shape := ⟨2, ![4608, 4096]⟩
abbrev S4608x28672 : Shape := ⟨2, ![4608, 28672]⟩
abbrev S4608x14336 : Shape := ⟨2, ![4608, 14336]⟩
abbrev S1 : Shape := ⟨1, ![1]⟩
abbrev S8x4096 : Shape := ⟨2, ![8, 4096]⟩
abbrev S256x4096 : Shape := ⟨2, ![256, 4096]⟩
abbrev S32x8x4096 : Shape := ⟨3, ![32, 8, 4096]⟩
abbrev S2 : Shape := ⟨1, ![2]⟩
abbrev S8x1024 : Shape := ⟨2, ![8, 1024]⟩
abbrev S768x4096 : Shape := ⟨2, ![768, 4096]⟩
abbrev S1024x4096 : Shape := ⟨2, ![1024, 4096]⟩
abbrev S768x1024 : Shape := ⟨2, ![768, 1024]⟩
abbrev S2x2x768x1024 : Shape := ⟨4, ![2, 2, 768, 1024]⟩
abbrev S1x1x768x1024 : Shape := ⟨4, ![1, 1, 768, 1024]⟩
abbrev S96x8x1024 : Shape := ⟨3, ![96, 8, 1024]⟩
abbrev S4608x1024 : Shape := ⟨2, ![4608, 1024]⟩
abbrev S1024x1024 : Shape := ⟨2, ![1024, 1024]⟩
abbrev S1536x2048 : Shape := ⟨2, ![1536, 2048]⟩
abbrev S2048x2048 : Shape := ⟨2, ![2048, 2048]⟩
abbrev S15 : Shape := ⟨1, ![15]⟩

abbrev nBuf : Space → Nat
  | .hbm => 48
  | .vmem => 34
  | .smem => 5
  | _ => 0

abbrev bufTy : (tb : Table) → Fin (tcTables nBuf tb) → BufTy
  | .hbm, ⟨0, _⟩ => ⟨S1x4608x4096, .bf16⟩
  | .hbm, ⟨1, _⟩ => ⟨S1x4608x28672, .bf16⟩
  | .hbm, ⟨2, _⟩ => ⟨S1x4608x4096, .fp8e4m3⟩
  | .hbm, ⟨3, _⟩ => ⟨S_, .f32⟩
  | .hbm, ⟨4, _⟩ => ⟨S1x4608x14336, .fp8e4m3⟩
  | .hbm, ⟨5, _⟩ => ⟨S_, .f32⟩
  | .hbm, ⟨6, _⟩ => ⟨S4096x28672, .fp8e4m3⟩
  | .hbm, ⟨7, _⟩ => ⟨S_, .f32⟩
  | .hbm, ⟨8, _⟩ => ⟨S14336x4096, .fp8e4m3⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4608x4096, .bf16⟩
  | .hbm, ⟨17, _⟩ => ⟨S4608x28672, .bf16⟩
  | .hbm, ⟨18, _⟩ => ⟨S4608x4096, .fp8e4m3⟩
  | .hbm, ⟨19, _⟩ => ⟨S4608x14336, .fp8e4m3⟩
  | .hbm, ⟨20, _⟩ => ⟨S1, .f32⟩
  | .hbm, ⟨21, _⟩ => ⟨S4608x4096, .fp8e5m2⟩
  | .hbm, ⟨22, _⟩ => ⟨S8x4096, .f32⟩
  | .hbm, ⟨23, _⟩ => ⟨S_, .f32⟩
  | .hbm, ⟨24, _⟩ => ⟨S1, .f32⟩
  | .hbm, ⟨25, _⟩ => ⟨S1, .f32⟩
  | .hbm, ⟨26, _⟩ => ⟨S2, .f32⟩
  | .hbm, ⟨27, _⟩ => ⟨S4608x28672, .fp8e5m2⟩
  | .hbm, ⟨28, _⟩ => ⟨S8x1024, .f32⟩
  | .hbm, ⟨29, _⟩ => ⟨S_, .f32⟩
  | .hbm, ⟨30, _⟩ => ⟨S1, .f32⟩
  | .hbm, ⟨31, _⟩ => ⟨S14336x4096, .bf16⟩
  | .hbm, ⟨32, _⟩ => ⟨S_, .f32⟩
  | .hbm, ⟨33, _⟩ => ⟨S1, .f32⟩
  | .hbm, ⟨34, _⟩ => ⟨S4096x28672, .bf16⟩
  | .hbm, ⟨35, _⟩ => ⟨S_, .f32⟩
  | .hbm, ⟨36, _⟩ => ⟨S1, .f32⟩
  | .hbm, ⟨37, _⟩ => ⟨S4608x4096, .bf16⟩
  | .hbm, ⟨38, _⟩ => ⟨S_, .f32⟩
  | .hbm, ⟨39, _⟩ => ⟨S_, .f32⟩
  | .hbm, ⟨40, _⟩ => ⟨S1, .f32⟩
  | .hbm, ⟨41, _⟩ => ⟨S15, .f32⟩
  | .hbm, ⟨42, _⟩ => ⟨S16, .f32⟩
  | .hbm, ⟨43, _⟩ => ⟨S_, .f32⟩
  | .hbm, ⟨44, _⟩ => ⟨S_, .f32⟩
  | .hbm, ⟨45, _⟩ => ⟨S1, .f32⟩
  | .hbm, ⟨46, _⟩ => ⟨S15, .f32⟩
  | .hbm, ⟨47, _⟩ => ⟨S16, .f32⟩
  | .local _ .vmem, ⟨0, _⟩ => ⟨S256x4096, .bf16⟩
  | .local _ .vmem, ⟨1, _⟩ => ⟨S256x4096, .bf16⟩
  | .local _ .vmem, ⟨2, _⟩ => ⟨S256x4096, .fp8e5m2⟩
  | .local _ .vmem, ⟨3, _⟩ => ⟨S256x4096, .fp8e5m2⟩
  | .local _ .vmem, ⟨4, _⟩ => ⟨S8x4096, .f32⟩
  | .local _ .vmem, ⟨5, _⟩ => ⟨S768x4096, .fp8e5m2⟩
  | .local _ .vmem, ⟨6, _⟩ => ⟨S768x4096, .fp8e5m2⟩
  | .local _ .vmem, ⟨7, _⟩ => ⟨S1024x4096, .fp8e4m3⟩
  | .local _ .vmem, ⟨8, _⟩ => ⟨S1024x4096, .fp8e4m3⟩
  | .local _ .vmem, ⟨9, _⟩ => ⟨S768x1024, .bf16⟩
  | .local _ .vmem, ⟨10, _⟩ => ⟨S768x1024, .bf16⟩
  | .local _ .vmem, ⟨11, _⟩ => ⟨S768x1024, .bf16⟩
  | .local _ .vmem, ⟨12, _⟩ => ⟨S768x1024, .bf16⟩
  | .local _ .vmem, ⟨13, _⟩ => ⟨S8x1024, .f32⟩
  | .local _ .vmem, ⟨14, _⟩ => ⟨S2x2x768x1024, .fp8e5m2⟩
  | .local _ .vmem, ⟨15, _⟩ => ⟨S4608x1024, .fp8e4m3⟩
  | .local _ .vmem, ⟨16, _⟩ => ⟨S4608x1024, .fp8e4m3⟩
  | .local _ .vmem, ⟨17, _⟩ => ⟨S4608x1024, .fp8e5m2⟩
  | .local _ .vmem, ⟨18, _⟩ => ⟨S4608x1024, .fp8e5m2⟩
  | .local _ .vmem, ⟨19, _⟩ => ⟨S1024x1024, .bf16⟩
  | .local _ .vmem, ⟨20, _⟩ => ⟨S1024x1024, .bf16⟩
  | .local _ .vmem, ⟨21, _⟩ => ⟨S4608x1024, .fp8e4m3⟩
  | .local _ .vmem, ⟨22, _⟩ => ⟨S4608x1024, .fp8e4m3⟩
  | .local _ .vmem, ⟨23, _⟩ => ⟨S4608x1024, .fp8e5m2⟩
  | .local _ .vmem, ⟨24, _⟩ => ⟨S4608x1024, .fp8e5m2⟩
  | .local _ .vmem, ⟨25, _⟩ => ⟨S1024x1024, .bf16⟩
  | .local _ .vmem, ⟨26, _⟩ => ⟨S1024x1024, .bf16⟩
  | .local _ .vmem, ⟨27, _⟩ => ⟨S1536x2048, .fp8e5m2⟩
  | .local _ .vmem, ⟨28, _⟩ => ⟨S1536x2048, .fp8e5m2⟩
  | .local _ .vmem, ⟨29, _⟩ => ⟨S2048x2048, .fp8e4m3⟩
  | .local _ .vmem, ⟨30, _⟩ => ⟨S2048x2048, .fp8e4m3⟩
  | .local _ .vmem, ⟨31, _⟩ => ⟨S1536x2048, .bf16⟩
  | .local _ .vmem, ⟨32, _⟩ => ⟨S1536x2048, .bf16⟩
  | .local _ .vmem, ⟨33, _⟩ => ⟨S1536x2048, .f32⟩
  | .local _ .smem, ⟨0, _⟩ => ⟨S1, .f32⟩
  | .local _ .smem, ⟨1, _⟩ => ⟨S2, .f32⟩
  | .local _ .smem, ⟨2, _⟩ => ⟨S1, .f32⟩
  | .local _ .smem, ⟨3, _⟩ => ⟨S1, .f32⟩
  | .local _ .smem, ⟨4, _⟩ => ⟨S1, .f32⟩
  | _, _ => ⟨S1x4608x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5_0 : Ref sig .tc := ⟨.hbm, 21, rfl⟩
abbrev main_v5_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10_0 : Ref sig .tc := ⟨.hbm, 27, rfl⟩
abbrev main_v10_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_scratch0 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc4_stg3_0 : Ref sig .tc := ⟨.vmem, 31, rfl⟩
abbrev cc4_stg3_1 : Ref sig .tc := ⟨.vmem, 32, rfl⟩
abbrev cc4_scratch0 : Ref sig .tc := ⟨.vmem, 33, rfl⟩
abbrev cc0_stg0_0 : Ref sig .tc := ⟨.smem, 0, rfl⟩
abbrev cc1_stg0_0 : Ref sig .tc := ⟨.smem, 1, rfl⟩
abbrev cc2_stg0_0 : Ref sig .tc := ⟨.smem, 2, rfl⟩
abbrev cc3_stg0_0 : Ref sig .tc := ⟨.smem, 3, rfl⟩
abbrev cc4_stg0_0 : Ref sig .tc := ⟨.smem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc2_sem0_0 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc3_sem0_0 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem1_0 : DmaSem sig := 33
abbrev cc4_sem1_1 : DmaSem sig := 34
abbrev cc4_sem2_0 : DmaSem sig := 35
abbrev cc4_sem2_1 : DmaSem sig := 36
abbrev cc4_sem3_0 : DmaSem sig := 37
abbrev cc4_sem3_1 : DmaSem sig := 38

abbrev nD : Nat := 1
abbrev τ : Topo := Topo.v7x

variable {F : FTy → Type} [FloatOps F]

abbrev grid0 : Pipeline.Grid := ⟨1, ![18], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨2, ![14, 6], ![false, false]⟩

def k1_cond1 (i : grid1.Coords) : BitVec 1 :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c2_i32_0 : BitVec 32 := 2#32
  let v3 : BitVec 1 := Scalar.cmpi .sge v1 c2_i32_0
  let v4 : BitVec 32 := Scalar.extui v3
  let c0_i32 : BitVec 32 := 0#32
  let v5 : BitVec 1 := Scalar.cmpi .ne v4 c0_i32
  v5

def k1_off1 (i : grid1.Coords) : Fin 1 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k1_off2 (i : grid1.Coords) (c0_i32_56 : BitVec 32) : Fin 2 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c2_i32_45 : BitVec 32 := 2#32
  let v102 : BitVec 32 := Scalar.subi v1 c2_i32_45
  let c6_i32_53 : BitVec 32 := 6#32
  let v120 : BitVec 32 := Scalar.remsi v102 c6_i32_53
  let c768_i32_54 : BitVec 32 := 768#32
  let v121 : BitVec 32 := Scalar.muli v120 c768_i32_54
  let c0_i32_47 : BitVec 32 := 0#32
  let v104 : BitVec 1 := Scalar.cmpi .sgt v102 c0_i32_47
  let v105 : BitVec 32 := Scalar.extui v104
  let c0_i32_48 : BitVec 32 := 0#32
  let v106 : BitVec 1 := Scalar.cmpi .slt v102 c0_i32_48
  let v107 : BitVec 32 := Scalar.extui v106
  let v108 : BitVec 32 := Scalar.subi v105 v107
  let c6_i32_46 : BitVec 32 := 6#32
  let c0_i32_49 : BitVec 32 := 0#32
  let v109 : BitVec 1 := Scalar.cmpi .sgt c6_i32_46 c0_i32_49
  let v110 : BitVec 32 := Scalar.extui v109
  let c0_i32_50 : BitVec 32 := 0#32
  let v111 : BitVec 1 := Scalar.cmpi .slt c6_i32_46 c0_i32_50
  let v112 : BitVec 32 := Scalar.extui v111
  let v113 : BitVec 32 := Scalar.subi v110 v112
  let v114 : BitVec 1 := Scalar.cmpi .ne v108 v113
  let v115 : BitVec 32 := Scalar.remsi v102 c6_i32_46
  let c0_i32_51 : BitVec 32 := 0#32
  let v116 : BitVec 1 := Scalar.cmpi .ne v115 c0_i32_51
  let v117 : BitVec 1 := Scalar.andi v114 v116
  let v103 : BitVec 32 := Scalar.divsi v102 c6_i32_46
  let c1_i32_52 : BitVec 32 := 1#32
  let v118 : BitVec 32 := Scalar.subi v103 c1_i32_52
  let v119 : BitVec 32 := Scalar.select v117 v118 v103
  let c1024_i32_55 : BitVec 32 := 1024#32
  let v122 : BitVec 32 := Scalar.muli v119 c1024_i32_55
  let v123 : BitVec 32 := Scalar.addi c0_i32_56 v122
  ![v121.toNat, v123.toNat]
def k1_off3 (i : grid1.Coords) : Fin 4 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_60 : BitVec 32 := 0#32
  let c0_i32_61 : BitVec 32 := 0#32
  let c0_i32_62 : BitVec 32 := 0#32
  ![v2.toNat, 0, 0, 0]
def k1_off4 (i : grid1.Coords) : Fin 4 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c2_i32 : BitVec 32 := 2#32
  let v2 : BitVec 32 := Scalar.remsi v1 c2_i32
  let c1_i32_63 : BitVec 32 := 1#32
  let c0_i32_64 : BitVec 32 := 0#32
  let c0_i32_65 : BitVec 32 := 0#32
  ![v2.toNat, 1, 0, 0]
def k1_off5 (i : grid1.Coords) : Fin 4 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c2_i32 : BitVec 32 := 2#32
  let v2 : BitVec 32 := Scalar.remsi v1 c2_i32
  let v50 : Index := Scalar.indexCast v2
  let c0_20 : Index := 0#32
  let c0_21 : Index := 0#32
  let c0_22 : Index := 0#32
  ![v50.toNat, 0, 0, 0]
def k1_off6 (i : grid1.Coords) : Fin 4 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c2_i32 : BitVec 32 := 2#32
  let v2 : BitVec 32 := Scalar.remsi v1 c2_i32
  let v61 : Index := Scalar.indexCast v2
  let c1_25 : Index := 1#32
  let c0_26 : Index := 0#32
  let c0_27 : Index := 0#32
  ![v61.toNat, 1, 0, 0]
def k1_off7 (i : grid1.Coords) : Fin 1 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k1_off8 (i : grid1.Coords) (c0_i32_35 : BitVec 32) : Fin 2 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c6_i32_34 : BitVec 32 := 6#32
  let v82 : BitVec 32 := Scalar.remsi v1 c6_i32_34
  let c768_i32 : BitVec 32 := 768#32
  let v83 : BitVec 32 := Scalar.muli v82 c768_i32
  let c0_i32_29 : BitVec 32 := 0#32
  let v66 : BitVec 1 := Scalar.cmpi .sgt v1 c0_i32_29
  let v67 : BitVec 32 := Scalar.extui v66
  let c0_i32_30 : BitVec 32 := 0#32
  let v68 : BitVec 1 := Scalar.cmpi .slt v1 c0_i32_30
  let v69 : BitVec 32 := Scalar.extui v68
  let v70 : BitVec 32 := Scalar.subi v67 v69
  let c6_i32_28 : BitVec 32 := 6#32
  let c0_i32_31 : BitVec 32 := 0#32
  let v71 : BitVec 1 := Scalar.cmpi .sgt c6_i32_28 c0_i32_31
  let v72 : BitVec 32 := Scalar.extui v71
  let c0_i32_32 : BitVec 32 := 0#32
  let v73 : BitVec 1 := Scalar.cmpi .slt c6_i32_28 c0_i32_32
  let v74 : BitVec 32 := Scalar.extui v73
  let v75 : BitVec 32 := Scalar.subi v72 v74
  let v76 : BitVec 1 := Scalar.cmpi .ne v70 v75
  let v77 : BitVec 32 := Scalar.remsi v1 c6_i32_28
  let c0_i32_33 : BitVec 32 := 0#32
  let v78 : BitVec 1 := Scalar.cmpi .ne v77 c0_i32_33
  let v79 : BitVec 1 := Scalar.andi v76 v78
  let v65 : BitVec 32 := Scalar.divsi v1 c6_i32_28
  let c1_i32 : BitVec 32 := 1#32
  let v80 : BitVec 32 := Scalar.subi v65 c1_i32
  let v81 : BitVec 32 := Scalar.select v79 v80 v65
  let c1024_i32 : BitVec 32 := 1024#32
  let v84 : BitVec 32 := Scalar.muli v81 c1024_i32
  let v85 : BitVec 32 := Scalar.addi c0_i32_35 v84
  ![v83.toNat, v85.toNat]
def k1_off9 (i : grid1.Coords) : Fin 4 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_38 : BitVec 32 := 0#32
  let c0_i32_39 : BitVec 32 := 0#32
  let c0_i32_40 : BitVec 32 := 0#32
  ![v2.toNat, 0, 0, 0]
def k1_off10 (i : grid1.Coords) : Fin 4 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c2_i32 : BitVec 32 := 2#32
  let v2 : BitVec 32 := Scalar.remsi v1 c2_i32
  let c1_i32_41 : BitVec 32 := 1#32
  let c0_i32_42 : BitVec 32 := 0#32
  let c0_i32_43 : BitVec 32 := 0#32
  ![v2.toNat, 1, 0, 0]
def k1_cond3 (i : grid1.Coords) : BitVec 1 :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c83_i32 : BitVec 32 := 83#32
  let v99 : BitVec 1 := Scalar.cmpi .eq v1 c83_i32
  let v100 : BitVec 32 := Scalar.extui v99
  let c0_i32_44 : BitVec 32 := 0#32
  let v101 : BitVec 1 := Scalar.cmpi .ne v100 c0_i32_44
  v101

def k1_off11 (i : grid1.Coords) : Fin 1 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c1_i32_45 : BitVec 32 := 1#32
  let v102 : BitVec 32 := Scalar.subi v1 c1_i32_45
  let c2_i32_46 : BitVec 32 := 2#32
  let v103 : BitVec 32 := Scalar.remsi v102 c2_i32_46
  ![v103.toNat]
def k1_off12 (i : grid1.Coords) (c0_i32_57 : BitVec 32) : Fin 2 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c1_i32_45 : BitVec 32 := 1#32
  let v102 : BitVec 32 := Scalar.subi v1 c1_i32_45
  let c6_i32_54 : BitVec 32 := 6#32
  let v121 : BitVec 32 := Scalar.remsi v102 c6_i32_54
  let c768_i32_55 : BitVec 32 := 768#32
  let v122 : BitVec 32 := Scalar.muli v121 c768_i32_55
  let c0_i32_48 : BitVec 32 := 0#32
  let v105 : BitVec 1 := Scalar.cmpi .sgt v102 c0_i32_48
  let v106 : BitVec 32 := Scalar.extui v105
  let c0_i32_49 : BitVec 32 := 0#32
  let v107 : BitVec 1 := Scalar.cmpi .slt v102 c0_i32_49
  let v108 : BitVec 32 := Scalar.extui v107
  let v109 : BitVec 32 := Scalar.subi v106 v108
  let c6_i32_47 : BitVec 32 := 6#32
  let c0_i32_50 : BitVec 32 := 0#32
  let v110 : BitVec 1 := Scalar.cmpi .sgt c6_i32_47 c0_i32_50
  let v111 : BitVec 32 := Scalar.extui v110
  let c0_i32_51 : BitVec 32 := 0#32
  let v112 : BitVec 1 := Scalar.cmpi .slt c6_i32_47 c0_i32_51
  let v113 : BitVec 32 := Scalar.extui v112
  let v114 : BitVec 32 := Scalar.subi v111 v113
  let v115 : BitVec 1 := Scalar.cmpi .ne v109 v114
  let v116 : BitVec 32 := Scalar.remsi v102 c6_i32_47
  let c0_i32_52 : BitVec 32 := 0#32
  let v117 : BitVec 1 := Scalar.cmpi .ne v116 c0_i32_52
  let v118 : BitVec 1 := Scalar.andi v115 v117
  let v104 : BitVec 32 := Scalar.divsi v102 c6_i32_47
  let c1_i32_53 : BitVec 32 := 1#32
  let v119 : BitVec 32 := Scalar.subi v104 c1_i32_53
  let v120 : BitVec 32 := Scalar.select v118 v119 v104
  let c1024_i32_56 : BitVec 32 := 1024#32
  let v123 : BitVec 32 := Scalar.muli v120 c1024_i32_56
  let v124 : BitVec 32 := Scalar.addi c0_i32_57 v123
  ![v122.toNat, v124.toNat]
def k1_off13 (i : grid1.Coords) : Fin 4 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c1_i32_45 : BitVec 32 := 1#32
  let v102 : BitVec 32 := Scalar.subi v1 c1_i32_45
  let c2_i32_46 : BitVec 32 := 2#32
  let v103 : BitVec 32 := Scalar.remsi v102 c2_i32_46
  let c0_i32_61 : BitVec 32 := 0#32
  let c0_i32_62 : BitVec 32 := 0#32
  let c0_i32_63 : BitVec 32 := 0#32
  ![v103.toNat, 0, 0, 0]
def k1_off14 (i : grid1.Coords) : Fin 4 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c1_i32_45 : BitVec 32 := 1#32
  let v102 : BitVec 32 := Scalar.subi v1 c1_i32_45
  let c2_i32_46 : BitVec 32 := 2#32
  let v103 : BitVec 32 := Scalar.remsi v102 c2_i32_46
  let c1_i32_64 : BitVec 32 := 1#32
  let c0_i32_65 : BitVec 32 := 0#32
  let c0_i32_66 : BitVec 32 := 0#32
  ![v103.toNat, 1, 0, 0]
def k1_off15 (i : grid1.Coords) : Fin 1 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c2_i32_67 : BitVec 32 := 2#32
  let v138 : BitVec 32 := Scalar.remsi v1 c2_i32_67
  ![v138.toNat]
def k1_off16 (i : grid1.Coords) (c0_i32_78 : BitVec 32) : Fin 2 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c6_i32_75 : BitVec 32 := 6#32
  let v156 : BitVec 32 := Scalar.remsi v1 c6_i32_75
  let c768_i32_76 : BitVec 32 := 768#32
  let v157 : BitVec 32 := Scalar.muli v156 c768_i32_76
  let c0_i32_69 : BitVec 32 := 0#32
  let v140 : BitVec 1 := Scalar.cmpi .sgt v1 c0_i32_69
  let v141 : BitVec 32 := Scalar.extui v140
  let c0_i32_70 : BitVec 32 := 0#32
  let v142 : BitVec 1 := Scalar.cmpi .slt v1 c0_i32_70
  let v143 : BitVec 32 := Scalar.extui v142
  let v144 : BitVec 32 := Scalar.subi v141 v143
  let c6_i32_68 : BitVec 32 := 6#32
  let c0_i32_71 : BitVec 32 := 0#32
  let v145 : BitVec 1 := Scalar.cmpi .sgt c6_i32_68 c0_i32_71
  let v146 : BitVec 32 := Scalar.extui v145
  let c0_i32_72 : BitVec 32 := 0#32
  let v147 : BitVec 1 := Scalar.cmpi .slt c6_i32_68 c0_i32_72
  let v148 : BitVec 32 := Scalar.extui v147
  let v149 : BitVec 32 := Scalar.subi v146 v148
  let v150 : BitVec 1 := Scalar.cmpi .ne v144 v149
  let v151 : BitVec 32 := Scalar.remsi v1 c6_i32_68
  let c0_i32_73 : BitVec 32 := 0#32
  let v152 : BitVec 1 := Scalar.cmpi .ne v151 c0_i32_73
  let v153 : BitVec 1 := Scalar.andi v150 v152
  let v139 : BitVec 32 := Scalar.divsi v1 c6_i32_68
  let c1_i32_74 : BitVec 32 := 1#32
  let v154 : BitVec 32 := Scalar.subi v139 c1_i32_74
  let v155 : BitVec 32 := Scalar.select v153 v154 v139
  let c1024_i32_77 : BitVec 32 := 1024#32
  let v158 : BitVec 32 := Scalar.muli v155 c1024_i32_77
  let v159 : BitVec 32 := Scalar.addi c0_i32_78 v158
  ![v157.toNat, v159.toNat]
def k1_off17 (i : grid1.Coords) : Fin 4 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c2_i32_67 : BitVec 32 := 2#32
  let v138 : BitVec 32 := Scalar.remsi v1 c2_i32_67
  let c0_i32_82 : BitVec 32 := 0#32
  let c0_i32_83 : BitVec 32 := 0#32
  let c0_i32_84 : BitVec 32 := 0#32
  ![v138.toNat, 0, 0, 0]
def k1_off18 (i : grid1.Coords) : Fin 4 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c2_i32_67 : BitVec 32 := 2#32
  let v138 : BitVec 32 := Scalar.remsi v1 c2_i32_67
  let c1_i32_85 : BitVec 32 := 1#32
  let c0_i32_86 : BitVec 32 := 0#32
  let c0_i32_87 : BitVec 32 := 0#32
  ![v138.toNat, 1, 0, 0]
def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi arg0 c14_i32
  let c0_i32 : BitVec 32 := 0#32
  ![arg1.toNat, v0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .smem S2 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S768x4096 .fp8e5m2 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x4096 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S768x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S768x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S8x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev grid2 : Pipeline.Grid := ⟨2, ![4, 14], ![false, false]⟩

def cc2_transform_0 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 1 → Memref sig .tc .smem S1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S4608x1024 .fp8e4m3 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S4608x1024 .fp8e5m2 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![28, 4], ![false, false]⟩

def cc3_transform_0 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 1 → Memref sig .tc .smem S1 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false]

abbrev stage3_1 : Fin 2 → Memref sig .tc .vmem S4608x1024 .fp8e4m3 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S4608x1024 .fp8e5m2 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1024x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨3, ![3, 2, 14], ![false, false, false]⟩

def k4_cond2 (i : grid4.Coords) : BitVec 1 :=
  let arg2 : BitVec 32 := BitVec.ofNat 32 (i 2).val
  let c13_i32 : BitVec 32 := 13#32
  let v12 : BitVec 1 := Scalar.cmpi .eq arg2 c13_i32
  let v13 : BitVec 32 := Scalar.extui v12
  let c0_i32_8 : BitVec 32 := 0#32
  let v14 : BitVec 1 := Scalar.cmpi .ne v13 c0_i32_8
  v14

def cc4_transform_0 (i : grid4.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .smem S1 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, false, false]

abbrev stage4_1 : Fin 2 → Memref sig .tc .vmem S1536x2048 .fp8e5m2 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, true]

abbrev stage4_2 : Fin 2 → Memref sig .tc .vmem S2048x2048 .fp8e4m3 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true, true]

abbrev stage4_3 : Fin 2 → Memref sig .tc .vmem S1536x2048 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]
-- ==== RefIdeal.lean ====
abbrev S1x4608x4096 : Shape := ⟨3, ![1, 4608, 4096]⟩
abbrev S1x4608x28672 : Shape := ⟨3, ![1, 4608, 28672]⟩
abbrev S_ : Shape := ⟨0, ![]⟩
abbrev S1x4608x14336 : Shape := ⟨3, ![1, 4608, 14336]⟩
abbrev S4096x28672 : Shape := ⟨2, ![4096, 28672]⟩
abbrev S14336x4096 : Shape := ⟨2, ![14336, 4096]⟩
abbrev S16 : Shape := ⟨1, ![16]⟩
abbrev S1 : Shape := ⟨1, ![1]⟩
abbrev S8 : Shape := ⟨1, ![8]⟩
abbrev S4608x4096 : Shape := ⟨2, ![4608, 4096]⟩
abbrev S4608x28672 : Shape := ⟨2, ![4608, 28672]⟩
abbrev S4608x14336 : Shape := ⟨2, ![4608, 14336]⟩
abbrev S1x1 : Shape := ⟨2, ![1, 1]⟩
abbrev S1x1x1 : Shape := ⟨3, ![1, 1, 1]⟩
abbrev S15 : Shape := ⟨1, ![15]⟩

abbrev nBuf : Space → Nat
  | .hbm => 42
  | .vmem => 13
  | .smem => 1
  | _ => 0

abbrev bufTy : (tb : Table) → Fin (tcTables nBuf tb) → BufTy
  | .hbm, ⟨0, _⟩ => ⟨S1x4608x4096, .bf16⟩
  | .hbm, ⟨1, _⟩ => ⟨S1x4608x28672, .bf16⟩
  | .hbm, ⟨2, _⟩ => ⟨S1x4608x4096, .fp8e4m3⟩
  | .hbm, ⟨3, _⟩ => ⟨S_, .f32⟩
  | .hbm, ⟨4, _⟩ => ⟨S1x4608x14336, .fp8e4m3⟩
  | .hbm, ⟨5, _⟩ => ⟨S_, .f32⟩
  | .hbm, ⟨6, _⟩ => ⟨S4096x28672, .fp8e4m3⟩
  | .hbm, ⟨7, _⟩ => ⟨S_, .f32⟩
  | .hbm, ⟨8, _⟩ => ⟨S14336x4096, .fp8e4m3⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1, .f32⟩
  | .hbm, ⟨17, _⟩ => ⟨S1, .f32⟩
  | .hbm, ⟨18, _⟩ => ⟨S1, .f32⟩
  | .hbm, ⟨19, _⟩ => ⟨S1, .f32⟩
  | .hbm, ⟨20, _⟩ => ⟨S1, .f32⟩
  | .hbm, ⟨21, _⟩ => ⟨S1, .f32⟩
  | .hbm, ⟨22, _⟩ => ⟨S1, .f32⟩
  | .hbm, ⟨23, _⟩ => ⟨S1, .f32⟩
  | .hbm, ⟨24, _⟩ => ⟨S8, .f32⟩
  | .hbm, ⟨25, _⟩ => ⟨S4608x4096, .bf16⟩
  | .hbm, ⟨26, _⟩ => ⟨S4608x28672, .bf16⟩
  | .hbm, ⟨27, _⟩ => ⟨S4608x4096, .fp8e4m3⟩
  | .hbm, ⟨28, _⟩ => ⟨S4608x14336, .fp8e4m3⟩
  | .hbm, ⟨29, _⟩ => ⟨S4608x4096, .bf16⟩
  | .hbm, ⟨30, _⟩ => ⟨S4096x28672, .bf16⟩
  | .hbm, ⟨31, _⟩ => ⟨S14336x4096, .bf16⟩
  | .hbm, ⟨32, _⟩ => ⟨S4608x4096, .fp8e5m2⟩
  | .hbm, ⟨33, _⟩ => ⟨S4608x28672, .fp8e5m2⟩
  | .hbm, ⟨34, _⟩ => ⟨S1x1, .f32⟩
  | .hbm, ⟨35, _⟩ => ⟨S1x1, .f32⟩
  | .hbm, ⟨36, _⟩ => ⟨S1, .f32⟩
  | .hbm, ⟨37, _⟩ => ⟨S15, .f32⟩
  | .hbm, ⟨38, _⟩ => ⟨S16, .f32⟩
  | .hbm, ⟨39, _⟩ => ⟨S1, .f32⟩
  | .hbm, ⟨40, _⟩ => ⟨S15, .f32⟩
  | .hbm, ⟨41, _⟩ => ⟨S16, .f32⟩
  | .local _ .vmem, ⟨0, _⟩ => ⟨S4608x4096, .bf16⟩
  | .local _ .vmem, ⟨1, _⟩ => ⟨S4608x28672, .bf16⟩
  | .local _ .vmem, ⟨2, _⟩ => ⟨S4608x4096, .fp8e4m3⟩
  | .local _ .vmem, ⟨3, _⟩ => ⟨S4608x14336, .fp8e4m3⟩
  | .local _ .vmem, ⟨4, _⟩ => ⟨S4096x28672, .fp8e4m3⟩
  | .local _ .vmem, ⟨5, _⟩ => ⟨S14336x4096, .fp8e4m3⟩
  | .local _ .vmem, ⟨6, _⟩ => ⟨S4608x4096, .bf16⟩
  | .local _ .vmem, ⟨7, _⟩ => ⟨S4096x28672, .bf16⟩
  | .local _ .vmem, ⟨8, _⟩ => ⟨S14336x4096, .bf16⟩
  | .local _ .vmem, ⟨9, _⟩ => ⟨S4608x4096, .fp8e5m2⟩
  | .local _ .vmem, ⟨10, _⟩ => ⟨S4608x28672, .fp8e5m2⟩
  | .local _ .vmem, ⟨11, _⟩ => ⟨S1x1, .f32⟩
  | .local _ .vmem, ⟨12, _⟩ => ⟨S1x1, .f32⟩
  | .local _ .smem, ⟨0, _⟩ => ⟨S8, .f32⟩
  | _, _ => ⟨S1x4608x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13_0 : Ref sig .tc := ⟨.hbm, 29, rfl⟩
abbrev main_v13_1 : Ref sig .tc := ⟨.hbm, 30, rfl⟩
abbrev main_v13_2 : Ref sig .tc := ⟨.hbm, 31, rfl⟩
abbrev main_v13_3 : Ref sig .tc := ⟨.hbm, 32, rfl⟩
abbrev main_v13_4 : Ref sig .tc := ⟨.hbm, 33, rfl⟩
abbrev main_v13_5 : Ref sig .tc := ⟨.hbm, 34, rfl⟩
abbrev main_v13_6 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4608x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4608x28672 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4608x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4608x14336 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x28672 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S14336x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4608x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x28672 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S14336x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4608x4096 .fp8e5m2 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4608x28672 .fp8e5m2 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Quantdy.lean ====
abbrev S1x4608x4096 : Shape := ⟨3, ![1, 4608, 4096]⟩
abbrev S16 : Shape := ⟨1, ![16]⟩
abbrev S4608x4096 : Shape := ⟨2, ![4608, 4096]⟩
abbrev S_ : Shape := ⟨0, ![]⟩
abbrev S1 : Shape := ⟨1, ![1]⟩
abbrev S8x4096 : Shape := ⟨2, ![8, 4096]⟩
abbrev S256x4096 : Shape := ⟨2, ![256, 4096]⟩
abbrev S32x8x4096 : Shape := ⟨3, ![32, 8, 4096]⟩

abbrev nBuf : Space → Nat
  | .hbm => 271
  | .vmem => 5
  | .smem => 1
  | _ => 0

abbrev hbmTy0_0 (i : Nat) : BufTy := match i % 128 with
  | 0 => ⟨S1x4608x4096, .bf16⟩
  | 1 => ⟨S16, .f32⟩
  | 2 => ⟨S16, .f32⟩
  | 3 => ⟨S4608x4096, .bf16⟩
  | 4 => ⟨S_, .f32⟩
  | 5 => ⟨S_, .f32⟩
  | 6 => ⟨S_, .f32⟩
  | 7 => ⟨S_, .f32⟩
  | 8 => ⟨S_, .i32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S_, .i32⟩
  | 16 => ⟨S_, .f32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i1⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S_, .i32⟩
  | 39 => ⟨S_, .i32⟩
  | 40 => ⟨S_, .i32⟩
  | 41 => ⟨S_, .f32⟩
  | 42 => ⟨S_, .f32⟩
  | 43 => ⟨S_, .i1⟩
  | 44 => ⟨S_, .i32⟩
  | 45 => ⟨S_, .i32⟩
  | 46 => ⟨S_, .i32⟩
  | 47 => ⟨S_, .f32⟩
  | 48 => ⟨S_, .f32⟩
  | 49 => ⟨S_, .f32⟩
  | 50 => ⟨S_, .f32⟩
  | 51 => ⟨S_, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S_, .i32⟩
  | 59 => ⟨S_, .f32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .i1⟩
  | 71 => ⟨S_, .i32⟩
  | 72 => ⟨S_, .i1⟩
  | 73 => ⟨S_, .i32⟩
  | 74 => ⟨S_, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S_, .i32⟩
  | 82 => ⟨S_, .i32⟩
  | 83 => ⟨S_, .i32⟩
  | 84 => ⟨S_, .f32⟩
  | 85 => ⟨S_, .f32⟩
  | 86 => ⟨S_, .i1⟩
  | 87 => ⟨S_, .i32⟩
  | 88 => ⟨S_, .i32⟩
  | 89 => ⟨S_, .i32⟩
  | 90 => ⟨S_, .f32⟩
  | 91 => ⟨S_, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S_, .i32⟩
  | 99 => ⟨S_, .f32⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S_, .i32⟩
  | 108 => ⟨S_, .i32⟩
  | 109 => ⟨S_, .i32⟩
  | 110 => ⟨S_, .i1⟩
  | 111 => ⟨S_, .i32⟩
  | 112 => ⟨S_, .i1⟩
  | 113 => ⟨S_, .i32⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S_, .i1⟩
  | 127 => ⟨S_, .i32⟩
  | _ => ⟨S1x4608x4096, .bf16⟩

abbrev hbmTy0_1 (i : Nat) : BufTy := match i % 128 with
  | 0 => ⟨S_, .i1⟩
  | 1 => ⟨S_, .i32⟩
  | 2 => ⟨S_, .i32⟩
  | 3 => ⟨S_, .i32⟩
  | 4 => ⟨S_, .i32⟩
  | 5 => ⟨S_, .f32⟩
  | 6 => ⟨S_, .i32⟩
  | 7 => ⟨S_, .f32⟩
  | 8 => ⟨S_, .i32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S_, .i32⟩
  | 16 => ⟨S_, .f32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i1⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i1⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S_, .f32⟩
  | 51 => ⟨S_, .f32⟩
  | 52 => ⟨S_, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S_, .i32⟩
  | 60 => ⟨S_, .f32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i1⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S_, .i32⟩
  | 87 => ⟨S_, .i1⟩
  | 88 => ⟨S_, .i32⟩
  | 89 => ⟨S_, .i1⟩
  | 90 => ⟨S_, .i32⟩
  | 91 => ⟨S_, .i32⟩
  | 92 => ⟨S_, .i32⟩
  | 93 => ⟨S_, .i32⟩
  | 94 => ⟨S_, .f32⟩
  | 95 => ⟨S_, .i32⟩
  | 96 => ⟨S_, .f32⟩
  | 97 => ⟨S_, .i32⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S_, .i32⟩
  | 105 => ⟨S_, .f32⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i1⟩
  | 117 => ⟨S_, .i32⟩
  | 118 => ⟨S_, .i1⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i32⟩
  | _ => ⟨S1x4608x4096, .bf16⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S_, .i1⟩
  | 5 => ⟨S_, .i32⟩
  | 6 => ⟨S_, .i1⟩
  | 7 => ⟨S_, .i32⟩
  | 8 => ⟨S_, .i32⟩
  | 9 => ⟨S_, .i32⟩
  | 10 => ⟨S_, .i32⟩
  | 11 => ⟨S_, .f32⟩
  | 12 => ⟨S1, .f32⟩
  | 13 => ⟨S4608x4096, .fp8e5m2⟩
  | 14 => ⟨S8x4096, .f32⟩
  | _ => ⟨S1x4608x4096, .bf16⟩

abbrev hbmTy (i : Nat) : BufTy := match i / 128 with
  | 0 => hbmTy0_0 i
  | 1 => hbmTy0_1 i
  | 2 => hbmTy0_2 i
  | _ => ⟨S1x4608x4096, .bf16⟩

abbrev bufTy : (tb : Table) → Fin (tcTables nBuf tb) → BufTy
  | .hbm, ⟨i, _⟩ => hbmTy i
  | .local _ .vmem, ⟨0, _⟩ => ⟨S256x4096, .bf16⟩
  | .local _ .vmem, ⟨1, _⟩ => ⟨S256x4096, .bf16⟩
  | .local _ .vmem, ⟨2, _⟩ => ⟨S256x4096, .fp8e5m2⟩
  | .local _ .vmem, ⟨3, _⟩ => ⟨S256x4096, .fp8e5m2⟩
  | .local _ .vmem, ⟨4, _⟩ => ⟨S8x4096, .f32⟩
  | .local _ .smem, ⟨0, _⟩ => ⟨S1, .f32⟩
  | _, _ => ⟨S1x4608x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_c_1 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_c_3 : Ref sig .tc := ⟨.hbm, 20, rfl⟩
abbrev main_call0_v8 : Ref sig .tc := ⟨.hbm, 21, rfl⟩
abbrev main_call0_c_4 : Ref sig .tc := ⟨.hbm, 22, rfl⟩
abbrev main_call0_v9 : Ref sig .tc := ⟨.hbm, 23, rfl⟩
abbrev main_call0_c_5 : Ref sig .tc := ⟨.hbm, 24, rfl⟩
abbrev main_call0_v10 : Ref sig .tc := ⟨.hbm, 25, rfl⟩
abbrev main_call0_c_6 : Ref sig .tc := ⟨.hbm, 26, rfl⟩
abbrev main_call0_v11 : Ref sig .tc := ⟨.hbm, 27, rfl⟩
abbrev main_call0_c_7 : Ref sig .tc := ⟨.hbm, 28, rfl⟩
abbrev main_call0_v12 : Ref sig .tc := ⟨.hbm, 29, rfl⟩
abbrev main_call0_c_8 : Ref sig .tc := ⟨.hbm, 30, rfl⟩
abbrev main_call0_v13 : Ref sig .tc := ⟨.hbm, 31, rfl⟩
abbrev main_call0_v14 : Ref sig .tc := ⟨.hbm, 32, rfl⟩
abbrev main_call0_v15 : Ref sig .tc := ⟨.hbm, 33, rfl⟩
abbrev main_call0_v16 : Ref sig .tc := ⟨.hbm, 34, rfl⟩
abbrev main_call0_v17 : Ref sig .tc := ⟨.hbm, 35, rfl⟩
abbrev main_call0_v18 : Ref sig .tc := ⟨.hbm, 36, rfl⟩
abbrev main_call0_c_9 : Ref sig .tc := ⟨.hbm, 37, rfl⟩
abbrev main_call0_v19 : Ref sig .tc := ⟨.hbm, 38, rfl⟩
abbrev main_call0_c_10 : Ref sig .tc := ⟨.hbm, 39, rfl⟩
abbrev main_v3_1 : Ref sig .tc := ⟨.hbm, 40, rfl⟩
abbrev main_v3_0 : Ref sig .tc := ⟨.hbm, 41, rfl⟩
abbrev main_cst_1 : Ref sig .tc := ⟨.hbm, 42, rfl⟩
abbrev main_v4 : Ref sig .tc := ⟨.hbm, 43, rfl⟩
abbrev main_c : Ref sig .tc := ⟨.hbm, 44, rfl⟩
abbrev main_call1_v0 : Ref sig .tc := ⟨.hbm, 45, rfl⟩
abbrev main_v5 : Ref sig .tc := ⟨.hbm, 46, rfl⟩
abbrev main_cst_2 : Ref sig .tc := ⟨.hbm, 47, rfl⟩
abbrev main_v6 : Ref sig .tc := ⟨.hbm, 48, rfl⟩
abbrev main_cst_3 : Ref sig .tc := ⟨.hbm, 49, rfl⟩
abbrev main_v7 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_c_1 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_c_3 : Ref sig .tc := ⟨.hbm, 63, rfl⟩
abbrev main_call2_v8 : Ref sig .tc := ⟨.hbm, 64, rfl⟩
abbrev main_call2_c_4 : Ref sig .tc := ⟨.hbm, 65, rfl⟩
abbrev main_call2_v9 : Ref sig .tc := ⟨.hbm, 66, rfl⟩
abbrev main_call2_c_5 : Ref sig .tc := ⟨.hbm, 67, rfl⟩
abbrev main_call2_v10 : Ref sig .tc := ⟨.hbm, 68, rfl⟩
abbrev main_call2_c_6 : Ref sig .tc := ⟨.hbm, 69, rfl⟩
abbrev main_call2_v11 : Ref sig .tc := ⟨.hbm, 70, rfl⟩
abbrev main_call2_c_7 : Ref sig .tc := ⟨.hbm, 71, rfl⟩
abbrev main_call2_v12 : Ref sig .tc := ⟨.hbm, 72, rfl⟩
abbrev main_call2_c_8 : Ref sig .tc := ⟨.hbm, 73, rfl⟩
abbrev main_call2_v13 : Ref sig .tc := ⟨.hbm, 74, rfl⟩
abbrev main_call2_v14 : Ref sig .tc := ⟨.hbm, 75, rfl⟩
abbrev main_call2_v15 : Ref sig .tc := ⟨.hbm, 76, rfl⟩
abbrev main_call2_v16 : Ref sig .tc := ⟨.hbm, 77, rfl⟩
abbrev main_call2_v17 : Ref sig .tc := ⟨.hbm, 78, rfl⟩
abbrev main_call2_v18 : Ref sig .tc := ⟨.hbm, 79, rfl⟩
abbrev main_call2_c_9 : Ref sig .tc := ⟨.hbm, 80, rfl⟩
abbrev main_call2_v19 : Ref sig .tc := ⟨.hbm, 81, rfl⟩
abbrev main_call2_c_10 : Ref sig .tc := ⟨.hbm, 82, rfl⟩
abbrev main_v8_1 : Ref sig .tc := ⟨.hbm, 83, rfl⟩
abbrev main_v8_0 : Ref sig .tc := ⟨.hbm, 84, rfl⟩
abbrev main_cst_4 : Ref sig .tc := ⟨.hbm, 85, rfl⟩
abbrev main_v9 : Ref sig .tc := ⟨.hbm, 86, rfl⟩
abbrev main_c_5 : Ref sig .tc := ⟨.hbm, 87, rfl⟩
abbrev main_call3_v0 : Ref sig .tc := ⟨.hbm, 88, rfl⟩
abbrev main_v10 : Ref sig .tc := ⟨.hbm, 89, rfl⟩
abbrev main_cst_6 : Ref sig .tc := ⟨.hbm, 90, rfl⟩
abbrev main_call4_v0 : Ref sig .tc := ⟨.hbm, 91, rfl⟩
abbrev main_call4_c : Ref sig .tc := ⟨.hbm, 92, rfl⟩
abbrev main_call4_v1 : Ref sig .tc := ⟨.hbm, 93, rfl⟩
abbrev main_call4_c_0 : Ref sig .tc := ⟨.hbm, 94, rfl⟩
abbrev main_call4_v2 : Ref sig .tc := ⟨.hbm, 95, rfl⟩
abbrev main_call4_c_1 : Ref sig .tc := ⟨.hbm, 96, rfl⟩
abbrev main_call4_v3 : Ref sig .tc := ⟨.hbm, 97, rfl⟩
abbrev main_call4_v4 : Ref sig .tc := ⟨.hbm, 98, rfl⟩
abbrev main_call4_v5 : Ref sig .tc := ⟨.hbm, 99, rfl⟩
abbrev main_call4_v6 : Ref sig .tc := ⟨.hbm, 100, rfl⟩
abbrev main_call4_c_2 : Ref sig .tc := ⟨.hbm, 101, rfl⟩
abbrev main_call4_v7 : Ref sig .tc := ⟨.hbm, 102, rfl⟩
abbrev main_call4_c_3 : Ref sig .tc := ⟨.hbm, 103, rfl⟩
abbrev main_call4_v8 : Ref sig .tc := ⟨.hbm, 104, rfl⟩
abbrev main_call4_c_4 : Ref sig .tc := ⟨.hbm, 105, rfl⟩
abbrev main_call4_v9 : Ref sig .tc := ⟨.hbm, 106, rfl⟩
abbrev main_call4_c_5 : Ref sig .tc := ⟨.hbm, 107, rfl⟩
abbrev main_call4_v10 : Ref sig .tc := ⟨.hbm, 108, rfl⟩
abbrev main_call4_c_6 : Ref sig .tc := ⟨.hbm, 109, rfl⟩
abbrev main_call4_v11 : Ref sig .tc := ⟨.hbm, 110, rfl⟩
abbrev main_call4_c_7 : Ref sig .tc := ⟨.hbm, 111, rfl⟩
abbrev main_call4_v12 : Ref sig .tc := ⟨.hbm, 112, rfl⟩
abbrev main_call4_c_8 : Ref sig .tc := ⟨.hbm, 113, rfl⟩
abbrev main_call4_c_9 : Ref sig .tc := ⟨.hbm, 114, rfl⟩
abbrev main_call4_v13 : Ref sig .tc := ⟨.hbm, 115, rfl⟩
abbrev main_call4_v14 : Ref sig .tc := ⟨.hbm, 116, rfl⟩
abbrev main_call4_v15 : Ref sig .tc := ⟨.hbm, 117, rfl⟩
abbrev main_call4_c_10 : Ref sig .tc := ⟨.hbm, 118, rfl⟩
abbrev main_call4_v16 : Ref sig .tc := ⟨.hbm, 119, rfl⟩
abbrev main_call4_v17 : Ref sig .tc := ⟨.hbm, 120, rfl⟩
abbrev main_call4_c_11 : Ref sig .tc := ⟨.hbm, 121, rfl⟩
abbrev main_call4_v18 : Ref sig .tc := ⟨.hbm, 122, rfl⟩
abbrev main_call4_v19 : Ref sig .tc := ⟨.hbm, 123, rfl⟩
abbrev main_call4_v20 : Ref sig .tc := ⟨.hbm, 124, rfl⟩
abbrev main_call4_c_12 : Ref sig .tc := ⟨.hbm, 125, rfl⟩
abbrev main_call4_v21 : Ref sig .tc := ⟨.hbm, 126, rfl⟩
abbrev main_call4_c_13 : Ref sig .tc := ⟨.hbm, 127, rfl⟩
abbrev main_call4_v22 : Ref sig .tc := ⟨.hbm, 128, rfl⟩
abbrev main_call4_v23 : Ref sig .tc := ⟨.hbm, 129, rfl⟩
abbrev main_call4_v24 : Ref sig .tc := ⟨.hbm, 130, rfl⟩
abbrev main_call4_v25 : Ref sig .tc := ⟨.hbm, 131, rfl⟩
abbrev main_call4_v26 : Ref sig .tc := ⟨.hbm, 132, rfl⟩
abbrev main_v11 : Ref sig .tc := ⟨.hbm, 133, rfl⟩
abbrev main_v12 : Ref sig .tc := ⟨.hbm, 134, rfl⟩
abbrev main_cst_7 : Ref sig .tc := ⟨.hbm, 135, rfl⟩
abbrev main_call5_v0 : Ref sig .tc := ⟨.hbm, 136, rfl⟩
abbrev main_call5_c : Ref sig .tc := ⟨.hbm, 137, rfl⟩
abbrev main_call5_v1 : Ref sig .tc := ⟨.hbm, 138, rfl⟩
abbrev main_call5_c_0 : Ref sig .tc := ⟨.hbm, 139, rfl⟩
abbrev main_call5_v2 : Ref sig .tc := ⟨.hbm, 140, rfl⟩
abbrev main_call5_c_1 : Ref sig .tc := ⟨.hbm, 141, rfl⟩
abbrev main_call5_v3 : Ref sig .tc := ⟨.hbm, 142, rfl⟩
abbrev main_call5_v4 : Ref sig .tc := ⟨.hbm, 143, rfl⟩
abbrev main_call5_v5 : Ref sig .tc := ⟨.hbm, 144, rfl⟩
abbrev main_call5_v6 : Ref sig .tc := ⟨.hbm, 145, rfl⟩
abbrev main_call5_c_2 : Ref sig .tc := ⟨.hbm, 146, rfl⟩
abbrev main_call5_v7 : Ref sig .tc := ⟨.hbm, 147, rfl⟩
abbrev main_call5_c_3 : Ref sig .tc := ⟨.hbm, 148, rfl⟩
abbrev main_call5_v8 : Ref sig .tc := ⟨.hbm, 149, rfl⟩
abbrev main_call5_c_4 : Ref sig .tc := ⟨.hbm, 150, rfl⟩
abbrev main_call5_v9 : Ref sig .tc := ⟨.hbm, 151, rfl⟩
abbrev main_call5_c_5 : Ref sig .tc := ⟨.hbm, 152, rfl⟩
abbrev main_call5_v10 : Ref sig .tc := ⟨.hbm, 153, rfl⟩
abbrev main_call5_c_6 : Ref sig .tc := ⟨.hbm, 154, rfl⟩
abbrev main_call5_v11 : Ref sig .tc := ⟨.hbm, 155, rfl⟩
abbrev main_call5_c_7 : Ref sig .tc := ⟨.hbm, 156, rfl⟩
abbrev main_call5_v12 : Ref sig .tc := ⟨.hbm, 157, rfl⟩
abbrev main_call5_c_8 : Ref sig .tc := ⟨.hbm, 158, rfl⟩
abbrev main_call5_c_9 : Ref sig .tc := ⟨.hbm, 159, rfl⟩
abbrev main_call5_v13 : Ref sig .tc := ⟨.hbm, 160, rfl⟩
abbrev main_call5_v14 : Ref sig .tc := ⟨.hbm, 161, rfl⟩
abbrev main_call5_v15 : Ref sig .tc := ⟨.hbm, 162, rfl⟩
abbrev main_call5_c_10 : Ref sig .tc := ⟨.hbm, 163, rfl⟩
abbrev main_call5_v16 : Ref sig .tc := ⟨.hbm, 164, rfl⟩
abbrev main_call5_v17 : Ref sig .tc := ⟨.hbm, 165, rfl⟩
abbrev main_call5_c_11 : Ref sig .tc := ⟨.hbm, 166, rfl⟩
abbrev main_call5_v18 : Ref sig .tc := ⟨.hbm, 167, rfl⟩
abbrev main_call5_v19 : Ref sig .tc := ⟨.hbm, 168, rfl⟩
abbrev main_call5_v20 : Ref sig .tc := ⟨.hbm, 169, rfl⟩
abbrev main_call5_c_12 : Ref sig .tc := ⟨.hbm, 170, rfl⟩
abbrev main_call5_v21 : Ref sig .tc := ⟨.hbm, 171, rfl⟩
abbrev main_call5_c_13 : Ref sig .tc := ⟨.hbm, 172, rfl⟩
abbrev main_call5_v22 : Ref sig .tc := ⟨.hbm, 173, rfl⟩
abbrev main_call5_v23 : Ref sig .tc := ⟨.hbm, 174, rfl⟩
abbrev main_call5_v24 : Ref sig .tc := ⟨.hbm, 175, rfl⟩
abbrev main_call5_v25 : Ref sig .tc := ⟨.hbm, 176, rfl⟩
abbrev main_call5_v26 : Ref sig .tc := ⟨.hbm, 177, rfl⟩
abbrev main_v13 : Ref sig .tc := ⟨.hbm, 178, rfl⟩
abbrev main_cst_8 : Ref sig .tc := ⟨.hbm, 179, rfl⟩
abbrev main_call6_v0 : Ref sig .tc := ⟨.hbm, 180, rfl⟩
abbrev main_call6_c : Ref sig .tc := ⟨.hbm, 181, rfl⟩
abbrev main_call6_v1 : Ref sig .tc := ⟨.hbm, 182, rfl⟩
abbrev main_call6_c_0 : Ref sig .tc := ⟨.hbm, 183, rfl⟩
abbrev main_call6_v2 : Ref sig .tc := ⟨.hbm, 184, rfl⟩
abbrev main_call6_c_1 : Ref sig .tc := ⟨.hbm, 185, rfl⟩
abbrev main_call6_v3 : Ref sig .tc := ⟨.hbm, 186, rfl⟩
abbrev main_call6_v4 : Ref sig .tc := ⟨.hbm, 187, rfl⟩
abbrev main_call6_v5 : Ref sig .tc := ⟨.hbm, 188, rfl⟩
abbrev main_call6_v6 : Ref sig .tc := ⟨.hbm, 189, rfl⟩
abbrev main_call6_c_2 : Ref sig .tc := ⟨.hbm, 190, rfl⟩
abbrev main_call6_v7 : Ref sig .tc := ⟨.hbm, 191, rfl⟩
abbrev main_call6_c_3 : Ref sig .tc := ⟨.hbm, 192, rfl⟩
abbrev main_call6_v8 : Ref sig .tc := ⟨.hbm, 193, rfl⟩
abbrev main_call6_c_4 : Ref sig .tc := ⟨.hbm, 194, rfl⟩
abbrev main_call6_v9 : Ref sig .tc := ⟨.hbm, 195, rfl⟩
abbrev main_call6_c_5 : Ref sig .tc := ⟨.hbm, 196, rfl⟩
abbrev main_call6_v10 : Ref sig .tc := ⟨.hbm, 197, rfl⟩
abbrev main_call6_c_6 : Ref sig .tc := ⟨.hbm, 198, rfl⟩
abbrev main_call6_v11 : Ref sig .tc := ⟨.hbm, 199, rfl⟩
abbrev main_call6_c_7 : Ref sig .tc := ⟨.hbm, 200, rfl⟩
abbrev main_call6_v12 : Ref sig .tc := ⟨.hbm, 201, rfl⟩
abbrev main_call6_c_8 : Ref sig .tc := ⟨.hbm, 202, rfl⟩
abbrev main_call6_c_9 : Ref sig .tc := ⟨.hbm, 203, rfl⟩
abbrev main_call6_v13 : Ref sig .tc := ⟨.hbm, 204, rfl⟩
abbrev main_call6_v14 : Ref sig .tc := ⟨.hbm, 205, rfl⟩
abbrev main_call6_v15 : Ref sig .tc := ⟨.hbm, 206, rfl⟩
abbrev main_call6_c_10 : Ref sig .tc := ⟨.hbm, 207, rfl⟩
abbrev main_call6_v16 : Ref sig .tc := ⟨.hbm, 208, rfl⟩
abbrev main_call6_v17 : Ref sig .tc := ⟨.hbm, 209, rfl⟩
abbrev main_call6_c_11 : Ref sig .tc := ⟨.hbm, 210, rfl⟩
abbrev main_call6_v18 : Ref sig .tc := ⟨.hbm, 211, rfl⟩
abbrev main_call6_v19 : Ref sig .tc := ⟨.hbm, 212, rfl⟩
abbrev main_call6_v20 : Ref sig .tc := ⟨.hbm, 213, rfl⟩
abbrev main_call6_c_12 : Ref sig .tc := ⟨.hbm, 214, rfl⟩
abbrev main_call6_v21 : Ref sig .tc := ⟨.hbm, 215, rfl⟩
abbrev main_call6_c_13 : Ref sig .tc := ⟨.hbm, 216, rfl⟩
abbrev main_call6_v22 : Ref sig .tc := ⟨.hbm, 217, rfl⟩
abbrev main_call6_v23 : Ref sig .tc := ⟨.hbm, 218, rfl⟩
abbrev main_call6_v24 : Ref sig .tc := ⟨.hbm, 219, rfl⟩
abbrev main_call6_v25 : Ref sig .tc := ⟨.hbm, 220, rfl⟩
abbrev main_call6_v26 : Ref sig .tc := ⟨.hbm, 221, rfl⟩
abbrev main_v14 : Ref sig .tc := ⟨.hbm, 222, rfl⟩
abbrev main_v15 : Ref sig .tc := ⟨.hbm, 223, rfl⟩
abbrev main_cst_9 : Ref sig .tc := ⟨.hbm, 224, rfl⟩
abbrev main_call7_v0 : Ref sig .tc := ⟨.hbm, 225, rfl⟩
abbrev main_call7_c : Ref sig .tc := ⟨.hbm, 226, rfl⟩
abbrev main_call7_v1 : Ref sig .tc := ⟨.hbm, 227, rfl⟩
abbrev main_call7_c_0 : Ref sig .tc := ⟨.hbm, 228, rfl⟩
abbrev main_call7_v2 : Ref sig .tc := ⟨.hbm, 229, rfl⟩
abbrev main_call7_c_1 : Ref sig .tc := ⟨.hbm, 230, rfl⟩
abbrev main_call7_v3 : Ref sig .tc := ⟨.hbm, 231, rfl⟩
abbrev main_call7_v4 : Ref sig .tc := ⟨.hbm, 232, rfl⟩
abbrev main_call7_v5 : Ref sig .tc := ⟨.hbm, 233, rfl⟩
abbrev main_call7_v6 : Ref sig .tc := ⟨.hbm, 234, rfl⟩
abbrev main_call7_c_2 : Ref sig .tc := ⟨.hbm, 235, rfl⟩
abbrev main_call7_v7 : Ref sig .tc := ⟨.hbm, 236, rfl⟩
abbrev main_call7_c_3 : Ref sig .tc := ⟨.hbm, 237, rfl⟩
abbrev main_call7_v8 : Ref sig .tc := ⟨.hbm, 238, rfl⟩
abbrev main_call7_c_4 : Ref sig .tc := ⟨.hbm, 239, rfl⟩
abbrev main_call7_v9 : Ref sig .tc := ⟨.hbm, 240, rfl⟩
abbrev main_call7_c_5 : Ref sig .tc := ⟨.hbm, 241, rfl⟩
abbrev main_call7_v10 : Ref sig .tc := ⟨.hbm, 242, rfl⟩
abbrev main_call7_c_6 : Ref sig .tc := ⟨.hbm, 243, rfl⟩
abbrev main_call7_v11 : Ref sig .tc := ⟨.hbm, 244, rfl⟩
abbrev main_call7_c_7 : Ref sig .tc := ⟨.hbm, 245, rfl⟩
abbrev main_call7_v12 : Ref sig .tc := ⟨.hbm, 246, rfl⟩
abbrev main_call7_c_8 : Ref sig .tc := ⟨.hbm, 247, rfl⟩
abbrev main_call7_c_9 : Ref sig .tc := ⟨.hbm, 248, rfl⟩
abbrev main_call7_v13 : Ref sig .tc := ⟨.hbm, 249, rfl⟩
abbrev main_call7_v14 : Ref sig .tc := ⟨.hbm, 250, rfl⟩
abbrev main_call7_v15 : Ref sig .tc := ⟨.hbm, 251, rfl⟩
abbrev main_call7_c_10 : Ref sig .tc := ⟨.hbm, 252, rfl⟩
abbrev main_call7_v16 : Ref sig .tc := ⟨.hbm, 253, rfl⟩
abbrev main_call7_v17 : Ref sig .tc := ⟨.hbm, 254, rfl⟩
abbrev main_call7_c_11 : Ref sig .tc := ⟨.hbm, 255, rfl⟩
abbrev main_call7_v18 : Ref sig .tc := ⟨.hbm, 256, rfl⟩
abbrev main_call7_v19 : Ref sig .tc := ⟨.hbm, 257, rfl⟩
abbrev main_call7_v20 : Ref sig .tc := ⟨.hbm, 258, rfl⟩
abbrev main_call7_c_12 : Ref sig .tc := ⟨.hbm, 259, rfl⟩
abbrev main_call7_v21 : Ref sig .tc := ⟨.hbm, 260, rfl⟩
abbrev main_call7_c_13 : Ref sig .tc := ⟨.hbm, 261, rfl⟩
abbrev main_call7_v22 : Ref sig .tc := ⟨.hbm, 262, rfl⟩
abbrev main_call7_v23 : Ref sig .tc := ⟨.hbm, 263, rfl⟩
abbrev main_call7_v24 : Ref sig .tc := ⟨.hbm, 264, rfl⟩
abbrev main_call7_v25 : Ref sig .tc := ⟨.hbm, 265, rfl⟩
abbrev main_call7_v26 : Ref sig .tc := ⟨.hbm, 266, rfl⟩
abbrev main_v16 : Ref sig .tc := ⟨.hbm, 267, rfl⟩
abbrev main_v17 : Ref sig .tc := ⟨.hbm, 268, rfl⟩
abbrev main_v18_0 : Ref sig .tc := ⟨.hbm, 269, rfl⟩
abbrev main_v18_1 : Ref sig .tc := ⟨.hbm, 270, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [BitOps F]

abbrev grid0 : Pipeline.Grid := ⟨1, ![18], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Quantref.lean ====
abbrev S1x4608x4096 : Shape := ⟨3, ![1, 4608, 4096]⟩
abbrev S16 : Shape := ⟨1, ![16]⟩
abbrev S_ : Shape := ⟨0, ![]⟩
abbrev S4608x4096 : Shape := ⟨2, ![4608, 4096]⟩
abbrev S1 : Shape := ⟨1, ![1]⟩

abbrev nBuf : Space → Nat
  | .hbm => 270
  | .vmem => 2
  | .smem => 1
  | _ => 0

abbrev hbmTy0_0 (i : Nat) : BufTy := match i % 128 with
  | 0 => ⟨S1x4608x4096, .bf16⟩
  | 1 => ⟨S16, .f32⟩
  | 2 => ⟨S16, .f32⟩
  | 3 => ⟨S_, .f32⟩
  | 4 => ⟨S_, .f32⟩
  | 5 => ⟨S_, .f32⟩
  | 6 => ⟨S_, .f32⟩
  | 7 => ⟨S_, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S_, .f32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i1⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S_, .f32⟩
  | 41 => ⟨S_, .f32⟩
  | 42 => ⟨S_, .i1⟩
  | 43 => ⟨S_, .i32⟩
  | 44 => ⟨S_, .i32⟩
  | 45 => ⟨S_, .i32⟩
  | 46 => ⟨S_, .f32⟩
  | 47 => ⟨S_, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S_, .i32⟩
  | 55 => ⟨S_, .f32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i1⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i1⟩
  | 83 => ⟨S_, .i32⟩
  | 84 => ⟨S_, .i1⟩
  | 85 => ⟨S_, .i32⟩
  | 86 => ⟨S_, .i32⟩
  | 87 => ⟨S_, .i32⟩
  | 88 => ⟨S_, .i32⟩
  | 89 => ⟨S_, .f32⟩
  | 90 => ⟨S_, .i32⟩
  | 91 => ⟨S_, .f32⟩
  | 92 => ⟨S_, .i32⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S_, .i32⟩
  | 100 => ⟨S_, .f32⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S_, .i1⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i1⟩
  | _ => ⟨S1x4608x4096, .bf16⟩

abbrev hbmTy0_1 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S_, .i32⟩
  | 6 => ⟨S_, .f32⟩
  | 7 => ⟨S_, .f32⟩
  | 8 => ⟨S_, .f32⟩
  | 9 => ⟨S_, .f32⟩
  | 10 => ⟨S_, .f32⟩
  | 11 => ⟨S_, .i32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S_, .i32⟩
  | 19 => ⟨S_, .f32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i1⟩
  | 31 => ⟨S_, .i32⟩
  | 32 => ⟨S_, .i1⟩
  | 33 => ⟨S_, .i32⟩
  | 34 => ⟨S_, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S_, .i32⟩
  | 42 => ⟨S_, .i32⟩
  | 43 => ⟨S_, .i32⟩
  | 44 => ⟨S_, .f32⟩
  | 45 => ⟨S_, .f32⟩
  | 46 => ⟨S_, .i1⟩
  | 47 => ⟨S_, .i32⟩
  | 48 => ⟨S_, .i32⟩
  | 49 => ⟨S_, .i32⟩
  | 50 => ⟨S_, .f32⟩
  | 51 => ⟨S_, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S_, .i32⟩
  | 59 => ⟨S_, .f32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .i1⟩
  | 71 => ⟨S_, .i32⟩
  | 72 => ⟨S_, .i1⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S_, .i1⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S_, .f32⟩
  | 94 => ⟨S_, .i32⟩
  | 95 => ⟨S_, .f32⟩
  | 96 => ⟨S_, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S_, .i32⟩
  | 104 => ⟨S_, .f32⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i1⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i32⟩
  | _ => ⟨S1x4608x4096, .bf16⟩

abbrev hbmTy0_2 (i : Nat) : BufTy := match i % 128 with
  | 0 => ⟨S_, .i32⟩
  | 1 => ⟨S_, .i32⟩
  | 2 => ⟨S_, .i32⟩
  | 3 => ⟨S_, .i1⟩
  | 4 => ⟨S_, .i32⟩
  | 5 => ⟨S_, .i1⟩
  | 6 => ⟨S_, .i32⟩
  | 7 => ⟨S_, .i32⟩
  | 8 => ⟨S_, .i32⟩
  | 9 => ⟨S_, .i32⟩
  | 10 => ⟨S_, .f32⟩
  | 11 => ⟨S4608x4096, .bf16⟩
  | 12 => ⟨S1, .f32⟩
  | 13 => ⟨S4608x4096, .fp8e5m2⟩
  | _ => ⟨S1x4608x4096, .bf16⟩

abbrev hbmTy (i : Nat) : BufTy := match i / 128 with
  | 0 => hbmTy0_0 i
  | 1 => hbmTy0_1 i
  | 2 => hbmTy0_2 i
  | _ => ⟨S1x4608x4096, .bf16⟩

abbrev bufTy : (tb : Table) → Fin (tcTables nBuf tb) → BufTy
  | .hbm, ⟨i, _⟩ => hbmTy i
  | .local _ .vmem, ⟨0, _⟩ => ⟨S4608x4096, .bf16⟩
  | .local _ .vmem, ⟨1, _⟩ => ⟨S4608x4096, .fp8e5m2⟩
  | .local _ .smem, ⟨0, _⟩ => ⟨S1, .f32⟩
  | _, _ => ⟨S1x4608x4096, .bf16⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_c_1 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_c_3 : Ref sig .tc := ⟨.hbm, 19, rfl⟩
abbrev main_call0_v8 : Ref sig .tc := ⟨.hbm, 20, rfl⟩
abbrev main_call0_c_4 : Ref sig .tc := ⟨.hbm, 21, rfl⟩
abbrev main_call0_v9 : Ref sig .tc := ⟨.hbm, 22, rfl⟩
abbrev main_call0_c_5 : Ref sig .tc := ⟨.hbm, 23, rfl⟩
abbrev main_call0_v10 : Ref sig .tc := ⟨.hbm, 24, rfl⟩
abbrev main_call0_c_6 : Ref sig .tc := ⟨.hbm, 25, rfl⟩
abbrev main_call0_v11 : Ref sig .tc := ⟨.hbm, 26, rfl⟩
abbrev main_call0_c_7 : Ref sig .tc := ⟨.hbm, 27, rfl⟩
abbrev main_call0_v12 : Ref sig .tc := ⟨.hbm, 28, rfl⟩
abbrev main_call0_c_8 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_call0_v17 : Ref sig .tc := ⟨.hbm, 34, rfl⟩
abbrev main_call0_v18 : Ref sig .tc := ⟨.hbm, 35, rfl⟩
abbrev main_call0_c_9 : Ref sig .tc := ⟨.hbm, 36, rfl⟩
abbrev main_call0_v19 : Ref sig .tc := ⟨.hbm, 37, rfl⟩
abbrev main_call0_c_10 : Ref sig .tc := ⟨.hbm, 38, rfl⟩
abbrev main_v2_1 : Ref sig .tc := ⟨.hbm, 39, rfl⟩
abbrev main_v2_0 : Ref sig .tc := ⟨.hbm, 40, rfl⟩
abbrev main_cst_1 : Ref sig .tc := ⟨.hbm, 41, rfl⟩
abbrev main_v3 : Ref sig .tc := ⟨.hbm, 42, rfl⟩
abbrev main_c : Ref sig .tc := ⟨.hbm, 43, rfl⟩
abbrev main_call1_v0 : Ref sig .tc := ⟨.hbm, 44, rfl⟩
abbrev main_v4 : Ref sig .tc := ⟨.hbm, 45, rfl⟩
abbrev main_cst_2 : Ref sig .tc := ⟨.hbm, 46, rfl⟩
abbrev main_call2_v0 : Ref sig .tc := ⟨.hbm, 47, rfl⟩
abbrev main_call2_c : Ref sig .tc := ⟨.hbm, 48, rfl⟩
abbrev main_call2_v1 : Ref sig .tc := ⟨.hbm, 49, rfl⟩
abbrev main_call2_c_0 : Ref sig .tc := ⟨.hbm, 50, rfl⟩
abbrev main_call2_v2 : Ref sig .tc := ⟨.hbm, 51, rfl⟩
abbrev main_call2_c_1 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_v6 : Ref sig .tc := ⟨.hbm, 56, rfl⟩
abbrev main_call2_c_2 : Ref sig .tc := ⟨.hbm, 57, rfl⟩
abbrev main_call2_v7 : Ref sig .tc := ⟨.hbm, 58, rfl⟩
abbrev main_call2_c_3 : Ref sig .tc := ⟨.hbm, 59, rfl⟩
abbrev main_call2_v8 : Ref sig .tc := ⟨.hbm, 60, rfl⟩
abbrev main_call2_c_4 : Ref sig .tc := ⟨.hbm, 61, rfl⟩
abbrev main_call2_v9 : Ref sig .tc := ⟨.hbm, 62, rfl⟩
abbrev main_call2_c_5 : Ref sig .tc := ⟨.hbm, 63, rfl⟩
abbrev main_call2_v10 : Ref sig .tc := ⟨.hbm, 64, rfl⟩
abbrev main_call2_c_6 : Ref sig .tc := ⟨.hbm, 65, rfl⟩
abbrev main_call2_v11 : Ref sig .tc := ⟨.hbm, 66, rfl⟩
abbrev main_call2_c_7 : Ref sig .tc := ⟨.hbm, 67, rfl⟩
abbrev main_call2_v12 : Ref sig .tc := ⟨.hbm, 68, rfl⟩
abbrev main_call2_c_8 : Ref sig .tc := ⟨.hbm, 69, rfl⟩
abbrev main_call2_c_9 : Ref sig .tc := ⟨.hbm, 70, rfl⟩
abbrev main_call2_v13 : Ref sig .tc := ⟨.hbm, 71, rfl⟩
abbrev main_call2_v14 : Ref sig .tc := ⟨.hbm, 72, rfl⟩
abbrev main_call2_v15 : Ref sig .tc := ⟨.hbm, 73, rfl⟩
abbrev main_call2_c_10 : Ref sig .tc := ⟨.hbm, 74, rfl⟩
abbrev main_call2_v16 : Ref sig .tc := ⟨.hbm, 75, rfl⟩
abbrev main_call2_v17 : Ref sig .tc := ⟨.hbm, 76, rfl⟩
abbrev main_call2_c_11 : Ref sig .tc := ⟨.hbm, 77, rfl⟩
abbrev main_call2_v18 : Ref sig .tc := ⟨.hbm, 78, rfl⟩
abbrev main_call2_v19 : Ref sig .tc := ⟨.hbm, 79, rfl⟩
abbrev main_call2_v20 : Ref sig .tc := ⟨.hbm, 80, rfl⟩
abbrev main_call2_c_12 : Ref sig .tc := ⟨.hbm, 81, rfl⟩
abbrev main_call2_v21 : Ref sig .tc := ⟨.hbm, 82, rfl⟩
abbrev main_call2_c_13 : Ref sig .tc := ⟨.hbm, 83, rfl⟩
abbrev main_call2_v22 : Ref sig .tc := ⟨.hbm, 84, rfl⟩
abbrev main_call2_v23 : Ref sig .tc := ⟨.hbm, 85, rfl⟩
abbrev main_call2_v24 : Ref sig .tc := ⟨.hbm, 86, rfl⟩
abbrev main_call2_v25 : Ref sig .tc := ⟨.hbm, 87, rfl⟩
abbrev main_call2_v26 : Ref sig .tc := ⟨.hbm, 88, rfl⟩
abbrev main_v5 : Ref sig .tc := ⟨.hbm, 89, rfl⟩
abbrev main_v6 : Ref sig .tc := ⟨.hbm, 90, rfl⟩
abbrev main_cst_3 : Ref sig .tc := ⟨.hbm, 91, rfl⟩
abbrev main_call3_v0 : Ref sig .tc := ⟨.hbm, 92, rfl⟩
abbrev main_call3_c : Ref sig .tc := ⟨.hbm, 93, rfl⟩
abbrev main_call3_v1 : Ref sig .tc := ⟨.hbm, 94, rfl⟩
abbrev main_call3_c_0 : Ref sig .tc := ⟨.hbm, 95, rfl⟩
abbrev main_call3_v2 : Ref sig .tc := ⟨.hbm, 96, rfl⟩
abbrev main_call3_c_1 : Ref sig .tc := ⟨.hbm, 97, rfl⟩
abbrev main_call3_v3 : Ref sig .tc := ⟨.hbm, 98, rfl⟩
abbrev main_call3_v4 : Ref sig .tc := ⟨.hbm, 99, rfl⟩
abbrev main_call3_v5 : Ref sig .tc := ⟨.hbm, 100, rfl⟩
abbrev main_call3_v6 : Ref sig .tc := ⟨.hbm, 101, rfl⟩
abbrev main_call3_c_2 : Ref sig .tc := ⟨.hbm, 102, rfl⟩
abbrev main_call3_v7 : Ref sig .tc := ⟨.hbm, 103, rfl⟩
abbrev main_call3_c_3 : Ref sig .tc := ⟨.hbm, 104, rfl⟩
abbrev main_call3_v8 : Ref sig .tc := ⟨.hbm, 105, rfl⟩
abbrev main_call3_c_4 : Ref sig .tc := ⟨.hbm, 106, rfl⟩
abbrev main_call3_v9 : Ref sig .tc := ⟨.hbm, 107, rfl⟩
abbrev main_call3_c_5 : Ref sig .tc := ⟨.hbm, 108, rfl⟩
abbrev main_call3_v10 : Ref sig .tc := ⟨.hbm, 109, rfl⟩
abbrev main_call3_c_6 : Ref sig .tc := ⟨.hbm, 110, rfl⟩
abbrev main_call3_v11 : Ref sig .tc := ⟨.hbm, 111, rfl⟩
abbrev main_call3_c_7 : Ref sig .tc := ⟨.hbm, 112, rfl⟩
abbrev main_call3_v12 : Ref sig .tc := ⟨.hbm, 113, rfl⟩
abbrev main_call3_c_8 : Ref sig .tc := ⟨.hbm, 114, rfl⟩
abbrev main_call3_c_9 : Ref sig .tc := ⟨.hbm, 115, rfl⟩
abbrev main_call3_v13 : Ref sig .tc := ⟨.hbm, 116, rfl⟩
abbrev main_call3_v14 : Ref sig .tc := ⟨.hbm, 117, rfl⟩
abbrev main_call3_v15 : Ref sig .tc := ⟨.hbm, 118, rfl⟩
abbrev main_call3_c_10 : Ref sig .tc := ⟨.hbm, 119, rfl⟩
abbrev main_call3_v16 : Ref sig .tc := ⟨.hbm, 120, rfl⟩
abbrev main_call3_v17 : Ref sig .tc := ⟨.hbm, 121, rfl⟩
abbrev main_call3_c_11 : Ref sig .tc := ⟨.hbm, 122, rfl⟩
abbrev main_call3_v18 : Ref sig .tc := ⟨.hbm, 123, rfl⟩
abbrev main_call3_v19 : Ref sig .tc := ⟨.hbm, 124, rfl⟩
abbrev main_call3_v20 : Ref sig .tc := ⟨.hbm, 125, rfl⟩
abbrev main_call3_c_12 : Ref sig .tc := ⟨.hbm, 126, rfl⟩
abbrev main_call3_v21 : Ref sig .tc := ⟨.hbm, 127, rfl⟩
abbrev main_call3_c_13 : Ref sig .tc := ⟨.hbm, 128, rfl⟩
abbrev main_call3_v22 : Ref sig .tc := ⟨.hbm, 129, rfl⟩
abbrev main_call3_v23 : Ref sig .tc := ⟨.hbm, 130, rfl⟩
abbrev main_call3_v24 : Ref sig .tc := ⟨.hbm, 131, rfl⟩
abbrev main_call3_v25 : Ref sig .tc := ⟨.hbm, 132, rfl⟩
abbrev main_call3_v26 : Ref sig .tc := ⟨.hbm, 133, rfl⟩
abbrev main_v7 : Ref sig .tc := ⟨.hbm, 134, rfl⟩
abbrev main_cst_4 : Ref sig .tc := ⟨.hbm, 135, rfl⟩
abbrev main_v8 : Ref sig .tc := ⟨.hbm, 136, rfl⟩
abbrev main_cst_5 : Ref sig .tc := ⟨.hbm, 137, rfl⟩
abbrev main_v9 : Ref sig .tc := ⟨.hbm, 138, rfl⟩
abbrev main_call4_v0 : Ref sig .tc := ⟨.hbm, 139, rfl⟩
abbrev main_call4_c : Ref sig .tc := ⟨.hbm, 140, rfl⟩
abbrev main_call4_v1 : Ref sig .tc := ⟨.hbm, 141, rfl⟩
abbrev main_call4_c_0 : Ref sig .tc := ⟨.hbm, 142, rfl⟩
abbrev main_call4_v2 : Ref sig .tc := ⟨.hbm, 143, rfl⟩
abbrev main_call4_c_1 : Ref sig .tc := ⟨.hbm, 144, rfl⟩
abbrev main_call4_v3 : Ref sig .tc := ⟨.hbm, 145, rfl⟩
abbrev main_call4_v4 : Ref sig .tc := ⟨.hbm, 146, rfl⟩
abbrev main_call4_v5 : Ref sig .tc := ⟨.hbm, 147, rfl⟩
abbrev main_call4_v6 : Ref sig .tc := ⟨.hbm, 148, rfl⟩
abbrev main_call4_c_2 : Ref sig .tc := ⟨.hbm, 149, rfl⟩
abbrev main_call4_v7 : Ref sig .tc := ⟨.hbm, 150, rfl⟩
abbrev main_call4_c_3 : Ref sig .tc := ⟨.hbm, 151, rfl⟩
abbrev main_call4_v8 : Ref sig .tc := ⟨.hbm, 152, rfl⟩
abbrev main_call4_c_4 : Ref sig .tc := ⟨.hbm, 153, rfl⟩
abbrev main_call4_v9 : Ref sig .tc := ⟨.hbm, 154, rfl⟩
abbrev main_call4_c_5 : Ref sig .tc := ⟨.hbm, 155, rfl⟩
abbrev main_call4_v10 : Ref sig .tc := ⟨.hbm, 156, rfl⟩
abbrev main_call4_c_6 : Ref sig .tc := ⟨.hbm, 157, rfl⟩
abbrev main_call4_v11 : Ref sig .tc := ⟨.hbm, 158, rfl⟩
abbrev main_call4_c_7 : Ref sig .tc := ⟨.hbm, 159, rfl⟩
abbrev main_call4_v12 : Ref sig .tc := ⟨.hbm, 160, rfl⟩
abbrev main_call4_c_8 : Ref sig .tc := ⟨.hbm, 161, rfl⟩
abbrev main_call4_v13 : Ref sig .tc := ⟨.hbm, 162, rfl⟩
abbrev main_call4_v14 : Ref sig .tc := ⟨.hbm, 163, rfl⟩
abbrev main_call4_v15 : Ref sig .tc := ⟨.hbm, 164, rfl⟩
abbrev main_call4_v16 : Ref sig .tc := ⟨.hbm, 165, rfl⟩
abbrev main_call4_v17 : Ref sig .tc := ⟨.hbm, 166, rfl⟩
abbrev main_call4_v18 : Ref sig .tc := ⟨.hbm, 167, rfl⟩
abbrev main_call4_c_9 : Ref sig .tc := ⟨.hbm, 168, rfl⟩
abbrev main_call4_v19 : Ref sig .tc := ⟨.hbm, 169, rfl⟩
abbrev main_call4_c_10 : Ref sig .tc := ⟨.hbm, 170, rfl⟩
abbrev main_v10_1 : Ref sig .tc := ⟨.hbm, 171, rfl⟩
abbrev main_v10_0 : Ref sig .tc := ⟨.hbm, 172, rfl⟩
abbrev main_cst_6 : Ref sig .tc := ⟨.hbm, 173, rfl⟩
abbrev main_v11 : Ref sig .tc := ⟨.hbm, 174, rfl⟩
abbrev main_c_7 : Ref sig .tc := ⟨.hbm, 175, rfl⟩
abbrev main_call5_v0 : Ref sig .tc := ⟨.hbm, 176, rfl⟩
abbrev main_v12 : Ref sig .tc := ⟨.hbm, 177, rfl⟩
abbrev main_cst_8 : Ref sig .tc := ⟨.hbm, 178, rfl⟩
abbrev main_call6_v0 : Ref sig .tc := ⟨.hbm, 179, rfl⟩
abbrev main_call6_c : Ref sig .tc := ⟨.hbm, 180, rfl⟩
abbrev main_call6_v1 : Ref sig .tc := ⟨.hbm, 181, rfl⟩
abbrev main_call6_c_0 : Ref sig .tc := ⟨.hbm, 182, rfl⟩
abbrev main_call6_v2 : Ref sig .tc := ⟨.hbm, 183, rfl⟩
abbrev main_call6_c_1 : Ref sig .tc := ⟨.hbm, 184, rfl⟩
abbrev main_call6_v3 : Ref sig .tc := ⟨.hbm, 185, rfl⟩
abbrev main_call6_v4 : Ref sig .tc := ⟨.hbm, 186, rfl⟩
abbrev main_call6_v5 : Ref sig .tc := ⟨.hbm, 187, rfl⟩
abbrev main_call6_v6 : Ref sig .tc := ⟨.hbm, 188, rfl⟩
abbrev main_call6_c_2 : Ref sig .tc := ⟨.hbm, 189, rfl⟩
abbrev main_call6_v7 : Ref sig .tc := ⟨.hbm, 190, rfl⟩
abbrev main_call6_c_3 : Ref sig .tc := ⟨.hbm, 191, rfl⟩
abbrev main_call6_v8 : Ref sig .tc := ⟨.hbm, 192, rfl⟩
abbrev main_call6_c_4 : Ref sig .tc := ⟨.hbm, 193, rfl⟩
abbrev main_call6_v9 : Ref sig .tc := ⟨.hbm, 194, rfl⟩
abbrev main_call6_c_5 : Ref sig .tc := ⟨.hbm, 195, rfl⟩
abbrev main_call6_v10 : Ref sig .tc := ⟨.hbm, 196, rfl⟩
abbrev main_call6_c_6 : Ref sig .tc := ⟨.hbm, 197, rfl⟩
abbrev main_call6_v11 : Ref sig .tc := ⟨.hbm, 198, rfl⟩
abbrev main_call6_c_7 : Ref sig .tc := ⟨.hbm, 199, rfl⟩
abbrev main_call6_v12 : Ref sig .tc := ⟨.hbm, 200, rfl⟩
abbrev main_call6_c_8 : Ref sig .tc := ⟨.hbm, 201, rfl⟩
abbrev main_call6_c_9 : Ref sig .tc := ⟨.hbm, 202, rfl⟩
abbrev main_call6_v13 : Ref sig .tc := ⟨.hbm, 203, rfl⟩
abbrev main_call6_v14 : Ref sig .tc := ⟨.hbm, 204, rfl⟩
abbrev main_call6_v15 : Ref sig .tc := ⟨.hbm, 205, rfl⟩
abbrev main_call6_c_10 : Ref sig .tc := ⟨.hbm, 206, rfl⟩
abbrev main_call6_v16 : Ref sig .tc := ⟨.hbm, 207, rfl⟩
abbrev main_call6_v17 : Ref sig .tc := ⟨.hbm, 208, rfl⟩
abbrev main_call6_c_11 : Ref sig .tc := ⟨.hbm, 209, rfl⟩
abbrev main_call6_v18 : Ref sig .tc := ⟨.hbm, 210, rfl⟩
abbrev main_call6_v19 : Ref sig .tc := ⟨.hbm, 211, rfl⟩
abbrev main_call6_v20 : Ref sig .tc := ⟨.hbm, 212, rfl⟩
abbrev main_call6_c_12 : Ref sig .tc := ⟨.hbm, 213, rfl⟩
abbrev main_call6_v21 : Ref sig .tc := ⟨.hbm, 214, rfl⟩
abbrev main_call6_c_13 : Ref sig .tc := ⟨.hbm, 215, rfl⟩
abbrev main_call6_v22 : Ref sig .tc := ⟨.hbm, 216, rfl⟩
abbrev main_call6_v23 : Ref sig .tc := ⟨.hbm, 217, rfl⟩
abbrev main_call6_v24 : Ref sig .tc := ⟨.hbm, 218, rfl⟩
abbrev main_call6_v25 : Ref sig .tc := ⟨.hbm, 219, rfl⟩
abbrev main_call6_v26 : Ref sig .tc := ⟨.hbm, 220, rfl⟩
abbrev main_v13 : Ref sig .tc := ⟨.hbm, 221, rfl⟩
abbrev main_v14 : Ref sig .tc := ⟨.hbm, 222, rfl⟩
abbrev main_cst_9 : Ref sig .tc := ⟨.hbm, 223, rfl⟩
abbrev main_call7_v0 : Ref sig .tc := ⟨.hbm, 224, rfl⟩
abbrev main_call7_c : Ref sig .tc := ⟨.hbm, 225, rfl⟩
abbrev main_call7_v1 : Ref sig .tc := ⟨.hbm, 226, rfl⟩
abbrev main_call7_c_0 : Ref sig .tc := ⟨.hbm, 227, rfl⟩
abbrev main_call7_v2 : Ref sig .tc := ⟨.hbm, 228, rfl⟩
abbrev main_call7_c_1 : Ref sig .tc := ⟨.hbm, 229, rfl⟩
abbrev main_call7_v3 : Ref sig .tc := ⟨.hbm, 230, rfl⟩
abbrev main_call7_v4 : Ref sig .tc := ⟨.hbm, 231, rfl⟩
abbrev main_call7_v5 : Ref sig .tc := ⟨.hbm, 232, rfl⟩
abbrev main_call7_v6 : Ref sig .tc := ⟨.hbm, 233, rfl⟩
abbrev main_call7_c_2 : Ref sig .tc := ⟨.hbm, 234, rfl⟩
abbrev main_call7_v7 : Ref sig .tc := ⟨.hbm, 235, rfl⟩
abbrev main_call7_c_3 : Ref sig .tc := ⟨.hbm, 236, rfl⟩
abbrev main_call7_v8 : Ref sig .tc := ⟨.hbm, 237, rfl⟩
abbrev main_call7_c_4 : Ref sig .tc := ⟨.hbm, 238, rfl⟩
abbrev main_call7_v9 : Ref sig .tc := ⟨.hbm, 239, rfl⟩
abbrev main_call7_c_5 : Ref sig .tc := ⟨.hbm, 240, rfl⟩
abbrev main_call7_v10 : Ref sig .tc := ⟨.hbm, 241, rfl⟩
abbrev main_call7_c_6 : Ref sig .tc := ⟨.hbm, 242, rfl⟩
abbrev main_call7_v11 : Ref sig .tc := ⟨.hbm, 243, rfl⟩
abbrev main_call7_c_7 : Ref sig .tc := ⟨.hbm, 244, rfl⟩
abbrev main_call7_v12 : Ref sig .tc := ⟨.hbm, 245, rfl⟩
abbrev main_call7_c_8 : Ref sig .tc := ⟨.hbm, 246, rfl⟩
abbrev main_call7_c_9 : Ref sig .tc := ⟨.hbm, 247, rfl⟩
abbrev main_call7_v13 : Ref sig .tc := ⟨.hbm, 248, rfl⟩
abbrev main_call7_v14 : Ref sig .tc := ⟨.hbm, 249, rfl⟩
abbrev main_call7_v15 : Ref sig .tc := ⟨.hbm, 250, rfl⟩
abbrev main_call7_c_10 : Ref sig .tc := ⟨.hbm, 251, rfl⟩
abbrev main_call7_v16 : Ref sig .tc := ⟨.hbm, 252, rfl⟩
abbrev main_call7_v17 : Ref sig .tc := ⟨.hbm, 253, rfl⟩
abbrev main_call7_c_11 : Ref sig .tc := ⟨.hbm, 254, rfl⟩
abbrev main_call7_v18 : Ref sig .tc := ⟨.hbm, 255, rfl⟩
abbrev main_call7_v19 : Ref sig .tc := ⟨.hbm, 256, rfl⟩
abbrev main_call7_v20 : Ref sig .tc := ⟨.hbm, 257, rfl⟩
abbrev main_call7_c_12 : Ref sig .tc := ⟨.hbm, 258, rfl⟩
abbrev main_call7_v21 : Ref sig .tc := ⟨.hbm, 259, rfl⟩
abbrev main_call7_c_13 : Ref sig .tc := ⟨.hbm, 260, rfl⟩
abbrev main_call7_v22 : Ref sig .tc := ⟨.hbm, 261, rfl⟩
abbrev main_call7_v23 : Ref sig .tc := ⟨.hbm, 262, rfl⟩
abbrev main_call7_v24 : Ref sig .tc := ⟨.hbm, 263, rfl⟩
abbrev main_call7_v25 : Ref sig .tc := ⟨.hbm, 264, rfl⟩
abbrev main_call7_v26 : Ref sig .tc := ⟨.hbm, 265, rfl⟩
abbrev main_v15 : Ref sig .tc := ⟨.hbm, 266, rfl⟩
abbrev main_v16 : Ref sig .tc := ⟨.hbm, 267, rfl⟩
abbrev main_v17 : Ref sig .tc := ⟨.hbm, 268, rfl⟩
abbrev main_v18 : Ref sig .tc := ⟨.hbm, 269, rfl⟩
abbrev cc0_stg1_0 : Ref sig .tc := ⟨.vmem, 0, rfl⟩
abbrev cc0_stg2_0 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [BitOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4608x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4608x4096 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Quant.lean ====
/-
  Region 0, the call `quant_dy`: the run of its body (case by case), what its staging buffers hold after each point,
  and the pipeline's proof data, entered from any contents `V` of the buffers.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Frame
public import Idealize.ShloMosaic.Lib.Ring
public import Idealize.ShloMosaic.Lib.Tactic
public import Idealize.ShloMosaic.Lib.WordCmp

@[expose] public section

set_option maxRecDepth 16384

noncomputable section

namespace Cert.KernelIdeal.Quant

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/- `V`: what core `c`'s buffers hold when the region is entered. -/
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 18 = 0 :=
  (fun t => by
    have ht : t.val < 18 := Nat.lt_of_lt_of_eq t.isLt N_0
    have e0 : (grid0.coords t 0).val = t.val / 1 % 18 := Pipeline.Grid.coords_val t 0 (by decide) rfl
    simp only [cond0_0, e0]
    word_cmp
   : ∀ t : Fin grid0.N, cond0_0 (grid0.coords t) ↔ t.val % 18 = 0)

/-! ## The kernel body on any staging memrefs: a subtype the run finds -/

/-- One staging buffer of output window 2, through which its contents are stated (`View.read_writes_of_cover`: the
    choice does not matter). -/
abbrev VO0_2 : View sig .tc .vmem S256x4096 .fp8e5m2 := (Memref.whole cc0_stg2_0 : Memref sig .tc .vmem S256x4096 .fp8e5m2).view
/-- One staging buffer of output window 3, through which its contents are stated (`View.read_writes_of_cover`: the
    choice does not matter). -/
abbrev VO0_3 : View sig .tc .vmem S8x4096 .f32 := (Memref.whole cc0_stg3_0 : Memref sig .tc .vmem S8x4096 .f32).view
/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x4096 .fp8e5m2 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x4096 .f32 := win0_3.stage (cfg0.slots t 3)
abbrev hs0_3 (t : Fin cfg0.N) : (ms0_3 t).IsWhole := hstage0_3 ((cfg0.slots t 3).cast nbuf0_3)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .smem S1 .f32) (harg1 : arg1.IsWhole) (arg2 : Memref sig .tc .vmem S256x4096 .bf16) (harg2 : arg2.IsWhole) (arg3 : Memref sig .tc .vmem S256x4096 .fp8e5m2) (harg3 : arg3.IsWhole) (arg4 : Memref sig .tc .vmem S8x4096 .f32) (harg4 : arg4.IsWhole) (hc0 : cond0_0 i)
    (x0 : Vec F S1 .f32) (x1 : Vec F S256x4096 .bf16) :
    Σ' (L2 : List (View.Piece (Elt F) S256x4096 .fp8e5m2)), { L3 : List (View.Piece (Elt F) S8x4096 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc0_quant_dy i arg1 harg1 arg2 harg2 arg3 harg3 arg4 harg4) K } := by
  refine ⟨?_, ?_, fun E K => ?run⟩
  case run =>
    simp only [cc0_quant_dy_eq_skeleton]; unfold cc0_quant_dy_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

-- (the run's proof term is large: the definition's epilogue — `abstractNestedProofs` — walks it past the default budget)
set_option maxHeartbeats 1000000 in
/-- What the body's stores leave in each output's staging memref, as pieces (last first) IN CASE B (`scf.if` 0 not taken: points 1, 2, … 17: 17 of 18), WITH the
    proof that on whole staging memrefs — the inputs' at their contents, the outputs it reads before covering (3) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .smem S1 .f32) (harg1 : arg1.IsWhole) (arg2 : Memref sig .tc .vmem S256x4096 .bf16) (harg2 : arg2.IsWhole) (arg3 : Memref sig .tc .vmem S256x4096 .fp8e5m2) (harg3 : arg3.IsWhole) (arg4 : Memref sig .tc .vmem S8x4096 .f32) (harg4 : arg4.IsWhole) (hc0 : ¬cond0_0 i)
    (x0 : Vec F S1 .f32) (x1 : Vec F S256x4096 .bf16) (xo3 : Vec F S8x4096 .f32) :
    Σ' (L2 : List (View.Piece (Elt F) S256x4096 .fp8e5m2)), { L3 : List (View.Piece (Elt F) S8x4096 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xo3
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc0_quant_dy i arg1 harg1 arg2 harg2 arg3 harg3 arg4 harg4) K } := by
  refine ⟨?_, ?_, fun E K => ?run⟩
  case run =>
    simp only [cc0_quant_dy_eq_skeleton]; unfold cc0_quant_dy_skel
    unfold owns
    iintro ⟨⟨%f0, %hf0, H0⟩, ⟨%f1, %hf1, H1⟩, ⟨%d2, %f2, -, H2⟩, ⟨%f3, %hf3, H3⟩, Hk⟩
    obtain rfl := harg1.eq_unread hf0; obtain rfl := harg2.eq_unread hf1; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

/-- Case A's pieces for output 2 tile its block (1 store of `S256x4096`, checked by the kernel's evaluation: Lib/Ring.lean `Piece.tiledL`, linear in the pieces, through a loop's `@[irreducible]` trip theorem too), so they cover it. -/
theorem cover0_A_2 (c : Dev nD) (i : grid0.Coords) (arg1 : Memref sig .tc .smem S1 .f32) (harg1 : arg1.IsWhole) (arg2 : Memref sig .tc .vmem S256x4096 .bf16) (harg2 : arg2.IsWhole) (arg3 : Memref sig .tc .vmem S256x4096 .fp8e5m2) (harg3 : arg3.IsWhole) (arg4 : Memref sig .tc .vmem S8x4096 .f32) (harg4 : arg4.IsWhole) (hc0 : cond0_0 i)
    (x0 : Vec F S1 .f32) (x1 : Vec F S256x4096 .bf16) (y : S256x4096.Idx) :
    ∃ pc ∈ (kernelRun0_A c i arg1 harg1 arg2 harg2 arg3 harg3 arg4 harg4 hc0 x0 x1).1, y ∈ pc.1.set :=
  View.cover_of_tiledL (kernelRun0_A c i arg1 harg1 arg2 harg2 arg3 harg3 arg4 harg4 hc0 x0 x1).1 S256x4096.size (by sl_kernel_rfl) y

/-- What case A leaves in output 2's staging buffer: its pieces read back over junk. -/
def out0_A_2 (c : Dev nD) (i : grid0.Coords) (arg1 : Memref sig .tc .smem S1 .f32) (harg1 : arg1.IsWhole) (arg2 : Memref sig .tc .vmem S256x4096 .bf16) (harg2 : arg2.IsWhole) (arg3 : Memref sig .tc .vmem S256x4096 .fp8e5m2) (harg3 : arg3.IsWhole) (arg4 : Memref sig .tc .vmem S8x4096 .f32) (harg4 : arg4.IsWhole) (hc0 : cond0_0 i)
    (x0 : Vec F S1 .f32) (x1 : Vec F S256x4096 .bf16) : Vec F S256x4096 .fp8e5m2 :=
  VO0_2.read (Elt F) (VO0_2.writes (Elt F) VO0_2.junk (kernelRun0_A c i arg1 harg1 arg2 harg2 arg3 harg3 arg4 harg4 hc0 x0 x1).1)

/-- Case A's pieces for output 3 tile its block (2 stores of `S8x4096`, checked by the kernel's evaluation: Lib/Ring.lean `Piece.tiledL`, linear in the pieces, through a loop's `@[irreducible]` trip theorem too), so they cover it. -/
theorem cover0_A_3 (c : Dev nD) (i : grid0.Coords) (arg1 : Memref sig .tc .smem S1 .f32) (harg1 : arg1.IsWhole) (arg2 : Memref sig .tc .vmem S256x4096 .bf16) (harg2 : arg2.IsWhole) (arg3 : Memref sig .tc .vmem S256x4096 .fp8e5m2) (harg3 : arg3.IsWhole) (arg4 : Memref sig .tc .vmem S8x4096 .f32) (harg4 : arg4.IsWhole) (hc0 : cond0_0 i)
    (x0 : Vec F S1 .f32) (x1 : Vec F S256x4096 .bf16) (y : S8x4096.Idx) :
    ∃ pc ∈ (kernelRun0_A c i arg1 harg1 arg2 harg2 arg3 harg3 arg4 harg4 hc0 x0 x1).2.1, y ∈ pc.1.set :=
  View.cover_of_tiledL (kernelRun0_A c i arg1 harg1 arg2 harg2 arg3 harg3 arg4 harg4 hc0 x0 x1).2.1 S8x4096.size (by sl_kernel_rfl) y

/-- What case A leaves in output 3's staging buffer: its pieces read back over junk. -/
def out0_A_3 (c : Dev nD) (i : grid0.Coords) (arg1 : Memref sig .tc .smem S1 .f32) (harg1 : arg1.IsWhole) (arg2 : Memref sig .tc .vmem S256x4096 .bf16) (harg2 : arg2.IsWhole) (arg3 : Memref sig .tc .vmem S256x4096 .fp8e5m2) (harg3 : arg3.IsWhole) (arg4 : Memref sig .tc .vmem S8x4096 .f32) (harg4 : arg4.IsWhole) (hc0 : cond0_0 i)
    (x0 : Vec F S1 .f32) (x1 : Vec F S256x4096 .bf16) : Vec F S8x4096 .f32 :=
  VO0_3.read (Elt F) (VO0_3.writes (Elt F) VO0_3.junk (kernelRun0_A c i arg1 harg1 arg2 harg2 arg3 harg3 arg4 harg4 hc0 x0 x1).2.1)

/-- Case B's pieces for output 2 tile its block (1 store of `S256x4096`, checked by the kernel's evaluation: Lib/Ring.lean `Piece.tiledL`, linear in the pieces, through a loop's `@[irreducible]` trip theorem too), so they cover it. -/
theorem cover0_B_2 (c : Dev nD) (i : grid0.Coords) (arg1 : Memref sig .tc .smem S1 .f32) (harg1 : arg1.IsWhole) (arg2 : Memref sig .tc .vmem S256x4096 .bf16) (harg2 : arg2.IsWhole) (arg3 : Memref sig .tc .vmem S256x4096 .fp8e5m2) (harg3 : arg3.IsWhole) (arg4 : Memref sig .tc .vmem S8x4096 .f32) (harg4 : arg4.IsWhole) (hc0 : ¬cond0_0 i)
    (x0 : Vec F S1 .f32) (x1 : Vec F S256x4096 .bf16) (xo3 : Vec F S8x4096 .f32) (y : S256x4096.Idx) :
    ∃ pc ∈ (kernelRun0_B c i arg1 harg1 arg2 harg2 arg3 harg3 arg4 harg4 hc0 x0 x1 xo3).1, y ∈ pc.1.set :=
  View.cover_of_tiledL (kernelRun0_B c i arg1 harg1 arg2 harg2 arg3 harg3 arg4 harg4 hc0 x0 x1 xo3).1 S256x4096.size (by sl_kernel_rfl) y

/-- What case B leaves in output 2's staging buffer: its pieces read back over junk. -/
def out0_B_2 (c : Dev nD) (i : grid0.Coords) (arg1 : Memref sig .tc .smem S1 .f32) (harg1 : arg1.IsWhole) (arg2 : Memref sig .tc .vmem S256x4096 .bf16) (harg2 : arg2.IsWhole) (arg3 : Memref sig .tc .vmem S256x4096 .fp8e5m2) (harg3 : arg3.IsWhole) (arg4 : Memref sig .tc .vmem S8x4096 .f32) (harg4 : arg4.IsWhole) (hc0 : ¬cond0_0 i)
    (x0 : Vec F S1 .f32) (x1 : Vec F S256x4096 .bf16) (xo3 : Vec F S8x4096 .f32) : Vec F S256x4096 .fp8e5m2 :=
  VO0_2.read (Elt F) (VO0_2.writes (Elt F) VO0_2.junk (kernelRun0_B c i arg1 harg1 arg2 harg2 arg3 harg3 arg4 harg4 hc0 x0 x1 xo3).1)

/-- Case B's pieces for output 3 tile its block (1 store of `S8x4096`, checked by the kernel's evaluation: Lib/Ring.lean `Piece.tiledL`, linear in the pieces, through a loop's `@[irreducible]` trip theorem too), so they cover it. -/
theorem cover0_B_3 (c : Dev nD) (i : grid0.Coords) (arg1 : Memref sig .tc .smem S1 .f32) (harg1 : arg1.IsWhole) (arg2 : Memref sig .tc .vmem S256x4096 .bf16) (harg2 : arg2.IsWhole) (arg3 : Memref sig .tc .vmem S256x4096 .fp8e5m2) (harg3 : arg3.IsWhole) (arg4 : Memref sig .tc .vmem S8x4096 .f32) (harg4 : arg4.IsWhole) (hc0 : ¬cond0_0 i)
    (x0 : Vec F S1 .f32) (x1 : Vec F S256x4096 .bf16) (xo3 : Vec F S8x4096 .f32) (y : S8x4096.Idx) :
    ∃ pc ∈ (kernelRun0_B c i arg1 harg1 arg2 harg2 arg3 harg3 arg4 harg4 hc0 x0 x1 xo3).2.1, y ∈ pc.1.set :=
  View.cover_of_tiledL (kernelRun0_B c i arg1 harg1 arg2 harg2 arg3 harg3 arg4 harg4 hc0 x0 x1 xo3).2.1 S8x4096.size (by sl_kernel_rfl) y

/-- What case B leaves in output 3's staging buffer: its pieces read back over junk. -/
def out0_B_3 (c : Dev nD) (i : grid0.Coords) (arg1 : Memref sig .tc .smem S1 .f32) (harg1 : arg1.IsWhole) (arg2 : Memref sig .tc .vmem S256x4096 .bf16) (harg2 : arg2.IsWhole) (arg3 : Memref sig .tc .vmem S256x4096 .fp8e5m2) (harg3 : arg3.IsWhole) (arg4 : Memref sig .tc .vmem S8x4096 .f32) (harg4 : arg4.IsWhole) (hc0 : ¬cond0_0 i)
    (x0 : Vec F S1 .f32) (x1 : Vec F S256x4096 .bf16) (xo3 : Vec F S8x4096 .f32) : Vec F S8x4096 .f32 :=
  VO0_3.read (Elt F) (VO0_3.writes (Elt F) VO0_3.junk (kernelRun0_B c i arg1 harg1 arg2 harg2 arg3 harg3 arg4 harg4 hc0 x0 x1 xo3).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x4096 .fp8e5m2 × Vec F S8x4096 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk V c 0 ⟨0, hn⟩) (iblk V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk V c 0 ⟨0, hn⟩) (iblk V c 1 ⟨0, hn⟩))
  | n + 1, hn =>
    if h0 : (n + 1) % 18 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk V c 0 ⟨n + 1, hn⟩) (iblk V c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk V c 0 ⟨n + 1, hn⟩) (iblk V c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk V c 0 ⟨n + 1, hn⟩) (iblk V c 1 ⟨n + 1, hn⟩) (outsAt0 c n (Nat.lt_of_succ_lt hn)).2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk V c 0 ⟨n + 1, hn⟩) (iblk V c 1 ⟨n + 1, hn⟩) (outsAt0 c n (Nat.lt_of_succ_lt hn)).2)

/-- `outsAt0` at a point of case A: that case's contents. -/
theorem outsAt0_A (c : Dev nD) (t : Fin cfg0.N) (h0 : t.val % 18 = 0) :
    outsAt0 V c t.val t.isLt = (out0_A_2 c (grid0.coords t) (ms0_0 t) (hs0_0 t) (ms0_1 t) (hs0_1 t) (ms0_2 t) (hs0_2 t) (ms0_3 t) (hs0_3 t) ((hcond0_0 t).mpr h0) (iblk V c 0 t) (iblk V c 1 t), out0_A_3 c (grid0.coords t) (ms0_0 t) (hs0_0 t) (ms0_1 t) (hs0_1 t) (ms0_2 t) (hs0_2 t) (ms0_3 t) (hs0_3 t) ((hcond0_0 t).mpr h0) (iblk V c 0 t) (iblk V c 1 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 18 = 0) :
    outsAt0 V c t.val t.isLt = (out0_B_2 c (grid0.coords t) (ms0_0 t) (hs0_0 t) (ms0_1 t) (hs0_1 t) (ms0_2 t) (hs0_2 t) (ms0_3 t) (hs0_3 t) (fun h => h0 ((hcond0_0 t).mp h)) (iblk V c 0 t) (iblk V c 1 t) (outsAt0 V c (t.val - 1) (Nat.lt_of_le_of_lt (Nat.sub_le _ _) t.isLt)).2, out0_B_3 c (grid0.coords t) (ms0_0 t) (hs0_0 t) (ms0_1 t) (hs0_1 t) (ms0_2 t) (hs0_2 t) (ms0_3 t) (hs0_3 t) (fun h => h0 ((hcond0_0 t).mp h)) (iblk V c 0 t) (iblk V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dat (c : Dev nD) : Dat τ (Elt F) Unit ℕ (Pipeline.UD sig nD τ) ℕ cfg0 c where
  A w := V c (Pipeline.arrRef spec0 w)
  after w t := match w with
    | ⟨0, _⟩ => iblk V c 0 t
    | ⟨1, _⟩ => iblk V c 1 t
    | ⟨2, _⟩ => (outsAt0 V c t.val t.isLt).1
    | ⟨3, _⟩ => (outsAt0 V c t.val t.isLt).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Pipeline.arrRef spec0 w) := by
  dsimp only [dat]

/-- What the body leaves, window by window (the proof data's `match` reduced by `dsimp`). -/
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = (outsAt0 V c t.val t.isLt).1 := by dsimp only [dat]
theorem after0_3 (c : Dev nD) (t : Fin cfg0.N) : (dat V c).after 3 t = (outsAt0 V c t.val t.isLt).2 := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d
/-- At a point of case B output 3's current staging buffer holds what the body left at the point before: the point is
    not the first, the buffer was not written back between (`flush0_3`), the window is live and uncut (Lib/Pipeline/Frame.lean
    `Dat.before_out_kept`). -/
theorem before0_3_B (c : Dev nD) (t : Fin cfg0.N) (h0 : ¬t.val % 18 = 0) (d) :
    (dat V c).before 3 t d = (outsAt0 V c (t.val - 1) (Nat.lt_of_le_of_lt (Nat.sub_le _ _) t.isLt)).2 := by
  have hN : t.val < 18 := lt_of_lt_of_eq t.isLt (show cfg0.N = 18 from N_0)
  rw [Dat.before_out_kept _ 3 rfl t (by omega) (Bool.eq_false_iff.mpr fun h => by have := (flush0_3 _).mp h; dsimp only at this; omega)
    (fun _ => rfl) (fun _ _ => rfl)]
  dsimp only [dat]

/-! ## The body obligation, at a generic point -/

/-- What the body is called with at point `t` (Lib/Pipeline.lean `BodyObligation`'s precondition, the windows one by one), -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (ms0_0 t) fullShare ((dat V c).after 0 t)
    ∗ owns (c : Thread nD τ) (ms0_1 t) fullShare ((dat V c).after 1 t)
    ∗ owns (c : Thread nD τ) (ms0_2 t) fullShare ((dat V c).after 2 t)
    ∗ owns (c : Thread nD τ) (ms0_3 t) fullShare ((dat V c).after 3 t))

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat V c).Φ t.succ = (dat V c).Φ t.castSucc from rfl,
    show (dat V c).owesAt () t.succ = (dat V c).owesAt () t.castSucc from rfl,
    after0_0, after0_1, after0_2, after0_3]
  have hN : t.val < 18 := lt_of_lt_of_eq t.isLt (show cfg0.N = 18 from N_0)
  by_cases h0 : t.val % 18 = 0
  · rw [outsAt0_A V c t h0]
    unfold out0_A_2 out0_A_3; (try dsimp only)
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk V c 0 t) (iblk V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    unfold owns; iexists _; isplitr
    swap; · iexact H3
    ipureintro; exact View.read_writes_of_cover _ _ _ _ _ (cover0_A_3 c _ _ _ _ _ _ _ _ _ _ _ _)
  · rw [outsAt0_B V c t h0]
    simp only [before0_3_B V c t h0]
    unfold out0_B_2 out0_B_3; (try dsimp only)
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk V c 0 t) (iblk V c 1 t) _).2.2 Set.univ _)
    isplitl [H0]; · iexact H0
    isplitl [H1]; · iexact H1
    isplitl [H2]; · iexists _; iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _)
    unfold owns; iexists _; isplitr
    swap; · iexact H3
    ipureintro; exact View.read_writes_of_cover _ _ _ _ _ (cover0_B_3 c _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.KernelIdeal.Quant

end
-- ==== Proof.DhRing.lean ====
/-
  Region 1, the call `dh`: the names its body's copies out of scratch go by (the tiles, the pieces of the result, the two
  semaphore cells), the ring they make, and the result array the delivered pieces join to.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Frame
public import Idealize.ShloMosaic.Lib.Ring
public import Idealize.ShloMosaic.Lib.Batch
public import Idealize.ShloMosaic.Lib.Ring.WriteBehind
public import Idealize.ShloMosaic.Lib.DeliveryRep
public import Idealize.ShloMosaic.Lib.ValueLayout
public import Idealize.ShloMosaic.Lib.VecWindow
public import Idealize.ShloMosaic.Lib.Pointwise
public import Idealize.ShloMosaic.Lib.Pipeline.ValueKit
public import Idealize.ShloMosaic.Lib.Tactic
public import Idealize.ShloMosaic.Lib.WordCmp

@[expose] public section

set_option maxRecDepth 16384

noncomputable section

namespace Cert.KernelIdeal.Dh

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/- `V`: what core `c`'s buffers hold when the region is entered. -/
variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k1_h1`), from the grid coordinates (the skeleton's scalar
    chain substituted). -/
abbrev cond1_0 (i : grid1.Coords) : Prop := k1_cond1 i = 1#1
/-- It holds at the points from point 2 on — decided over the grid. -/
theorem hcond1_0 : ∀ t : Fin cfg1.N, cond1_0 (grid1.coords t) ↔ 2 ≤ t.val :=
  (by decide +kernel : ∀ t : Fin grid1.N, cond1_0 (grid1.coords t) ↔ 2 ≤ t.val)

/-- The condition of the body's `scf.if` 1 (`k1_h2`), from the grid coordinates (the skeleton's scalar
    chain substituted). -/
abbrev cond1_1 (i : grid1.Coords) : Prop := (Scalar.cmpi .ne (Scalar.extui (Scalar.cmpi .eq (Scalar.addi (Scalar.muli (BitVec.ofNat 32 (i 0).val) 6#32) (BitVec.ofNat 32 (i 1).val)) 0#32)) 0#32) = 1#1
/-- It holds at the first point only — decided over the grid. -/
theorem hcond1_1 : ∀ t : Fin cfg1.N, cond1_1 (grid1.coords t) ↔ t.val % 84 = 0 :=
  (by decide +kernel : ∀ t : Fin grid1.N, cond1_1 (grid1.coords t) ↔ t.val % 84 = 0)

/-- The condition of the body's `scf.if` 2 (`k1_h3`), from the grid coordinates (the skeleton's scalar
    chain substituted). -/
abbrev cond1_2 (i : grid1.Coords) : Prop := k1_cond3 i = 1#1
/-- It holds at the last point only — decided over the grid. -/
theorem hcond1_2 : ∀ t : Fin cfg1.N, cond1_2 (grid1.coords t) ↔ t.val % 84 = 83 :=
  (by decide +kernel : ∀ t : Fin grid1.N, cond1_2 (grid1.coords t) ↔ t.val % 84 = 83)

/-! ## The kernel body on any staging memrefs: a subtype the run finds -/

/-- One staging buffer of output window 5, through which its contents are stated (`View.read_writes_of_cover`: the
    choice does not matter). -/
abbrev VO1_5 : View sig .tc .vmem S8x1024 .f32 := (Memref.whole cc1_stg5_0 : Memref sig .tc .vmem S8x1024 .f32).view
/-- Each window's current staging memref at point `t`, spelled as the pipeline passes it (`bodyAt1`), and its wholeness. -/
abbrev ms1_0 (t : Fin cfg1.N) : Memref sig .tc .smem S2 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S768x4096 .fp8e5m2 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x4096 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S768x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S768x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S8x1024 .f32 := win1_5.stage (cfg1.slots t 5)
abbrev hs1_5 (t : Fin cfg1.N) : (ms1_5 t).IsWhole := hstage1_5 ((cfg1.slots t 5).cast nbuf1_5)
/-- The scratch operands: whole scoped buffers of the kernel's own, passed beside the windows. -/
abbrev scM1_0 : Memref sig .tc .vmem S2x2x768x1024 .fp8e5m2 := Memref.whole cc1_scratch0
/-- The results left in HBM that the body's own copies out of scratch write, whole. -/
abbrev hbM1_0 : Memref sig .tc .hbm S4608x28672 .fp8e5m2 := Memref.whole main_v10_0
/-- Memref `M`'s buffer on core `c`: its contents type, and it held whole at `f` — behind this abbreviation, so that the
    run's rewriting of the goal leaves `Memref.view` intact (the form the executor reads a held buffer in). -/
abbrev HbBuf1 (c : Dev nD) {sp : Space} {S : Shape} {e : EltTy} (M : Memref sig .tc sp S e) : Type := Buf (Elt F) (M.view.loc (c : Thread nD τ))
abbrev hbPt1 (c : Dev nD) {sp : Space} {S : Shape} {e : EltTy} (M : Memref sig .tc sp S e) (f : HbBuf1 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem1 : Fin 2 → SemLoc sig := fun j => (![SemLoc.dma 16, SemLoc.dma 17] : Fin 2 → SemLoc sig) j
theorem ownSemFacts1 : Pipeline.OwnSemFacts spec1 osem1 := by decide
/-- The cells at zero, listed. -/
theorem ownSems01_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), SemLoc.dma 16) 0 ∗ semVal ((c : Thread nD τ), SemLoc.dma 17) 0) := by
  rw [Pipeline.ownSems0_eq_of_list c osem1 [0, 1] (by decide) (by decide)]; rfl
/-! ## Write ring 0 of kernel 0: `main_v10_0` written behind through the 2 × 2 tiles of `cc1_scratch0` on the cells of `cc1_scratch1`, each copy waited 2 steps later, in 84 steps (rings.py's fit; Lib/Ring/WriteBehind.lean) -/

instance : NeZero grid1.N := ⟨by rw [N_1]; decide⟩
theorem inb_wtile (g : Fin 2) (m : Fin 2) : ∀ a, (![g.val, m.val, 0, 0] : Fin 4 → Nat) a + S1x1x768x1024.size a ≤ S2x2x768x1024.size a := by
  have := g.isLt; have := m.isLt; intro a; fin_cases a <;> simp <;> omega
theorem inb_wpiece (u : Fin 84) (m : Fin 2) : ∀ a, (![768 * (u.val % 6), 14336 * m.val + 1024 * (u.val / 6)] : Fin 2 → Nat) a + S768x1024.size a ≤ S4608x28672.size a := by
  have := u.isLt; have := m.isLt; intro a; fin_cases a <;> simp <;> omega
theorem inb_wcell (g : Fin 2) : ∀ a, (![g.val] : Fin 1 → Nat) a + S1.size a ≤ S2.size a := by
  have := g.isLt; intro a; fin_cases a <;> simp <;> omega
/-- Tile (g, m) of the ring — member m of group g —, spelt as the body's copies out spell their SOURCE, at offsets in g and m (`tile_form`). -/
def wtile (g : Fin 2) (m : Fin 2) : Memref sig .tc .vmem S768x1024 .fp8e5m2 :=
  (scM1_0.slice (Rect.unit (s := S2x2x768x1024) ![g.val, m.val, 0, 0] S1x1x768x1024.size (inb_wtile g m)) (fun _ => rfl)).squeeze S768x1024 squeezes_S1x1x768x1024_S768x1024
/-- Piece (u, m) of the result: what step u's copy of member m writes, spelt as the copies spell their DESTINATION (`piece_form`). -/
def wpiece (u : Fin 84) (m : Fin 2) : Memref sig .tc .hbm S768x1024 .fp8e5m2 :=
  hbM1_0.slice (Rect.unit (s := S4608x28672) ![768 * (u.val % 6), 14336 * m.val + 1024 * (u.val / 6)] S768x1024.size (inb_wpiece u m)) (fun _ => rfl)
/-- Cell g of `cc1_scratch1`, the one ALL of group g's copies are counted on, spelt as the body spells a cell; its number in the pool. -/
def wcellA (g : Fin 2) : DmaSems sig S_ := (cc1_scratch1.slice (Rect.unit (s := S2) ![g.val] S1.size (inb_wcell g))).squeeze S_ squeezes_S1_S_
abbrev wcellR (g : Fin 2) : SemLoc sig := SemLoc.dma (wcellA g).sem
theorem wcellR_0 : wcellR 0 = SemLoc.dma 16 := by decide
theorem wcellR_1 : wcellR 1 = SemLoc.dma 17 := by decide

section WRing0_0
variable (c : Dev nD) (X : Fin 84 → Fin 2 → Vec F S768x1024 .fp8e5m2)
/-- The families the write ring is stated over: tile (g, m) held at `e`; cell g (the group's one) at zero; piece (u, m) held at `f`;
    copy m's DELIVERY, the piece and the tile back, both under binders (a frame names no contents); a group's copies in
    flight as one BATCH on its cell (Lib/Batch.lean). -/
abbrev wtileP (g : Fin 2) (m : Fin 2) (e : HbBuf1 (F := F) c (wtile g m)) : sProp 𝕄 := (wtile g m).view.loc (c : Thread nD τ) ↦[(wtile g m).view.set]{fullShare} e
abbrev wcellP (g : Fin 2) : sProp 𝕄 := semVal ((c : Thread nD τ), wcellR g) 0
abbrev wpieceP (u : Fin 84) (m : Fin 2) (f : HbBuf1 (F := F) c (wpiece u m)) : sProp 𝕄 := (wpiece u m).view.loc (c : Thread nD τ) ↦[(wpiece u m).view.set]{fullShare} f
/-- One copy's transfer amount on its group's cell (every copy's: rings.py checked the pieces credit alike, the executor checks each by evaluation). -/
abbrev wN : ℕ := (wpiece 0 0).view.amount (wcellR 0)
/-- Copy m's DELIVERY at step u from group g, loose: its piece at some contents, its tile back at some contents (a frame names
    neither; the executor's issue step shows a copy delivers it, half by half under the binder). -/
abbrev wdl (u : Fin 84) (g : Fin 2) (m : Fin 2) : sProp 𝕄 := iprop(wpieceP c u m ((wpiece u m).view.rep (X u m)) ∗ wtileP c g m ((wtile g m).view.rep (X u m)))
/-- The ORDER the body issues a group's copies in: the j-th issued is member `wsig j` (`WRingFit.sigma`; the
    identity when the copies go in the tiles' order). -/
abbrev wsig : Fin 2 → Fin 2 := ![0, 1]
/-- Step u's deliveries from group g IN THE ORDER THE BODY ISSUES the group's copies (Lib/Batch.lean numbers a batch's transfers so); a
    function application, so that the executor's issue step sees delivery j's two binders at its head by reduction alone. -/
abbrev wdlv (u : Fin 84) (g : Fin 2) : Fin 2 → sProp 𝕄 := fun j => wdl c X u g (wsig j)
/-- Group g IN FLIGHT with step u's copies: Lib/Batch.lean's batch of the 2 copies counted on the group's cell, all issued, nothing consumed. -/
abbrev winfl (g : Fin 2) (u : Fin 84) : sProp 𝕄 := Transfers.Batch countersEmb (c : Thread nD τ) (wcellR g) default wN (wdlv c X u g) 2 0
/-- A points-to is storable along the resources' factor, at any signature and algebra: stated over variables, so that citing it
    unfolds nothing of this program (as ringtext.py states it for a slot of parts). -/
theorem wstorable_pt {nD' : Nat} {τ' : Topo} {sg : RefSig} {Ix' : Type} [DecidableEq Ix'] {Val' : EltTy → Type} {Name' : Type} [DecidableEq Name']
    {U' : Type} [URA U'] {Lvl' : Type} (ℓ : Loc nD' τ' sg) (I : Finset (Idx ℓ)) (q : PosShare TreeShare) (f : Buf Val' ℓ) :
    Storable (upEmb : UEmb _ (MT nD' τ' sg Ix' Val' Name' U' Lvl')) (ℓ ↦[I]{q} f) := inferInstance
/-- The deliveries are storable (what `Transfers.batch_alloc'` asks), each a `Storable.sep` of two points-tos under a binder each. -/
theorem wstorable_dlv (u : Fin 84) (g : Fin 2) : ∀ j, Storable (upEmb : UEmb _ 𝕄) (wdlv (F := F) c X u g j) := by
  intro j; fin_cases j <;> exact @Storable.sep _ _ _ _ _ _ _ _ (wstorable_pt _ _ _ _) (wstorable_pt _ _ _ _)
/-- Lib/Ring/WriteBehind.lean's ROLE families: group g FREE (its cell at zero, its tiles at anything), group g IN FLIGHT with step u's
    copies (the batch), step u's pieces HOME (passed for the pieces ahead of the ring and behind it alike). -/
abbrev wfree (g : Fin 2) : sProp 𝕄 := iprop(wcellP c g ∗ (∃ e, wtileP c g 0 e) ∗ ∃ e, wtileP c g 1 e)
abbrev whome (u : Fin 84) : sProp 𝕄 := iprop((∃ f, wpieceP c u 0 f) ∗ ∃ f, wpieceP c u 1 f)
/-- Step u's pieces written: each at the contents `X` its copy delivers. -/
abbrev wdone (u : Fin 84) : sProp 𝕄 := iprop(wpieceP c u 0 ((wpiece u 0).view.rep (X u 0)) ∗ wpieceP c u 1 ((wpiece u 1).view.rep (X u 1)))
/-- The write ring before its step `k` (Lib/Ring/WriteBehind.lean `AtBΦ` at depth 2, the steps between a copy and its wait: before the last step `AtB`, past it `AtBEnd`). -/
def wringAt (k : ℕ) : sProp 𝕄 := Ring.AtBΦ 2 (wfree c) (winfl c X) (whome c) (wdone c X) k
/-- The role families as conjunctions over the members' index set (what `groups_of_parts` and `bigSep_univ_prod` produce). -/
theorem wfree_eq (g : Fin 2) : iprop(wcellP (F := F) c g ∗ bigSep Finset.univ (fun m : Fin 2 => iprop(∃ e, wtileP (F := F) c g m e))) = wfree c g := by
  rw [BI.bigSep_eq_bigSepL_of_eq [0, 1] (by decide) (by decide)]; rfl
theorem whome_eq (u : Fin 84) : (bigSep Finset.univ (fun m : Fin 2 => iprop(∃ f, wpieceP (F := F) c u m f)) : sProp 𝕄) = whome c u := by
  rw [BI.bigSep_eq_bigSepL_of_eq [0, 1] (by decide) (by decide)]; rfl
omit [FloatOps F] in
theorem wcellP_0 : wcellP (F := F) c 0 = semVal ((c : Thread nD τ), SemLoc.dma 16) 0 := congrArg (fun x => (semVal ((c : Thread nD τ), x) 0 : sProp 𝕄)) wcellR_0
omit [FloatOps F] in
theorem wcellP_1 : wcellP (F := F) c 1 = semVal ((c : Thread nD τ), SemLoc.dma 17) 0 := congrArg (fun x => (semVal ((c : Thread nD τ), x) 0 : sProp 𝕄)) wcellR_1
end WRing0_0

/-! ### The tiles: boxes of one size at box offsets, pairwise disjoint by their box index (Lib/Ring/WriteBehind.lean `boxes_disjoint`: a left inverse, decided) -/

abbrev wtileOff (i : Fin 2 × Fin 2) : Fin 4 → Nat := ![i.1.val, i.2.val, 0, 0]
theorem inb_wtile' (i : Fin 2 × Fin 2) : ∀ a, wtileOff i a + S1x1x768x1024.size a ≤ S2x2x768x1024.size a := inb_wtile i.1 i.2
abbrev wtileSet (i : Fin 2 × Fin 2) : Finset S2x2x768x1024.Idx := (Rect.unit (s := S2x2x768x1024) (wtileOff i) S1x1x768x1024.size (inb_wtile' i)).set
theorem wtileSet_eq (g : Fin 2) (m : Fin 2) : (wtile g m).view.set = wtileSet (g, m) := by
  simp only [wtile, Memref.view_squeeze, View.set_reshape]; exact View.set_slice_whole _ _
/-- tile i's box index per axis (offset / extent), and the tile at a box index (its left inverse). -/
def wtileIx (i : Fin 2 × Fin 2) : Fin 4 → ℕ := ![i.1.val, i.2.val, 0, 0]
def wtileUn (v : Fin 4 → ℕ) : Fin 2 × Fin 2 := (Fin.ofNat 2 (v 0), Fin.ofNat 2 (v 1))
theorem wtileUn_left : ∀ i : Fin 2 × Fin 2, wtileUn (wtileIx i) = i := by decide +kernel
theorem wtiles_disjoint (i i' : Fin 2 × Fin 2) (h : i ≠ i') : Disjoint (wtileSet i) (wtileSet i') :=
  Ring.boxes_disjoint (s := S2x2x768x1024) S1x1x768x1024.size wtileOff inb_wtile' wtileIx
    (fun i a => by fin_cases a <;> simp [wtileOff, wtileIx] <;> omega) wtileUn wtileUn_left i i' h

/-! ### The pieces: boxes of one size at box offsets, pairwise disjoint by their box index (Lib/Ring/WriteBehind.lean `boxes_disjoint`: a left inverse, decided) -/

abbrev wpieceOff (i : Fin 84 × Fin 2) : Fin 2 → Nat := ![768 * (i.1.val % 6), 14336 * i.2.val + 1024 * (i.1.val / 6)]
theorem inb_wpiece' (i : Fin 84 × Fin 2) : ∀ a, wpieceOff i a + S768x1024.size a ≤ S4608x28672.size a := inb_wpiece i.1 i.2
abbrev wpieceSet (i : Fin 84 × Fin 2) : Finset S4608x28672.Idx := (Rect.unit (s := S4608x28672) (wpieceOff i) S768x1024.size (inb_wpiece' i)).set
theorem wpieceSet_eq (u : Fin 84) (m : Fin 2) : (wpiece u m).view.set = wpieceSet (u, m) := by
  simp only [wpiece]; exact View.set_slice_whole _ _
/-- piece i's box index per axis (offset / extent), and the piece at a box index (its left inverse). -/
def wpieceIx (i : Fin 84 × Fin 2) : Fin 2 → ℕ := ![i.1.val % 6, 14 * i.2.val + i.1.val / 6]
def wpieceUn (v : Fin 2 → ℕ) : Fin 84 × Fin 2 := (Fin.ofNat 84 (6 * (v 1 % 14) + v 0), Fin.ofNat 2 (v 1 / 14))
theorem wpieceUn_left : ∀ i : Fin 84 × Fin 2, wpieceUn (wpieceIx i) = i := by decide +kernel
theorem wpieces_disjoint (i i' : Fin 84 × Fin 2) (h : i ≠ i') : Disjoint (wpieceSet i) (wpieceSet i') :=
  Ring.boxes_disjoint (s := S4608x28672) S768x1024.size wpieceOff inb_wpiece' wpieceIx
    (fun i a => by fin_cases a <;> simp [wpieceOff, wpieceIx] <;> omega) wpieceUn wpieceUn_left i i' h

/-! ### What the launch hands the write ring, and takes back -/

section WInOut0_0
variable (c : Dev nD)
theorem wtileP_eq (g : Fin 2) (m : Fin 2) (e) : wtileP (F := F) c g m e = (((c : Thread nD τ).loc cc1_scratch0) ↦[wtileSet (g, m)]{fullShare} e : sProp 𝕄) := by
  unfold wtileP; rw [wtileSet_eq]; rfl
theorem wpieceP_eq (u : Fin 84) (m : Fin 2) (f) : wpieceP (F := F) c u m f = (((c : Thread nD τ).loc main_v10_0) ↦[wpieceSet (u, m)]{fullShare} f : sProp 𝕄) := by
  unfold wpieceP; rw [wpieceSet_eq]; rfl
/-- The scratch's elements outside every tile, and the result's outside every piece: carried beside the ring at some contents, handed
    to no run (no statement of the body names them). -/
abbrev wtileSpare : sProp 𝕄 := iprop(∃ f : Buf (Elt F) ((c : Thread nD τ).loc cc1_scratch0), ((c : Thread nD τ).loc cc1_scratch0) ↦[Finset.univ \ Finset.univ.biUnion wtileSet]{fullShare} f)
/-- the scratch whole at anything is its tiles at something each and the spare elements; the result likewise its pieces; and back. -/
theorem wtiles_in : iprop(∃ d, owns (c : Thread nD τ) scM1_0 fullShare d) ⊢ (iprop(bigSep Finset.univ (fun i : Fin 2 × Fin 2 => iprop(∃ e, wtileP (F := F) c i.1 i.2 e)) ∗ wtileSpare c) : sProp 𝕄) := by
  simp only [scM1_0, owns_whole]
  exact Ring.pieces_split_spare (U := Pipeline.UD sig nD τ) (ℓ := (c : Thread nD τ).loc cc1_scratch0) (q := fullShare) wtileSet wtiles_disjoint
    (fun i e => wtileP c i.1 i.2 e) (fun i e => wtileP_eq c i.1 i.2 e)
theorem wtiles_out : (iprop(bigSep Finset.univ (fun i : Fin 2 × Fin 2 => iprop(∃ e, wtileP (F := F) c i.1 i.2 e)) ∗ wtileSpare c) : sProp 𝕄) ⊢ iprop(∃ d, owns (c : Thread nD τ) scM1_0 fullShare d) := by
  simp only [scM1_0, owns_whole]
  exact Ring.pieces_join_spare (U := Pipeline.UD sig nD τ) (ℓ := (c : Thread nD τ).loc cc1_scratch0) (q := fullShare) wtileSet wtiles_disjoint
    (fun i e => wtileP c i.1 i.2 e) (fun i e => wtileP_eq c i.1 i.2 e)
theorem wpieces_in : iprop(∃ f, hbPt1 c hbM1_0 f) ⊢ (bigSep Finset.univ (fun i : Fin 84 × Fin 2 => iprop(∃ f, wpieceP (F := F) c i.1 i.2 f)) : sProp 𝕄) := by
  unfold hbPt1
  exact (Ring.pieces_split_spare (U := Pipeline.UD sig nD τ) (ℓ := (c : Thread nD τ).loc main_v10_0) (q := fullShare) wpieceSet wpieces_disjoint
    (fun i f => wpieceP c i.1 i.2 f) (fun i f => wpieceP_eq c i.1 i.2 f)).trans (by iintro ⟨H, -⟩; iexact H)
/-- The ring's cells at zero, listed as the launch lists them, are the family over the groups. -/
theorem wcells_eq : (bigSep Finset.univ (fun g : Fin 2 => wcellP (F := F) c g) : sProp 𝕄) = iprop(semVal ((c : Thread nD τ), SemLoc.dma 16) 0 ∗ semVal ((c : Thread nD τ), SemLoc.dma 17) 0) := by
  rw [BI.bigSep_eq_bigSepL_of_eq [0, 1] (by decide) (by decide)]; simp only [BI.bigSepL_cons_cons, BI.bigSepL_singleton, wcellP_0, wcellP_1]; rfl
/-- the cells over the groups and the tiles over (group, member) regrouped by group are the groups free; the pieces over (step, member), the steps home -/
theorem wfrees_eq : iprop(bigSep Finset.univ (fun g : Fin 2 => wcellP (F := F) c g) ∗ bigSep Finset.univ (fun i : Fin 2 × Fin 2 => iprop(∃ e, wtileP (F := F) c i.1 i.2 e))) = (bigSep Finset.univ (wfree c) : sProp 𝕄) := by
  rw [BI.bigSep_univ_prod (fun i : Fin 2 × Fin 2 => iprop(∃ e, wtileP (F := F) c i.1 i.2 e))]
  exact (BI.bigSep_sep Finset.univ (fun g : Fin 2 => wcellP (F := F) c g) (fun g => bigSep Finset.univ fun m => iprop(∃ e, wtileP (F := F) c g m e))).symm.trans (BI.bigSep_congr fun g _ => wfree_eq c g)
theorem whomes_eq : (bigSep Finset.univ (fun i : Fin 84 × Fin 2 => iprop(∃ f, wpieceP (F := F) c i.1 i.2 f)) : sProp 𝕄) = bigSep Finset.univ (whome c) := by
  rw [BI.bigSep_univ_prod]; exact BI.bigSep_congr fun u _ => whome_eq c u
end WInOut0_0

/-- INTO THE WRITE RING: the scratch whole, the ring's cells at zero and the result whole at some contents are the
    ring before step 0, with the spare elements of the scratch beside it. -/
theorem wring_in (c : Dev nD) (X : Fin 84 → Fin 2 → Vec F S768x1024 .fp8e5m2) :
    iprop((∃ d, owns (c : Thread nD τ) scM1_0 fullShare d) ∗ (semVal ((c : Thread nD τ), SemLoc.dma 16) 0 ∗ semVal ((c : Thread nD τ), SemLoc.dma 17) 0) ∗ (∃ f, hbPt1 (F := F) c hbM1_0 f))
      ⊢ iprop(wringAt (F := F) c X 0 ∗ wtileSpare c) := by
  unfold wringAt; rw [Ring.AtBΦ_lt _ _ _ _ _ 0 (by decide), Ring.AtB_zero]; unfold Ring.AtB₀
  rw [← whomes_eq, ← wfrees_eq, wcells_eq]
  iintro ⟨HS, HQ, HD⟩
  ihave HS' := (wtiles_in (F := F) c) $$ HS
  icases HS' with ⟨HT, HTsp⟩
  ihave HP := (wpieces_in (F := F) c) $$ HD
  isplitr [HTsp]
  · isplitl [HP]
    · iexact HP
    isplitl [HQ]
    · iexact HQ
    iexact HT
  iexact HTsp

/-- The result array as the written pieces make it: entry (r, k) lies in the piece of member k / 14336 written at
    step 6 · (k mod 14336 / 1024) + r / 768. -/
def dhArr (X : Fin 84 → Fin 2 → Vec F S768x1024 .fp8e5m2) : S4608x28672.Idx → Elt F .fp8e5m2 := fun y =>
  X (Fin.ofNat 84 (6 * ((y 1).val % 14336 / 1024) + (y 0).val / 768)) (Fin.ofNat 2 ((y 1).val / 14336))
    (ix2 (Fin.ofNat 768 ((y 0).val % 768)) (Fin.ofNat 1024 ((y 1).val % 1024)))

/-- Each piece of `dhArr X` reads the block its copy delivered. -/
theorem read_wpiece (c : Dev nD) (X : Fin 84 → Fin 2 → Vec F S768x1024 .fp8e5m2) (u : Fin 84) (m : Fin 2) :
    (wpiece u m).view.read (Elt F) (show Buf (Elt F) ((wpiece u m).view.loc (c : Thread nD τ)) from dhArr X) = X u m := by
  funext i
  have hu := u.isLt; have hm := m.isLt
  have h0 : (i 0).val < 768 := (i 0).isLt
  have h1 : (i 1).val < 1024 := (i 1).isLt
  have e0 : ((show S4608x28672.Idx from (wpiece u m).view.emb i) 0).val = 768 * (u.val % 6) + (i 0).val := by
    show (768 * (u.val % 6)) + 1 * (i 0).val = _; omega
  have e1 : ((show S4608x28672.Idx from (wpiece u m).view.emb i) 1).val = 14336 * m.val + 1024 * (u.val / 6) + (i 1).val := by
    show (14336 * m.val + 1024 * (u.val / 6)) + 1 * (i 1).val = _; omega
  have q0 : Fin.ofNat 84 (6 * ((14336 * m.val + 1024 * (u.val / 6) + (i 1).val) % 14336 / 1024) + (768 * (u.val % 6) + (i 0).val) / 768) = u := by
    apply Fin.ext; simp only [Fin.ofNat]; omega
  have q1 : Fin.ofNat 2 ((14336 * m.val + 1024 * (u.val / 6) + (i 1).val) / 14336) = m := by
    apply Fin.ext; simp only [Fin.ofNat]; omega
  have q2 : ix2 (Fin.ofNat 768 ((768 * (u.val % 6) + (i 0).val) % 768)) (Fin.ofNat 1024 ((14336 * m.val + 1024 * (u.val / 6) + (i 1).val) % 1024)) = i := by
    exact (congrArg₂ ix2 (Fin.ext (by simp only [Fin.ofNat]; omega) : _ = (show Fin 768 from i 0)) (Fin.ext (by simp only [Fin.ofNat]; omega) : _ = (show Fin 1024 from i 1))).trans (ix2_eta i)
  rw [View.read_apply]
  show dhArr X (show S4608x28672.Idx from (wpiece u m).view.emb i) = _
  unfold dhArr
  rw [e0, e1, q0, q1]
  exact congrArg (X u m) q2

theorem wpieces_cover : Finset.univ.biUnion wpieceSet = Finset.univ := by
  ext x
  simp only [Finset.mem_biUnion, Finset.mem_univ, true_and, iff_true]
  have h0 : (x 0).val < 4608 := (x 0).isLt
  have h1 : (x 1).val < 28672 := (x 1).isLt
  refine ⟨(⟨6 * ((x 1).val % 14336 / 1024) + (x 0).val / 768, by omega⟩, ⟨(x 1).val / 14336, by omega⟩), ?_⟩
  rw [Rect.mem_set_unit]
  intro a
  fin_cases a
  · show 768 * ((6 * ((x 1).val % 14336 / 1024) + (x 0).val / 768) % 6) ≤ (x 0).val ∧ (x 0).val < 768 * ((6 * ((x 1).val % 14336 / 1024) + (x 0).val / 768) % 6) + 768
    omega
  · show 14336 * ((x 1).val / 14336) + 1024 * ((6 * ((x 1).val % 14336 / 1024) + (x 0).val / 768) / 6) ≤ (x 1).val ∧ (x 1).val < 14336 * ((x 1).val / 14336) + 1024 * ((6 * ((x 1).val % 14336 / 1024) + (x 0).val / 768) / 6) + 1024
    omega

/-- The pieces at what their copies delivered join to the result at `dhArr X`. -/
theorem wdones_out (c : Dev nD) (X : Fin 84 → Fin 2 → Vec F S768x1024 .fp8e5m2) :
    (bigSep Finset.univ (wdone (F := F) c X) : sProp 𝕄) ⊢ hbPt1 (F := F) c hbM1_0 (dhArr X) := by
  have e : ∀ u m, wpieceP (F := F) c u m ((wpiece u m).view.rep (X u m)) = (((c : Thread nD τ).loc main_v10_0) ↦[wpieceSet (u, m)]{fullShare} dhArr X : sProp 𝕄) := fun u m =>
    ((congrArg (fun z => wpieceP (F := F) c u m ((wpiece u m).view.rep z)) (read_wpiece c X u m)).symm.trans
      (pointsTo_rep (c := (c : Thread nD τ)) (wpiece u m) (dhArr X) fullShare).symm).trans (wpieceP_eq c u m _)
  have e2 : ∀ u, wdone (F := F) c X u = bigSep Finset.univ (fun m : Fin 2 => (((c : Thread nD τ).loc main_v10_0) ↦[wpieceSet (u, m)]{fullShare} dhArr X : sProp 𝕄)) := fun u => by
    rw [BI.bigSep_eq_bigSepL_of_eq [0, 1] (by decide) (by decide)]
    unfold wdone; rw [e u 0, e u 1]; rfl
  rw [BI.bigSep_congr (fun u _ => e2 u), ← BI.bigSep_univ_prod (fun i : Fin 84 × Fin 2 => (((c : Thread nD τ).loc main_v10_0) ↦[wpieceSet i]{fullShare} dhArr X : sProp 𝕄))]
  have h := Ring.pointsTo_blocks (Ix := Unit) (Name := ℕ) (U := Pipeline.UD sig nD τ) (Lvl := ℕ) (ℓ := (c : Thread nD τ).loc main_v10_0) (q := fullShare) wpieceSet wpieces_disjoint wpieces_cover (dhArr X)
  unfold hbPt1
  exact Entails.of_eq h.symm

/-- OUT OF THE WRITE RING: after the last step's drain the scratch and the cells again, and the result at `dhArr X`. -/
theorem wring_out (c : Dev nD) (X : Fin 84 → Fin 2 → Vec F S768x1024 .fp8e5m2) :
    iprop(wringAt (F := F) c X 84 ∗ wtileSpare c)
      ⊢ iprop((∃ d, owns (c : Thread nD τ) scM1_0 fullShare d) ∗ (semVal ((c : Thread nD τ), SemLoc.dma 16) 0 ∗ semVal ((c : Thread nD τ), SemLoc.dma 17) 0) ∗ hbPt1 (F := F) c hbM1_0 (dhArr X)) := by
  unfold wringAt; rw [Ring.AtBΦ_ge _ _ _ _ _ 84 (by decide)]; unfold Ring.AtBEnd
  rw [← wfrees_eq, wcells_eq]
  iintro ⟨⟨HP, HQ, HT⟩, HTsp⟩
  isplitl [HT HTsp]
  · iapply (wtiles_out (F := F) c)
    isplitl [HT]
    · iexact HT
    iexact HTsp
  isplitl [HQ]
  · iexact HQ
  iapply (wdones_out (F := F) c X)
  iexact HP

/-- A tile held at contents that read `Y` is held at the contents `Y` stands for. -/
theorem wtile_rep (c : Dev nD) (g m : Fin 2) (Y : Vec F S768x1024 .fp8e5m2) :
    iprop(∃ f, wtileP (F := F) c g m f ∗ ⌜(wtile g m).view.read (Elt F) f = Y⌝) ⊢ (wtileP (F := F) c g m ((wtile g m).view.rep Y) : sProp 𝕄) := by
  iintro ⟨%f, H, %h⟩
  ihave H := (Entails.of_eq ((pointsTo_rep (c := (c : Thread nD τ)) (wtile g m) f fullShare).trans (congrArg (fun z => wtileP (F := F) c g m ((wtile g m).view.rep z)) h))) $$ H
  iexact H

/-- A tile read after a block is stored into it at its own place: the block, its unit axes dropped. -/
theorem wtile_store (g m : Fin 2) {off : Fin 4 → ℕ} (inb : ∀ a, off a + S1x1x768x1024.size a ≤ S2x2x768x1024.size a) (h : off = ![g.val, m.val, 0, 0])
    (f : (scM1_0.access (Rect.unit (s := S2x2x768x1024) off S1x1x768x1024.size inb)).ty.Contents (Elt F)) (v : Vec F S1x1x768x1024 .fp8e5m2) :
    (wtile g m).view.read (Elt F) ((scM1_0.access (Rect.unit (s := S2x2x768x1024) off S1x1x768x1024.size inb)).write (Elt F) f v Finset.univ)
      = fun i => v (ix4 0 0 (i 0) (i 1)) := by
  funext i
  have h1 := congrFun (Memref.read_slice_write (Val := Elt F) scM1_0 inb h (inb_wtile g m) f v) (ix4 0 0 (i 0) (i 1))
  refine Eq.trans ?_ h1
  show View.read (Elt F) (scM1_0.slice (Rect.unit (s := S2x2x768x1024) ![g.val, m.val, 0, 0] S1x1x768x1024.size (inb_wtile g m)) (fun _ => rfl)).view _ (Shape.reshapeEquiv squeezes_S1x1x768x1024_S768x1024.numel_eq i) = _
  refine congrArg _ ?_
  refine (congrArg _ (ix2_eta i).symm).trans ?_
  exact ValueIdx.reshapeEquiv_ix2_11ab _ _ _

/-- One word of the two scale words, as a load reads it. -/
theorem word_read (m : Memref sig .tc .smem S2 .f32) (hm : m.IsWhole) (x : Vec F S2 .f32) {off : Fin 1 → ℕ} (k : Fin 2) (hk : off 0 = k.val)
    (inb : ∀ a, off a + S1.size a ≤ S2.size a) (h : 0 < (Rect.unit (s := S2) off S1.size inb).shape.numel) :
    View.readAt (Elt F) m.view (Rect.unit (s := S2) off S1.size inb).toLoadRect (hm.unread x) (Shape.Idx.first h) = x (ix1 k) := by
  rw [View.readAt_apply, hm.read_unread]
  refine congrArg x (funext fun a => Fin.ext ?_)
  obtain rfl : a = 0 := Subsingleton.elim _ _
  show off 0 + 1 * 0 = k.val
  omega

/-- A load of a whole block reads the block. -/
theorem block_read {sp : Space} {s : Shape} {e : EltTy} (m : Memref sig .tc sp s e) (hm : m.IsWhole) (x : Vec F s e) {off : Fin s.rank → ℕ}
    (inb : ∀ a, off a + s.size a ≤ s.size a) : View.readAt (Elt F) m.view (Rect.unit off s.size inb).toLoadRect (hm.unread x) = x :=
  (View.readAt_full _ _ inb).trans (hm.read_unread x)

/-- What a copy of a tile held at `X u m` delivers is the value delivery. -/
theorem wdeliver (c : Dev nD) (X : Fin 84 → Fin 2 → Vec F S768x1024 .fp8e5m2) (u : Fin 84) (g m : Fin 2) (f : HbBuf1 (F := F) c (wpiece u m))
    (p : Vec F S768x1024 .fp8e5m2) (hp : p = (wtile g m).view.read (Elt F) ((wtile g m).view.rep (X u m))) :
    iprop(wpieceP (F := F) c u m ((wpiece u m).view.writes (Elt F) f [⟨Rect.whole S768x1024, p⟩]) ∗ wtileP (F := F) c g m ((wtile g m).view.rep (X u m))) ⊢ (wdl (F := F) c X u g m : sProp 𝕄) := by
  rw [View.read_rep] at hp
  subst hp
  exact delivery_rep (c : Thread nD τ) (wtile g m) (wpiece u m) fullShare fullShare _ _ _ (X u m) (View.read_rep _ _).symm (View.read_rep _ _)

theorem wdeliver0 (c : Dev nD) (X : Fin 84 → Fin 2 → Vec F S768x1024 .fp8e5m2) (u : Fin 84) (g : Fin 2) (f : HbBuf1 (F := F) c (wpiece u 0))
    (p : Vec F S768x1024 .fp8e5m2) (hp : p = ReadAs.same.apply ((wtile g 0).view.read (Elt F) ((wtile g 0).view.rep (X u 0)))) :
    iprop(wpieceP (F := F) c u 0 ((wpiece u 0).view.writes (Elt F) f [⟨Rect.whole S768x1024, p⟩]) ∗ wtileP (F := F) c g 0 ((wtile g 0).view.rep (X u 0))) ⊢ (wdlv (F := F) c X u g ⟨0, by decide⟩ : sProp 𝕄) :=
  wdeliver c X u g 0 f p (hp.trans (by rfl))

theorem wdeliver1 (c : Dev nD) (X : Fin 84 → Fin 2 → Vec F S768x1024 .fp8e5m2) (u : Fin 84) (g : Fin 2) (f : HbBuf1 (F := F) c (wpiece u 1))
    (p : Vec F S768x1024 .fp8e5m2) (hp : p = ReadAs.same.apply ((wtile g 1).view.read (Elt F) ((wtile g 1).view.rep (X u 1)))) :
    iprop(wpieceP (F := F) c u 1 ((wpiece u 1).view.writes (Elt F) f [⟨Rect.whole S768x1024, p⟩]) ∗ wtileP (F := F) c g 1 ((wtile g 1).view.rep (X u 1))) ⊢ (wdlv (F := F) c X u g ⟨1, by decide⟩ : sProp 𝕄) :=
  wdeliver c X u g 1 f p (hp.trans (by rfl))

/-- The codes of dgate at a point, from its five input blocks: what the copy of member 0 delivers. -/
def code0 (x0 : Vec F S2 .f32) (x1 : Vec F S768x4096 .fp8e5m2) (x2 : Vec F S1024x4096 .fp8e4m3) (x3 x4 : Vec F S768x1024 .bf16) : Vec F S768x1024 .fp8e5m2 :=
  fun i => k1_pay9 (x0 (ix1 1)) (k1_pay5 x1 x2 (x0 (ix1 0)) x3 x4) (ix4 0 0 (i 0) (i 1))
/-- The codes of dup at a point: what the copy of member 1 delivers. -/
def code1 (x0 : Vec F S2 .f32) (x1 : Vec F S768x4096 .fp8e5m2) (x2 : Vec F S1024x4096 .fp8e4m3) (x3 : Vec F S768x1024 .bf16) : Vec F S768x1024 .fp8e5m2 :=
  fun i => k1_pay10 (x0 (ix1 1)) (k1_pay6 x1 x2 (x0 (ix1 0)) x3) (ix4 0 0 (i 0) (i 1))

/-! ### Write ring 0's steps at each case's points, and its canonical names: the body's operands at point `t` are the ring's tiles, pieces and cells -/

section WCanon0_0
omit [FloatOps F]
/-- At the points of case A the write ring BOOTS (a step that waits nothing). -/
theorem wstep_A : ∀ t : Fin grid1.N, ¬cond1_0 (grid1.coords t) → cond1_1 (grid1.coords t) → ¬cond1_2 (grid1.coords t) → t.val < 2 ∧ (t.val + 1) = t.val + 1 := by decide +kernel
/-- At the points of case B the write ring BOOTS (a step that waits nothing). -/
theorem wstep_B : ∀ t : Fin grid1.N, ¬cond1_0 (grid1.coords t) → ¬cond1_1 (grid1.coords t) → ¬cond1_2 (grid1.coords t) → t.val < 2 ∧ (t.val + 1) = t.val + 1 := by decide +kernel
/-- At the points of case C the write ring takes a STEADY step. -/
theorem wstep_C : ∀ t : Fin grid1.N, cond1_0 (grid1.coords t) → ¬cond1_1 (grid1.coords t) → ¬cond1_2 (grid1.coords t) → 2 ≤ t.val ∧ t.val + 1 < 84 ∧ (t.val + 1) = t.val + 1 := by decide +kernel
/-- At the points of case D the write ring takes its LAST step (and drains). -/
theorem wstep_D : ∀ t : Fin grid1.N, cond1_0 (grid1.coords t) → ¬cond1_1 (grid1.coords t) → cond1_2 (grid1.coords t) → 2 ≤ t.val ∧ t.val + 1 = 84 ∧ (t.val + 1) = t.val + 1 := by decide +kernel
set_option synthInstance.maxSize 4096 in
theorem wcoff_1 : ∀ t : Fin grid1.N, k1_off7 (grid1.coords t) = ![(Ring.sl 2 t.val).val] := by decide +kernel
@[sl_canon] theorem wcanon_1 (t : Fin grid1.N) :
    (cc1_scratch1.slice (Rect.unit (s := S2) (k1_off7 (grid1.coords t)) S1.size (k1_off7_inb (grid1.coords t)))).squeeze S_ squeezes_S1_S_ = wcellA (Ring.sl 2 t.val) :=
  congrArg (fun A : DmaSems sig S1 => A.squeeze S_ squeezes_S1_S_) (SemArray.slice_unit_congr _ (wcoff_1 t) _ _)
@[sl_canon] theorem wcanon_1' (t : Fin grid1.N) :
    (cc1_scratch1.slice (Rect.unit (s := S2) (k1_off7 (grid1.coords t)) ![1] (k1_off7_inb (grid1.coords t)))).squeeze S_ squeezes_S1_S_ = wcellA (Ring.sl 2 t.val) :=
  wcanon_1 t
set_option synthInstance.maxSize 4096 in
theorem wcoff_2 : ∀ t : Fin grid1.N, k1_off9 (grid1.coords t) = ![(Ring.sl 2 t.val).val, 0, 0, 0] := by decide +kernel
@[sl_canon] theorem wcanon_2 (t : Fin grid1.N) :
    (scM1_0.slice (Rect.unit (s := S2x2x768x1024) (k1_off9 (grid1.coords t)) S1x1x768x1024.size (k1_off9_inb (grid1.coords t))) (fun _ => rfl)).squeeze S768x1024 squeezes_S1x1x768x1024_S768x1024 = wtile (Ring.sl 2 t.val) 0 :=
  congrArg (fun M : Memref sig .tc .vmem S1x1x768x1024 .fp8e5m2 => M.squeeze S768x1024 squeezes_S1x1x768x1024_S768x1024) (Memref.slice_unit_congr _ (wcoff_2 t) _ _ (fun _ => rfl) (fun _ => rfl))
@[sl_canon] theorem wcanon_2' (t : Fin grid1.N) :
    (scM1_0.slice (Rect.unit (s := S2x2x768x1024) (k1_off9 (grid1.coords t)) ![1, 1, 768, 1024] (k1_off9_inb (grid1.coords t))) (fun _ => rfl)).squeeze S768x1024 squeezes_S1x1x768x1024_S768x1024 = wtile (Ring.sl 2 t.val) 0 :=
  wcanon_2 t
set_option synthInstance.maxSize 4096 in
theorem wcoff_3 : ∀ t : Fin grid1.N, k1_off8 (grid1.coords t) 0#32 = ![768 * ((Ring.bk 84 t.val).val % 6), 14336 * (0 : Fin 2).val + 1024 * ((Ring.bk 84 t.val).val / 6)] := by decide +kernel
@[sl_canon] theorem wcanon_3 (t : Fin grid1.N) :
    hbM1_0.slice (Rect.unit (s := S4608x28672) (k1_off8 (grid1.coords t) 0#32) S768x1024.size (k1_off8_inb (grid1.coords t) 0)) (fun _ => rfl) = wpiece (Ring.bk 84 t.val) 0 :=
  Memref.slice_unit_congr _ (wcoff_3 t) _ _ (fun _ => rfl) (fun _ => rfl)
@[sl_canon] theorem wcanon_3' (t : Fin grid1.N) :
    hbM1_0.slice (Rect.unit (s := S4608x28672) (k1_off8 (grid1.coords t) 0#32) ![768, 1024] (k1_off8_inb (grid1.coords t) 0)) (fun _ => rfl) = wpiece (Ring.bk 84 t.val) 0 :=
  wcanon_3 t
set_option synthInstance.maxSize 4096 in
theorem wcoff_4 : ∀ t : Fin grid1.N, k1_off10 (grid1.coords t) = ![(Ring.sl 2 t.val).val, 1, 0, 0] := by decide +kernel
@[sl_canon] theorem wcanon_4 (t : Fin grid1.N) :
    (scM1_0.slice (Rect.unit (s := S2x2x768x1024) (k1_off10 (grid1.coords t)) S1x1x768x1024.size (k1_off10_inb (grid1.coords t))) (fun _ => rfl)).squeeze S768x1024 squeezes_S1x1x768x1024_S768x1024 = wtile (Ring.sl 2 t.val) 1 :=
  congrArg (fun M : Memref sig .tc .vmem S1x1x768x1024 .fp8e5m2 => M.squeeze S768x1024 squeezes_S1x1x768x1024_S768x1024) (Memref.slice_unit_congr _ (wcoff_4 t) _ _ (fun _ => rfl) (fun _ => rfl))
@[sl_canon] theorem wcanon_4' (t : Fin grid1.N) :
    (scM1_0.slice (Rect.unit (s := S2x2x768x1024) (k1_off10 (grid1.coords t)) ![1, 1, 768, 1024] (k1_off10_inb (grid1.coords t))) (fun _ => rfl)).squeeze S768x1024 squeezes_S1x1x768x1024_S768x1024 = wtile (Ring.sl 2 t.val) 1 :=
  wcanon_4 t
set_option synthInstance.maxSize 4096 in
theorem wcoff_5 : ∀ t : Fin grid1.N, k1_off8 (grid1.coords t) 14336#32 = ![768 * ((Ring.bk 84 t.val).val % 6), 14336 * (1 : Fin 2).val + 1024 * ((Ring.bk 84 t.val).val / 6)] := by decide +kernel
@[sl_canon] theorem wcanon_5 (t : Fin grid1.N) :
    hbM1_0.slice (Rect.unit (s := S4608x28672) (k1_off8 (grid1.coords t) 14336#32) S768x1024.size (k1_off8_inb (grid1.coords t) 1)) (fun _ => rfl) = wpiece (Ring.bk 84 t.val) 1 :=
  Memref.slice_unit_congr _ (wcoff_5 t) _ _ (fun _ => rfl) (fun _ => rfl)
@[sl_canon] theorem wcanon_5' (t : Fin grid1.N) :
    hbM1_0.slice (Rect.unit (s := S4608x28672) (k1_off8 (grid1.coords t) 14336#32) ![768, 1024] (k1_off8_inb (grid1.coords t) 1)) (fun _ => rfl) = wpiece (Ring.bk 84 t.val) 1 :=
  wcanon_5 t
set_option synthInstance.maxSize 4096 in
theorem wcoff_6 : ∀ t : Fin grid1.N, k1_off1 (grid1.coords t) = ![(Ring.sl 2 t.val).val] := by decide +kernel
@[sl_canon] theorem wcanon_6 (t : Fin grid1.N) (h0 : cond1_0 (grid1.coords t)) :
    (cc1_scratch1.slice (Rect.unit (s := S2) (k1_off1 (grid1.coords t)) S1.size (k1_off1_inb (grid1.coords t) h0))).squeeze S_ squeezes_S1_S_ = wcellA (Ring.sl 2 t.val) :=
  congrArg (fun A : DmaSems sig S1 => A.squeeze S_ squeezes_S1_S_) (SemArray.slice_unit_congr _ (wcoff_6 t) _ _)
@[sl_canon] theorem wcanon_6' (t : Fin grid1.N) (h0 : cond1_0 (grid1.coords t)) :
    (cc1_scratch1.slice (Rect.unit (s := S2) (k1_off1 (grid1.coords t)) ![1] (k1_off1_inb (grid1.coords t) h0))).squeeze S_ squeezes_S1_S_ = wcellA (Ring.sl 2 t.val) :=
  wcanon_6 t h0
set_option synthInstance.maxSize 4096 in
theorem wcoff_7 : ∀ t : Fin grid1.N, cond1_0 (grid1.coords t) → ¬cond1_1 (grid1.coords t) → cond1_2 (grid1.coords t) → k1_off11 (grid1.coords t) = ![(Ring.sl 2 (t.val + 1)).val] := by decide +kernel
@[sl_canon] theorem wcanon_7 (t : Fin grid1.N) (h0 : cond1_0 (grid1.coords t)) (h1 : ¬cond1_1 (grid1.coords t)) (h2 : cond1_2 (grid1.coords t)) :
    (cc1_scratch1.slice (Rect.unit (s := S2) (k1_off11 (grid1.coords t)) S1.size (k1_off11_inb (grid1.coords t) h2))).squeeze S_ squeezes_S1_S_ = wcellA (Ring.sl 2 (t.val + 1)) :=
  congrArg (fun A : DmaSems sig S1 => A.squeeze S_ squeezes_S1_S_) (SemArray.slice_unit_congr _ (wcoff_7 t h0 h1 h2) _ _)
@[sl_canon] theorem wcanon_7' (t : Fin grid1.N) (h0 : cond1_0 (grid1.coords t)) (h1 : ¬cond1_1 (grid1.coords t)) (h2 : cond1_2 (grid1.coords t)) :
    (cc1_scratch1.slice (Rect.unit (s := S2) (k1_off11 (grid1.coords t)) ![1] (k1_off11_inb (grid1.coords t) h2))).squeeze S_ squeezes_S1_S_ = wcellA (Ring.sl 2 (t.val + 1)) :=
  wcanon_7 t h0 h1 h2
set_option synthInstance.maxSize 4096 in
theorem wcoff_8 : ∀ t : Fin grid1.N, k1_off15 (grid1.coords t) = ![(Ring.sl 2 t.val).val] := by decide +kernel
@[sl_canon] theorem wcanon_8 (t : Fin grid1.N) (h2 : cond1_2 (grid1.coords t)) :
    (cc1_scratch1.slice (Rect.unit (s := S2) (k1_off15 (grid1.coords t)) S1.size (k1_off15_inb (grid1.coords t) h2))).squeeze S_ squeezes_S1_S_ = wcellA (Ring.sl 2 t.val) :=
  congrArg (fun A : DmaSems sig S1 => A.squeeze S_ squeezes_S1_S_) (SemArray.slice_unit_congr _ (wcoff_8 t) _ _)
@[sl_canon] theorem wcanon_8' (t : Fin grid1.N) (h2 : cond1_2 (grid1.coords t)) :
    (cc1_scratch1.slice (Rect.unit (s := S2) (k1_off15 (grid1.coords t)) ![1] (k1_off15_inb (grid1.coords t) h2))).squeeze S_ squeezes_S1_S_ = wcellA (Ring.sl 2 t.val) :=
  wcanon_8 t h2
set_option synthInstance.maxSize 4096 in
theorem wcoff_9 : ∀ t : Fin grid1.N, k1_off5 (grid1.coords t) = ![(Ring.sl 2 t.val).val, 0, 0, 0] := by decide +kernel
/-- This access's box in the tile's spelling, so that the run's geometry sees it inside that tile. -/
instance (priority := high) wclosedOff_9 (t : Fin grid1.N) : ClosedOff (k1_off5 (grid1.coords t)) := ⟨![(Ring.sl 2 t.val).val, 0, 0, 0], wcoff_9 t⟩
set_option synthInstance.maxSize 4096 in
theorem wcoff_10 : ∀ t : Fin grid1.N, k1_off6 (grid1.coords t) = ![(Ring.sl 2 t.val).val, 1, 0, 0] := by decide +kernel
/-- This access's box in the tile's spelling, so that the run's geometry sees it inside that tile. -/
instance (priority := high) wclosedOff_10 (t : Fin grid1.N) : ClosedOff (k1_off6 (grid1.coords t)) := ⟨![(Ring.sl 2 t.val).val, 1, 0, 0], wcoff_10 t⟩
end WCanon0_0

end Cert.KernelIdeal.Dh

end
-- ==== Proof.DhRunA.lean ====
/-
  Region 1, the call `dh`: the run of its body at the points of case A.
-/
module

public import proofs.«01_k».proof.Proof.DhRing

@[expose] public section

set_option maxRecDepth 16384

noncomputable section

namespace Cert.KernelIdeal.Dh

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
set_option sl_exec.dischHeartbeats 50000 in
/-- The run of the body at the points of case A: on whole staging memrefs, the ring's pieces for the point's role and the core's `owes`,
    the body runs to the continuation, the copies started delivering the point's two blocks of codes (`X`, by `hX0`, `hX1`). -/
noncomputable def kernelRun1_A (c : Dev nD) (X : Fin 84 → Fin 2 → Vec F S768x1024 .fp8e5m2) (t : Fin cfg1.N) (arg2 : Memref sig .tc .smem S2 .f32) (harg2 : arg2.IsWhole) (arg3 : Memref sig .tc .vmem S768x4096 .fp8e5m2) (harg3 : arg3.IsWhole) (arg4 : Memref sig .tc .vmem S1024x4096 .fp8e4m3) (harg4 : arg4.IsWhole) (arg5 : Memref sig .tc .vmem S768x1024 .bf16) (harg5 : arg5.IsWhole) (arg6 : Memref sig .tc .vmem S768x1024 .bf16) (harg6 : arg6.IsWhole) (arg8 : Memref sig .tc .vmem S8x1024 .f32) (harg8 : arg8.IsWhole) (hc0 : ¬cond1_0 (grid1.coords t)) (hc1 : cond1_1 (grid1.coords t)) (hc2 : ¬cond1_2 (grid1.coords t))
    (x0 : Vec F S2 .f32) (x1 : Vec F S768x4096 .fp8e5m2) (x2 : Vec F S1024x4096 .fp8e4m3) (x3 : Vec F S768x1024 .bf16) (x4 : Vec F S768x1024 .bf16) (hX0 : X (Ring.bk 84 t.val) 0 = code0 x0 x1 x2 x3 x4) (hX1 : X (Ring.bk 84 t.val) 1 = code1 x0 x1 x2 x3) :
    { L5 : List (View.Piece (Elt F) S8x1024 .f32) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d) ∗ (∃ f, wpieceP c (Ring.bk 84 t.val) 0 f) ∗ (∃ f, wpieceP c (Ring.bk 84 t.val) 1 f) ∗ wcellP c (Ring.sl 2 t.val) ∗ (∃ e, wtileP c (Ring.sl 2 t.val) 0 e) ∗ (∃ e, wtileP c (Ring.sl 2 t.val) 1 e) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg8.view.loc (c : Thread nD τ) ↦[arg8.view.set]{fullShare} arg8.view.writes (Elt F) f L5) ∗ winfl c X (Ring.sl 2 t.val) (Ring.bk 84 t.val) ∗ (∃ W', owes (c : Thread nD τ) 0 W')) -∗ K ⟨⟩))
          ⊢ wp frame (wpE (defs₀ (F := F)) Variants.none c none) Set.univ (cc1_dh (grid1.coords t) arg2 harg2 arg3 harg3 arg4 harg4 arg5 harg5 arg6 harg6 (Memref.whole main_v10_0) (Memref.isWhole_whole _) arg8 harg8 scM1_0 (Memref.isWhole_whole _) cc1_scratch1) K } := by
  refine ⟨?_, fun W K => ?run⟩
  case run =>
    haveI : Fact (¬cond1_0 (grid1.coords t)) := ⟨hc0⟩
    haveI : Fact (cond1_1 (grid1.coords t)) := ⟨hc1⟩
    haveI : Fact (¬cond1_2 (grid1.coords t)) := ⟨hc2⟩
    simp only [cc1_dh_eq_skeleton]; unfold cc1_dh_skel
    simp only [k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hp0_0_0, Hp0_0_1, Hq0_0, ⟨%et0_0_0, Ht0_0_0⟩, ⟨%et0_0_1, Ht0_0_1⟩, HW, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1 | sl_exact hc2)
    ihave HT0 := (wtile_rep (F := F) c (Ring.sl 2 t.val) 0 (X (Ring.bk 84 t.val) 0)) $$ [Ht0_0_0]
    · iexists _; isplitl [Ht0_0_0]; · iexact Ht0_0_0
      ipureintro; (rw [hX0]; delta kernelRun1_A.sl.Ht0_0_0_w1; refine (wtile_store _ 0 _ (by first | exact wcoff_9 t | exact wcoff_10 t) _ _).trans ?_; delta kernelRun1_A.sl.r_1; (first | delta kernelRun1_A.sl.r_2 | delta kernelRun1_A.sl.r_3); delta kernelRun1_A.sl.r; rw [word_read arg2 harg2 x0 1 rfl, word_read arg2 harg2 x0 0 rfl, block_read arg3 harg3 x1, block_read arg4 harg4 x2, block_read arg5 harg5 x3]; (try rw [block_read arg6 harg6 x4]); rfl)
    ihave HT1 := (wtile_rep (F := F) c (Ring.sl 2 t.val) 1 (X (Ring.bk 84 t.val) 1)) $$ [Ht0_0_1]
    · iexists _; isplitl [Ht0_0_1]; · iexact Ht0_0_1
      ipureintro; (rw [hX1]; delta kernelRun1_A.sl.Ht0_0_1_w2; refine (wtile_store _ 1 _ (by first | exact wcoff_9 t | exact wcoff_10 t) _ _).trans ?_; delta kernelRun1_A.sl.r_1; (first | delta kernelRun1_A.sl.r_2 | delta kernelRun1_A.sl.r_3); delta kernelRun1_A.sl.r; rw [word_read arg2 harg2 x0 1 rfl, word_read arg2 harg2 x0 0 rfl, block_read arg3 harg3 x1, block_read arg4 harg4 x2, block_read arg5 harg5 x3]; (try rw [block_read arg6 harg6 x4]); rfl)
    icases Hp0_0_0 with ⟨%fp0_0_0, Hp0_0_0⟩
    icases Hp0_0_1 with ⟨%fp0_0_1, Hp0_0_1⟩
    have hD0_0 := wstorable_dlv (F := F) c X (Ring.bk 84 t.val) (Ring.sl 2 t.val)
    imod (Transfers.batch_alloc' (Lvl := ℕ) countersEmb (c : Thread nD τ) default wN (wdlv c X (Ring.bk 84 t.val) (Ring.sl 2 t.val)) (sm := wcellR (Ring.sl 2 t.val)) (E := Set.univ)) $$ Hq0_0 with HN0_0
    clear hD0_0
    sl_exec (disch := first | (with_reducible refine wdeliver0 c X _ _ _ _ ?_; delta kernelRun1_A.sl.dma0; rfl) | (with_reducible refine wdeliver1 c X _ _ _ _ ?_; delta kernelRun1_A.sl.dma1; rfl) | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HN0_0]; · iexact HN0_0
    iexists _; iexact HW

end Cert.KernelIdeal.Dh

end
-- ==== Proof.DhRunB.lean ====
/-
  Region 1, the call `dh`: the run of its body at the points of case B.
-/
module

public import proofs.«01_k».proof.Proof.DhRing

@[expose] public section

set_option maxRecDepth 16384

noncomputable section

namespace Cert.KernelIdeal.Dh

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
set_option sl_exec.dischHeartbeats 50000 in
/-- The run of the body at the points of case B: on whole staging memrefs, the ring's pieces for the point's role and the core's `owes`,
    the body runs to the continuation, the copies started delivering the point's two blocks of codes (`X`, by `hX0`, `hX1`). -/
noncomputable def kernelRun1_B (c : Dev nD) (X : Fin 84 → Fin 2 → Vec F S768x1024 .fp8e5m2) (t : Fin cfg1.N) (arg2 : Memref sig .tc .smem S2 .f32) (harg2 : arg2.IsWhole) (arg3 : Memref sig .tc .vmem S768x4096 .fp8e5m2) (harg3 : arg3.IsWhole) (arg4 : Memref sig .tc .vmem S1024x4096 .fp8e4m3) (harg4 : arg4.IsWhole) (arg5 : Memref sig .tc .vmem S768x1024 .bf16) (harg5 : arg5.IsWhole) (arg6 : Memref sig .tc .vmem S768x1024 .bf16) (harg6 : arg6.IsWhole) (arg8 : Memref sig .tc .vmem S8x1024 .f32) (harg8 : arg8.IsWhole) (hc0 : ¬cond1_0 (grid1.coords t)) (hc1 : ¬cond1_1 (grid1.coords t)) (hc2 : ¬cond1_2 (grid1.coords t))
    (x0 : Vec F S2 .f32) (x1 : Vec F S768x4096 .fp8e5m2) (x2 : Vec F S1024x4096 .fp8e4m3) (x3 : Vec F S768x1024 .bf16) (x4 : Vec F S768x1024 .bf16) (hX0 : X (Ring.bk 84 t.val) 0 = code0 x0 x1 x2 x3 x4) (hX1 : X (Ring.bk 84 t.val) 1 = code1 x0 x1 x2 x3) (xo5 : Vec F S8x1024 .f32) :
    { L5 : List (View.Piece (Elt F) S8x1024 .f32) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare xo5 ∗ (∃ f, wpieceP c (Ring.bk 84 t.val) 0 f) ∗ (∃ f, wpieceP c (Ring.bk 84 t.val) 1 f) ∗ wcellP c (Ring.sl 2 t.val) ∗ (∃ e, wtileP c (Ring.sl 2 t.val) 0 e) ∗ (∃ e, wtileP c (Ring.sl 2 t.val) 1 e) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg8.view.loc (c : Thread nD τ) ↦[arg8.view.set]{fullShare} arg8.view.writes (Elt F) f L5) ∗ winfl c X (Ring.sl 2 t.val) (Ring.bk 84 t.val) ∗ (∃ W', owes (c : Thread nD τ) 0 W')) -∗ K ⟨⟩))
          ⊢ wp frame (wpE (defs₀ (F := F)) Variants.none c none) Set.univ (cc1_dh (grid1.coords t) arg2 harg2 arg3 harg3 arg4 harg4 arg5 harg5 arg6 harg6 (Memref.whole main_v10_0) (Memref.isWhole_whole _) arg8 harg8 scM1_0 (Memref.isWhole_whole _) cc1_scratch1) K } := by
  refine ⟨?_, fun W K => ?run⟩
  case run =>
    haveI : Fact (¬cond1_0 (grid1.coords t)) := ⟨hc0⟩
    haveI : Fact (¬cond1_1 (grid1.coords t)) := ⟨hc1⟩
    haveI : Fact (¬cond1_2 (grid1.coords t)) := ⟨hc2⟩
    simp only [cc1_dh_eq_skeleton]; unfold cc1_dh_skel
    simp only [k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hp0_0_0, Hp0_0_1, Hq0_0, ⟨%et0_0_0, Ht0_0_0⟩, ⟨%et0_0_1, Ht0_0_1⟩, HW, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf5
    sl_exec (disch := first | sl_exact hc0 | sl_exact hc1 | sl_exact hc2)
    ihave HT0 := (wtile_rep (F := F) c (Ring.sl 2 t.val) 0 (X (Ring.bk 84 t.val) 0)) $$ [Ht0_0_0]
    · iexists _; isplitl [Ht0_0_0]; · iexact Ht0_0_0
      ipureintro; (rw [hX0]; delta kernelRun1_B.sl.Ht0_0_0_w1; refine (wtile_store _ 0 _ (by first | exact wcoff_9 t | exact wcoff_10 t) _ _).trans ?_; delta kernelRun1_B.sl.r_1; (first | delta kernelRun1_B.sl.r_2 | delta kernelRun1_B.sl.r_3); delta kernelRun1_B.sl.r; rw [word_read arg2 harg2 x0 1 rfl, word_read arg2 harg2 x0 0 rfl, block_read arg3 harg3 x1, block_read arg4 harg4 x2, block_read arg5 harg5 x3]; (try rw [block_read arg6 harg6 x4]); rfl)
    ihave HT1 := (wtile_rep (F := F) c (Ring.sl 2 t.val) 1 (X (Ring.bk 84 t.val) 1)) $$ [Ht0_0_1]
    · iexists _; isplitl [Ht0_0_1]; · iexact Ht0_0_1
      ipureintro; (rw [hX1]; delta kernelRun1_B.sl.Ht0_0_1_w2; refine (wtile_store _ 1 _ (by first | exact wcoff_9 t | exact wcoff_10 t) _ _).trans ?_; delta kernelRun1_B.sl.r_1; (first | delta kernelRun1_B.sl.r_2 | delta kernelRun1_B.sl.r_3); delta kernelRun1_B.sl.r; rw [word_read arg2 harg2 x0 1 rfl, word_read arg2 harg2 x0 0 rfl, block_read arg3 harg3 x1, block_read arg4 harg4 x2, block_read arg5 harg5 x3]; (try rw [block_read arg6 harg6 x4]); rfl)
    icases Hp0_0_0 with ⟨%fp0_0_0, Hp0_0_0⟩
    icases Hp0_0_1 with ⟨%fp0_0_1, Hp0_0_1⟩
    have hD0_0 := wstorable_dlv (F := F) c X (Ring.bk 84 t.val) (Ring.sl 2 t.val)
    imod (Transfers.batch_alloc' (Lvl := ℕ) countersEmb (c : Thread nD τ) default wN (wdlv c X (Ring.bk 84 t.val) (Ring.sl 2 t.val)) (sm := wcellR (Ring.sl 2 t.val)) (E := Set.univ)) $$ Hq0_0 with HN0_0
    clear hD0_0
    sl_exec (disch := first | (with_reducible refine wdeliver0 c X _ _ _ _ ?_; delta kernelRun1_B.sl.dma0; rfl) | (with_reducible refine wdeliver1 c X _ _ _ _ ?_; delta kernelRun1_B.sl.dma1; rfl) | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HN0_0]; · iexact HN0_0
    iexists _; iexact HW

end Cert.KernelIdeal.Dh

end
-- ==== Proof.DhRunC.lean ====
/-
  Region 1, the call `dh`: the run of its body at the points of case C.
-/
module

public import proofs.«01_k».proof.Proof.DhRing

@[expose] public section

set_option maxRecDepth 16384

noncomputable section

namespace Cert.KernelIdeal.Dh

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
set_option sl_exec.dischHeartbeats 50000 in
/-- The run of the body at the points of case C: on whole staging memrefs, the ring's pieces for the point's role and the core's `owes`,
    the body runs to the continuation, the copies started delivering the point's two blocks of codes (`X`, by `hX0`, `hX1`). -/
noncomputable def kernelRun1_C (c : Dev nD) (X : Fin 84 → Fin 2 → Vec F S768x1024 .fp8e5m2) (t : Fin cfg1.N) (arg2 : Memref sig .tc .smem S2 .f32) (harg2 : arg2.IsWhole) (arg3 : Memref sig .tc .vmem S768x4096 .fp8e5m2) (harg3 : arg3.IsWhole) (arg4 : Memref sig .tc .vmem S1024x4096 .fp8e4m3) (harg4 : arg4.IsWhole) (arg5 : Memref sig .tc .vmem S768x1024 .bf16) (harg5 : arg5.IsWhole) (arg6 : Memref sig .tc .vmem S768x1024 .bf16) (harg6 : arg6.IsWhole) (arg8 : Memref sig .tc .vmem S8x1024 .f32) (harg8 : arg8.IsWhole) (hc0 : cond1_0 (grid1.coords t)) (hc1 : ¬cond1_1 (grid1.coords t)) (hc2 : ¬cond1_2 (grid1.coords t))
    (x0 : Vec F S2 .f32) (x1 : Vec F S768x4096 .fp8e5m2) (x2 : Vec F S1024x4096 .fp8e4m3) (x3 : Vec F S768x1024 .bf16) (x4 : Vec F S768x1024 .bf16) (hX0 : X (Ring.bk 84 t.val) 0 = code0 x0 x1 x2 x3 x4) (hX1 : X (Ring.bk 84 t.val) 1 = code1 x0 x1 x2 x3) (xo5 : Vec F S8x1024 .f32) :
    { L5 : List (View.Piece (Elt F) S8x1024 .f32) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare xo5 ∗ (∃ f, wpieceP c (Ring.bk 84 t.val) 0 f) ∗ (∃ f, wpieceP c (Ring.bk 84 t.val) 1 f) ∗ winfl c X (Ring.sl 2 t.val) (Ring.bk 84 (t.val - 2)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg8.view.loc (c : Thread nD τ) ↦[arg8.view.set]{fullShare} arg8.view.writes (Elt F) f L5) ∗ wpieceP c (Ring.bk 84 (t.val - 2)) 0 ((wpiece (Ring.bk 84 (t.val - 2)) 0).view.rep (X (Ring.bk 84 (t.val - 2)) 0)) ∗ wpieceP c (Ring.bk 84 (t.val - 2)) 1 ((wpiece (Ring.bk 84 (t.val - 2)) 1).view.rep (X (Ring.bk 84 (t.val - 2)) 1)) ∗ winfl c X (Ring.sl 2 t.val) (Ring.bk 84 t.val) ∗ (∃ W', owes (c : Thread nD τ) 0 W')) -∗ K ⟨⟩))
          ⊢ wp frame (wpE (defs₀ (F := F)) Variants.none c none) Set.univ (cc1_dh (grid1.coords t) arg2 harg2 arg3 harg3 arg4 harg4 arg5 harg5 arg6 harg6 (Memref.whole main_v10_0) (Memref.isWhole_whole _) arg8 harg8 scM1_0 (Memref.isWhole_whole _) cc1_scratch1) K } := by
  refine ⟨?_, fun W K => ?run⟩
  case run =>
    haveI : Fact (cond1_0 (grid1.coords t)) := ⟨hc0⟩
    haveI : Fact (¬cond1_1 (grid1.coords t)) := ⟨hc1⟩
    haveI : Fact (¬cond1_2 (grid1.coords t)) := ⟨hc2⟩
    simp only [cc1_dh_eq_skeleton]; unfold cc1_dh_skel
    simp only [k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hp0_0_0, Hp0_0_1, HF0_0, HW, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf5
    sl_exec (disch := first | sl_exact hc0 | sl_exact hc1 | sl_exact hc2)
    ihave HT0 := (wtile_rep (F := F) c (Ring.sl 2 t.val) 0 (X (Ring.bk 84 t.val) 0)) $$ [HF0_0_src0]
    · iexists _; isplitl [HF0_0_src0]; · iexact HF0_0_src0
      ipureintro; (rw [hX0]; delta kernelRun1_C.sl.HF0_0_src0_w1; refine (wtile_store _ 0 _ (by first | exact wcoff_9 t | exact wcoff_10 t) _ _).trans ?_; delta kernelRun1_C.sl.r_1; (first | delta kernelRun1_C.sl.r_2 | delta kernelRun1_C.sl.r_3); delta kernelRun1_C.sl.r; rw [word_read arg2 harg2 x0 1 rfl, word_read arg2 harg2 x0 0 rfl, block_read arg3 harg3 x1, block_read arg4 harg4 x2, block_read arg5 harg5 x3]; (try rw [block_read arg6 harg6 x4]); rfl)
    ihave HT1 := (wtile_rep (F := F) c (Ring.sl 2 t.val) 1 (X (Ring.bk 84 t.val) 1)) $$ [HF0_0_src1]
    · iexists _; isplitl [HF0_0_src1]; · iexact HF0_0_src1
      ipureintro; (rw [hX1]; delta kernelRun1_C.sl.HF0_0_src1_w2; refine (wtile_store _ 1 _ (by first | exact wcoff_9 t | exact wcoff_10 t) _ _).trans ?_; delta kernelRun1_C.sl.r_1; (first | delta kernelRun1_C.sl.r_2 | delta kernelRun1_C.sl.r_3); delta kernelRun1_C.sl.r; rw [word_read arg2 harg2 x0 1 rfl, word_read arg2 harg2 x0 0 rfl, block_read arg3 harg3 x1, block_read arg4 harg4 x2, block_read arg5 harg5 x3]; (try rw [block_read arg6 harg6 x4]); rfl)
    icases Hp0_0_0 with ⟨%fp0_0_0, Hp0_0_0⟩
    icases Hp0_0_1 with ⟨%fp0_0_1, Hp0_0_1⟩
    have hD0_0 := wstorable_dlv (F := F) c X (Ring.bk 84 t.val) (Ring.sl 2 t.val)
    imod (Transfers.batch_alloc' (Lvl := ℕ) countersEmb (c : Thread nD τ) default wN (wdlv c X (Ring.bk 84 t.val) (Ring.sl 2 t.val)) (sm := wcellR (Ring.sl 2 t.val)) (E := Set.univ)) $$ HF0_0 with HN0_0
    clear hD0_0
    sl_exec (disch := first | (with_reducible refine wdeliver0 c X _ _ _ _ ?_; delta kernelRun1_C.sl.dma0; rfl) | (with_reducible refine wdeliver1 c X _ _ _ _ ?_; delta kernelRun1_C.sl.dma1; rfl) | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HF0_0_dst0]; · iexact HF0_0_dst0
    isplitl [HF0_0_dst1]; · iexact HF0_0_dst1
    isplitl [HN0_0]; · iexact HN0_0
    iexists _; iexact HW

end Cert.KernelIdeal.Dh

end
-- ==== Proof.DhRunD.lean ====
/-
  Region 1, the call `dh`: the run of its body at the points of case D.
-/
module

public import proofs.«01_k».proof.Proof.DhRing

@[expose] public section

set_option maxRecDepth 16384

noncomputable section

namespace Cert.KernelIdeal.Dh

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
set_option sl_exec.dischHeartbeats 50000 in
/-- The run of the body at the points of case D: on whole staging memrefs, the ring's pieces for the point's role and the core's `owes`,
    the body runs to the continuation, the copies started delivering the point's two blocks of codes (`X`, by `hX0`, `hX1`). -/
noncomputable def kernelRun1_D (c : Dev nD) (X : Fin 84 → Fin 2 → Vec F S768x1024 .fp8e5m2) (t : Fin cfg1.N) (arg2 : Memref sig .tc .smem S2 .f32) (harg2 : arg2.IsWhole) (arg3 : Memref sig .tc .vmem S768x4096 .fp8e5m2) (harg3 : arg3.IsWhole) (arg4 : Memref sig .tc .vmem S1024x4096 .fp8e4m3) (harg4 : arg4.IsWhole) (arg5 : Memref sig .tc .vmem S768x1024 .bf16) (harg5 : arg5.IsWhole) (arg6 : Memref sig .tc .vmem S768x1024 .bf16) (harg6 : arg6.IsWhole) (arg8 : Memref sig .tc .vmem S8x1024 .f32) (harg8 : arg8.IsWhole) (hc0 : cond1_0 (grid1.coords t)) (hc1 : ¬cond1_1 (grid1.coords t)) (hc2 : cond1_2 (grid1.coords t))
    (x0 : Vec F S2 .f32) (x1 : Vec F S768x4096 .fp8e5m2) (x2 : Vec F S1024x4096 .fp8e4m3) (x3 : Vec F S768x1024 .bf16) (x4 : Vec F S768x1024 .bf16) (hX0 : X (Ring.bk 84 t.val) 0 = code0 x0 x1 x2 x3 x4) (hX1 : X (Ring.bk 84 t.val) 1 = code1 x0 x1 x2 x3) (xo5 : Vec F S8x1024 .f32) :
    { L5 : List (View.Piece (Elt F) S8x1024 .f32) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare xo5 ∗ (∃ f, wpieceP c (Ring.bk 84 t.val) 0 f) ∗ (∃ f, wpieceP c (Ring.bk 84 t.val) 1 f) ∗ winfl c X (Ring.sl 2 t.val) (Ring.bk 84 (t.val - 2)) ∗ winfl c X (Ring.sl 2 (t.val + 1)) (Ring.bk 84 (t.val - 1)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg8.view.loc (c : Thread nD τ) ↦[arg8.view.set]{fullShare} arg8.view.writes (Elt F) f L5) ∗ wpieceP c (Ring.bk 84 t.val) 0 ((wpiece (Ring.bk 84 t.val) 0).view.rep (X (Ring.bk 84 t.val) 0)) ∗ wpieceP c (Ring.bk 84 t.val) 1 ((wpiece (Ring.bk 84 t.val) 1).view.rep (X (Ring.bk 84 t.val) 1)) ∗ wpieceP c (Ring.bk 84 (t.val - 2)) 0 ((wpiece (Ring.bk 84 (t.val - 2)) 0).view.rep (X (Ring.bk 84 (t.val - 2)) 0)) ∗ wpieceP c (Ring.bk 84 (t.val - 2)) 1 ((wpiece (Ring.bk 84 (t.val - 2)) 1).view.rep (X (Ring.bk 84 (t.val - 2)) 1)) ∗ wpieceP c (Ring.bk 84 (t.val - 1)) 0 ((wpiece (Ring.bk 84 (t.val - 1)) 0).view.rep (X (Ring.bk 84 (t.val - 1)) 0)) ∗ wpieceP c (Ring.bk 84 (t.val - 1)) 1 ((wpiece (Ring.bk 84 (t.val - 1)) 1).view.rep (X (Ring.bk 84 (t.val - 1)) 1)) ∗ wcellP c (Ring.sl 2 t.val) ∗ (∃ e, wtileP c (Ring.sl 2 t.val) 0 e) ∗ (∃ e, wtileP c (Ring.sl 2 t.val) 1 e) ∗ wcellP c (Ring.sl 2 (t.val + 1)) ∗ (∃ e, wtileP c (Ring.sl 2 (t.val + 1)) 0 e) ∗ (∃ e, wtileP c (Ring.sl 2 (t.val + 1)) 1 e) ∗ (∃ W', owes (c : Thread nD τ) 0 W')) -∗ K ⟨⟩))
          ⊢ wp frame (wpE (defs₀ (F := F)) Variants.none c none) Set.univ (cc1_dh (grid1.coords t) arg2 harg2 arg3 harg3 arg4 harg4 arg5 harg5 arg6 harg6 (Memref.whole main_v10_0) (Memref.isWhole_whole _) arg8 harg8 scM1_0 (Memref.isWhole_whole _) cc1_scratch1) K } := by
  refine ⟨?_, fun W K => ?run⟩
  case run =>
    haveI : Fact (cond1_0 (grid1.coords t)) := ⟨hc0⟩
    haveI : Fact (¬cond1_1 (grid1.coords t)) := ⟨hc1⟩
    haveI : Fact (cond1_2 (grid1.coords t)) := ⟨hc2⟩
    simp only [cc1_dh_eq_skeleton]; unfold cc1_dh_skel
    simp only [k1_part2_eq_skeleton, k1_part3_eq_skeleton, k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hp0_0_0, Hp0_0_1, HF0_0, HI0_0, HW, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf5
    sl_exec (disch := first | sl_exact hc0 | sl_exact hc1 | sl_exact hc2)
    ihave HT0 := (wtile_rep (F := F) c (Ring.sl 2 t.val) 0 (X (Ring.bk 84 t.val) 0)) $$ [HF0_0_src0]
    · iexists _; isplitl [HF0_0_src0]; · iexact HF0_0_src0
      ipureintro; (rw [hX0]; delta kernelRun1_D.sl.HF0_0_src0_w1; refine (wtile_store _ 0 _ (by first | exact wcoff_9 t | exact wcoff_10 t) _ _).trans ?_; delta kernelRun1_D.sl.r_1; (first | delta kernelRun1_D.sl.r_2 | delta kernelRun1_D.sl.r_3); delta kernelRun1_D.sl.r; rw [word_read arg2 harg2 x0 1 rfl, word_read arg2 harg2 x0 0 rfl, block_read arg3 harg3 x1, block_read arg4 harg4 x2, block_read arg5 harg5 x3]; (try rw [block_read arg6 harg6 x4]); rfl)
    ihave HT1 := (wtile_rep (F := F) c (Ring.sl 2 t.val) 1 (X (Ring.bk 84 t.val) 1)) $$ [HF0_0_src1]
    · iexists _; isplitl [HF0_0_src1]; · iexact HF0_0_src1
      ipureintro; (rw [hX1]; delta kernelRun1_D.sl.HF0_0_src1_w2; refine (wtile_store _ 1 _ (by first | exact wcoff_9 t | exact wcoff_10 t) _ _).trans ?_; delta kernelRun1_D.sl.r_1; (first | delta kernelRun1_D.sl.r_2 | delta kernelRun1_D.sl.r_3); delta kernelRun1_D.sl.r; rw [word_read arg2 harg2 x0 1 rfl, word_read arg2 harg2 x0 0 rfl, block_read arg3 harg3 x1, block_read arg4 harg4 x2, block_read arg5 harg5 x3]; (try rw [block_read arg6 harg6 x4]); rfl)
    icases Hp0_0_0 with ⟨%fp0_0_0, Hp0_0_0⟩
    icases Hp0_0_1 with ⟨%fp0_0_1, Hp0_0_1⟩
    have hD0_0 := wstorable_dlv (F := F) c X (Ring.bk 84 t.val) (Ring.sl 2 t.val)
    imod (Transfers.batch_alloc' (Lvl := ℕ) countersEmb (c : Thread nD τ) default wN (wdlv c X (Ring.bk 84 t.val) (Ring.sl 2 t.val)) (sm := wcellR (Ring.sl 2 t.val)) (E := Set.univ)) $$ HF0_0 with HN0_0
    clear hD0_0
    sl_exec (disch := first | (with_reducible refine wdeliver0 c X _ _ _ _ ?_; delta kernelRun1_D.sl.dma0; rfl) | (with_reducible refine wdeliver1 c X _ _ _ _ ?_; delta kernelRun1_D.sl.dma1; rfl) | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HN0_0_dst0]; · iexact HN0_0_dst0
    isplitl [HN0_0_dst1]; · iexact HN0_0_dst1
    isplitl [HF0_0_dst0]; · iexact HF0_0_dst0
    isplitl [HF0_0_dst1]; · iexact HF0_0_dst1
    isplitl [HI0_0_dst0]; · iexact HI0_0_dst0
    isplitl [HI0_0_dst1]; · iexact HI0_0_dst1
    isplitl [HN0_0]; · iexact HN0_0
    isplitl [HN0_0_src0]; · iexists _; iexact HN0_0_src0
    isplitl [HN0_0_src1]; · iexists _; iexact HN0_0_src1
    isplitl [HI0_0]; · iexact HI0_0
    isplitl [HI0_0_src0]; · iexists _; iexact HI0_0_src0
    isplitl [HI0_0_src1]; · iexists _; iexact HI0_0_src1
    iexists _; iexact HW

end Cert.KernelIdeal.Dh

end
-- ==== Proof.Dh.lean ====
/-
  Region 1, the call `dh`: what each point leaves, the invariant, the body's obligation at every point, and the array of codes at the end.
-/
module

public import proofs.«01_k».proof.Proof.DhRunA
public import proofs.«01_k».proof.Proof.DhRunB
public import proofs.«01_k».proof.Proof.DhRunC
public import proofs.«01_k».proof.Proof.DhRunD

@[expose] public section

set_option maxRecDepth 16384

noncomputable section

namespace Cert.KernelIdeal.Dh

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/- `V`: what core `c`'s buffers hold when the region is entered. -/
variable (V : (c : Dev nD) → (b : Ref sig .tc) → Buf (Elt F) ((c : Thread nD τ).loc b))
/-! ## The codes the points deliver -/

/-- Point `u`'s two blocks of codes, from the input blocks of the point. -/
def XV (c : Dev nD) (u : Fin 84) (m : Fin 2) : Vec F S768x1024 .fp8e5m2 :=
  if m = 0 then code0 (iblk V c 0 (u.cast N_1.symm)) (iblk V c 1 (u.cast N_1.symm)) (iblk V c 2 (u.cast N_1.symm)) (iblk V c 3 (u.cast N_1.symm)) (iblk V c 4 (u.cast N_1.symm))
  else code1 (iblk V c 0 (u.cast N_1.symm)) (iblk V c 1 (u.cast N_1.symm)) (iblk V c 2 (u.cast N_1.symm)) (iblk V c 3 (u.cast N_1.symm))

theorem bk_cast (t : Fin cfg1.N) : (Ring.bk 84 t.val).cast N_1.symm = t :=
  Fin.ext (Nat.mod_eq_of_lt (lt_of_lt_of_eq t.isLt (show cfg1.N = 84 from N_1)))

theorem XV0 (c : Dev nD) (t : Fin cfg1.N) : XV V c (Ring.bk 84 t.val) 0 = code0 (iblk V c 0 t) (iblk V c 1 t) (iblk V c 2 t) (iblk V c 3 t) (iblk V c 4 t) := by
  unfold XV; rw [if_pos rfl, bk_cast]
theorem XV1 (c : Dev nD) (t : Fin cfg1.N) : XV V c (Ring.bk 84 t.val) 1 = code1 (iblk V c 0 t) (iblk V c 1 t) (iblk V c 2 t) (iblk V c 3 t) := by
  unfold XV; rw [if_neg (by decide), bk_cast]

/-- What the invariant carries beside the ring: the other scoped buffers and the generator register. -/
abbrev Gx (c : Dev nD) : sProp 𝕄 :=
  iprop(Pipeline.scopedRestBut (Val := Elt F) (Name := ℕ) (U := Pipeline.UD sig nD τ) (Lvl := ℕ) spec1 c [cc1_scratch0] ∗ ∃ r, prngReg c r)

/-- Case A's pieces for output 5 tile its block (2 stores of `S8x1024`, checked by the kernel's evaluation: Lib/Ring.lean `Piece.tiledL`, linear in the pieces, through a loop's `@[irreducible]` trip theorem too), so they cover it. -/
theorem cover1_A_5 (c : Dev nD) (X : Fin 84 → Fin 2 → Vec F S768x1024 .fp8e5m2) (t : Fin cfg1.N) (arg2 : Memref sig .tc .smem S2 .f32) (harg2 : arg2.IsWhole) (arg3 : Memref sig .tc .vmem S768x4096 .fp8e5m2) (harg3 : arg3.IsWhole) (arg4 : Memref sig .tc .vmem S1024x4096 .fp8e4m3) (harg4 : arg4.IsWhole) (arg5 : Memref sig .tc .vmem S768x1024 .bf16) (harg5 : arg5.IsWhole) (arg6 : Memref sig .tc .vmem S768x1024 .bf16) (harg6 : arg6.IsWhole) (arg8 : Memref sig .tc .vmem S8x1024 .f32) (harg8 : arg8.IsWhole) (hc0 : ¬cond1_0 (grid1.coords t)) (hc1 : cond1_1 (grid1.coords t)) (hc2 : ¬cond1_2 (grid1.coords t))
    (x0 : Vec F S2 .f32) (x1 : Vec F S768x4096 .fp8e5m2) (x2 : Vec F S1024x4096 .fp8e4m3) (x3 : Vec F S768x1024 .bf16) (x4 : Vec F S768x1024 .bf16) (hX0 : X (Ring.bk 84 t.val) 0 = code0 x0 x1 x2 x3 x4) (hX1 : X (Ring.bk 84 t.val) 1 = code1 x0 x1 x2 x3) (y : S8x1024.Idx) :
    ∃ pc ∈ (kernelRun1_A c X t arg2 harg2 arg3 harg3 arg4 harg4 arg5 harg5 arg6 harg6 arg8 harg8 hc0 hc1 hc2 x0 x1 x2 x3 x4 hX0 hX1).1, y ∈ pc.1.set :=
  View.cover_of_tiledL (kernelRun1_A c X t arg2 harg2 arg3 harg3 arg4 harg4 arg5 harg5 arg6 harg6 arg8 harg8 hc0 hc1 hc2 x0 x1 x2 x3 x4 hX0 hX1).1 S8x1024.size (by sl_kernel_rfl) y

/-- What case A leaves in output 5's staging buffer: its pieces read back over junk. -/
def out1_A_5 (c : Dev nD) (X : Fin 84 → Fin 2 → Vec F S768x1024 .fp8e5m2) (t : Fin cfg1.N) (arg2 : Memref sig .tc .smem S2 .f32) (harg2 : arg2.IsWhole) (arg3 : Memref sig .tc .vmem S768x4096 .fp8e5m2) (harg3 : arg3.IsWhole) (arg4 : Memref sig .tc .vmem S1024x4096 .fp8e4m3) (harg4 : arg4.IsWhole) (arg5 : Memref sig .tc .vmem S768x1024 .bf16) (harg5 : arg5.IsWhole) (arg6 : Memref sig .tc .vmem S768x1024 .bf16) (harg6 : arg6.IsWhole) (arg8 : Memref sig .tc .vmem S8x1024 .f32) (harg8 : arg8.IsWhole) (hc0 : ¬cond1_0 (grid1.coords t)) (hc1 : cond1_1 (grid1.coords t)) (hc2 : ¬cond1_2 (grid1.coords t))
    (x0 : Vec F S2 .f32) (x1 : Vec F S768x4096 .fp8e5m2) (x2 : Vec F S1024x4096 .fp8e4m3) (x3 : Vec F S768x1024 .bf16) (x4 : Vec F S768x1024 .bf16) (hX0 : X (Ring.bk 84 t.val) 0 = code0 x0 x1 x2 x3 x4) (hX1 : X (Ring.bk 84 t.val) 1 = code1 x0 x1 x2 x3) : Vec F S8x1024 .f32 :=
  VO1_5.read (Elt F) (VO1_5.writes (Elt F) VO1_5.junk (kernelRun1_A c X t arg2 harg2 arg3 harg3 arg4 harg4 arg5 harg5 arg6 harg6 arg8 harg8 hc0 hc1 hc2 x0 x1 x2 x3 x4 hX0 hX1).1)

/-- Case B's pieces for output 5 tile its block (1 store of `S8x1024`, checked by the kernel's evaluation: Lib/Ring.lean `Piece.tiledL`, linear in the pieces, through a loop's `@[irreducible]` trip theorem too), so they cover it. -/
theorem cover1_B_5 (c : Dev nD) (X : Fin 84 → Fin 2 → Vec F S768x1024 .fp8e5m2) (t : Fin cfg1.N) (arg2 : Memref sig .tc .smem S2 .f32) (harg2 : arg2.IsWhole) (arg3 : Memref sig .tc .vmem S768x4096 .fp8e5m2) (harg3 : arg3.IsWhole) (arg4 : Memref sig .tc .vmem S1024x4096 .fp8e4m3) (harg4 : arg4.IsWhole) (arg5 : Memref sig .tc .vmem S768x1024 .bf16) (harg5 : arg5.IsWhole) (arg6 : Memref sig .tc .vmem S768x1024 .bf16) (harg6 : arg6.IsWhole) (arg8 : Memref sig .tc .vmem S8x1024 .f32) (harg8 : arg8.IsWhole) (hc0 : ¬cond1_0 (grid1.coords t)) (hc1 : ¬cond1_1 (grid1.coords t)) (hc2 : ¬cond1_2 (grid1.coords t))
    (x0 : Vec F S2 .f32) (x1 : Vec F S768x4096 .fp8e5m2) (x2 : Vec F S1024x4096 .fp8e4m3) (x3 : Vec F S768x1024 .bf16) (x4 : Vec F S768x1024 .bf16) (hX0 : X (Ring.bk 84 t.val) 0 = code0 x0 x1 x2 x3 x4) (hX1 : X (Ring.bk 84 t.val) 1 = code1 x0 x1 x2 x3) (xo5 : Vec F S8x1024 .f32) (y : S8x1024.Idx) :
    ∃ pc ∈ (kernelRun1_B c X t arg2 harg2 arg3 harg3 arg4 harg4 arg5 harg5 arg6 harg6 arg8 harg8 hc0 hc1 hc2 x0 x1 x2 x3 x4 hX0 hX1 xo5).1, y ∈ pc.1.set :=
  View.cover_of_tiledL (kernelRun1_B c X t arg2 harg2 arg3 harg3 arg4 harg4 arg5 harg5 arg6 harg6 arg8 harg8 hc0 hc1 hc2 x0 x1 x2 x3 x4 hX0 hX1 xo5).1 S8x1024.size (by sl_kernel_rfl) y

/-- What case B leaves in output 5's staging buffer: its pieces read back over junk. -/
def out1_B_5 (c : Dev nD) (X : Fin 84 → Fin 2 → Vec F S768x1024 .fp8e5m2) (t : Fin cfg1.N) (arg2 : Memref sig .tc .smem S2 .f32) (harg2 : arg2.IsWhole) (arg3 : Memref sig .tc .vmem S768x4096 .fp8e5m2) (harg3 : arg3.IsWhole) (arg4 : Memref sig .tc .vmem S1024x4096 .fp8e4m3) (harg4 : arg4.IsWhole) (arg5 : Memref sig .tc .vmem S768x1024 .bf16) (harg5 : arg5.IsWhole) (arg6 : Memref sig .tc .vmem S768x1024 .bf16) (harg6 : arg6.IsWhole) (arg8 : Memref sig .tc .vmem S8x1024 .f32) (harg8 : arg8.IsWhole) (hc0 : ¬cond1_0 (grid1.coords t)) (hc1 : ¬cond1_1 (grid1.coords t)) (hc2 : ¬cond1_2 (grid1.coords t))
    (x0 : Vec F S2 .f32) (x1 : Vec F S768x4096 .fp8e5m2) (x2 : Vec F S1024x4096 .fp8e4m3) (x3 : Vec F S768x1024 .bf16) (x4 : Vec F S768x1024 .bf16) (hX0 : X (Ring.bk 84 t.val) 0 = code0 x0 x1 x2 x3 x4) (hX1 : X (Ring.bk 84 t.val) 1 = code1 x0 x1 x2 x3) (xo5 : Vec F S8x1024 .f32) : Vec F S8x1024 .f32 :=
  VO1_5.read (Elt F) (VO1_5.writes (Elt F) VO1_5.junk (kernelRun1_B c X t arg2 harg2 arg3 harg3 arg4 harg4 arg5 harg5 arg6 harg6 arg8 harg8 hc0 hc1 hc2 x0 x1 x2 x3 x4 hX0 hX1 xo5).1)

/-- Case C's pieces for output 5 tile its block (1 store of `S8x1024`, checked by the kernel's evaluation: Lib/Ring.lean `Piece.tiledL`, linear in the pieces, through a loop's `@[irreducible]` trip theorem too), so they cover it. -/
theorem cover1_C_5 (c : Dev nD) (X : Fin 84 → Fin 2 → Vec F S768x1024 .fp8e5m2) (t : Fin cfg1.N) (arg2 : Memref sig .tc .smem S2 .f32) (harg2 : arg2.IsWhole) (arg3 : Memref sig .tc .vmem S768x4096 .fp8e5m2) (harg3 : arg3.IsWhole) (arg4 : Memref sig .tc .vmem S1024x4096 .fp8e4m3) (harg4 : arg4.IsWhole) (arg5 : Memref sig .tc .vmem S768x1024 .bf16) (harg5 : arg5.IsWhole) (arg6 : Memref sig .tc .vmem S768x1024 .bf16) (harg6 : arg6.IsWhole) (arg8 : Memref sig .tc .vmem S8x1024 .f32) (harg8 : arg8.IsWhole) (hc0 : cond1_0 (grid1.coords t)) (hc1 : ¬cond1_1 (grid1.coords t)) (hc2 : ¬cond1_2 (grid1.coords t))
    (x0 : Vec F S2 .f32) (x1 : Vec F S768x4096 .fp8e5m2) (x2 : Vec F S1024x4096 .fp8e4m3) (x3 : Vec F S768x1024 .bf16) (x4 : Vec F S768x1024 .bf16) (hX0 : X (Ring.bk 84 t.val) 0 = code0 x0 x1 x2 x3 x4) (hX1 : X (Ring.bk 84 t.val) 1 = code1 x0 x1 x2 x3) (xo5 : Vec F S8x1024 .f32) (y : S8x1024.Idx) :
    ∃ pc ∈ (kernelRun1_C c X t arg2 harg2 arg3 harg3 arg4 harg4 arg5 harg5 arg6 harg6 arg8 harg8 hc0 hc1 hc2 x0 x1 x2 x3 x4 hX0 hX1 xo5).1, y ∈ pc.1.set :=
  View.cover_of_tiledL (kernelRun1_C c X t arg2 harg2 arg3 harg3 arg4 harg4 arg5 harg5 arg6 harg6 arg8 harg8 hc0 hc1 hc2 x0 x1 x2 x3 x4 hX0 hX1 xo5).1 S8x1024.size (by sl_kernel_rfl) y

/-- What case C leaves in output 5's staging buffer: its pieces read back over junk. -/
def out1_C_5 (c : Dev nD) (X : Fin 84 → Fin 2 → Vec F S768x1024 .fp8e5m2) (t : Fin cfg1.N) (arg2 : Memref sig .tc .smem S2 .f32) (harg2 : arg2.IsWhole) (arg3 : Memref sig .tc .vmem S768x4096 .fp8e5m2) (harg3 : arg3.IsWhole) (arg4 : Memref sig .tc .vmem S1024x4096 .fp8e4m3) (harg4 : arg4.IsWhole) (arg5 : Memref sig .tc .vmem S768x1024 .bf16) (harg5 : arg5.IsWhole) (arg6 : Memref sig .tc .vmem S768x1024 .bf16) (harg6 : arg6.IsWhole) (arg8 : Memref sig .tc .vmem S8x1024 .f32) (harg8 : arg8.IsWhole) (hc0 : cond1_0 (grid1.coords t)) (hc1 : ¬cond1_1 (grid1.coords t)) (hc2 : ¬cond1_2 (grid1.coords t))
    (x0 : Vec F S2 .f32) (x1 : Vec F S768x4096 .fp8e5m2) (x2 : Vec F S1024x4096 .fp8e4m3) (x3 : Vec F S768x1024 .bf16) (x4 : Vec F S768x1024 .bf16) (hX0 : X (Ring.bk 84 t.val) 0 = code0 x0 x1 x2 x3 x4) (hX1 : X (Ring.bk 84 t.val) 1 = code1 x0 x1 x2 x3) (xo5 : Vec F S8x1024 .f32) : Vec F S8x1024 .f32 :=
  VO1_5.read (Elt F) (VO1_5.writes (Elt F) VO1_5.junk (kernelRun1_C c X t arg2 harg2 arg3 harg3 arg4 harg4 arg5 harg5 arg6 harg6 arg8 harg8 hc0 hc1 hc2 x0 x1 x2 x3 x4 hX0 hX1 xo5).1)

/-- Case D's pieces for output 5 tile its block (1 store of `S8x1024`, checked by the kernel's evaluation: Lib/Ring.lean `Piece.tiledL`, linear in the pieces, through a loop's `@[irreducible]` trip theorem too), so they cover it. -/
theorem cover1_D_5 (c : Dev nD) (X : Fin 84 → Fin 2 → Vec F S768x1024 .fp8e5m2) (t : Fin cfg1.N) (arg2 : Memref sig .tc .smem S2 .f32) (harg2 : arg2.IsWhole) (arg3 : Memref sig .tc .vmem S768x4096 .fp8e5m2) (harg3 : arg3.IsWhole) (arg4 : Memref sig .tc .vmem S1024x4096 .fp8e4m3) (harg4 : arg4.IsWhole) (arg5 : Memref sig .tc .vmem S768x1024 .bf16) (harg5 : arg5.IsWhole) (arg6 : Memref sig .tc .vmem S768x1024 .bf16) (harg6 : arg6.IsWhole) (arg8 : Memref sig .tc .vmem S8x1024 .f32) (harg8 : arg8.IsWhole) (hc0 : cond1_0 (grid1.coords t)) (hc1 : ¬cond1_1 (grid1.coords t)) (hc2 : cond1_2 (grid1.coords t))
    (x0 : Vec F S2 .f32) (x1 : Vec F S768x4096 .fp8e5m2) (x2 : Vec F S1024x4096 .fp8e4m3) (x3 : Vec F S768x1024 .bf16) (x4 : Vec F S768x1024 .bf16) (hX0 : X (Ring.bk 84 t.val) 0 = code0 x0 x1 x2 x3 x4) (hX1 : X (Ring.bk 84 t.val) 1 = code1 x0 x1 x2 x3) (xo5 : Vec F S8x1024 .f32) (y : S8x1024.Idx) :
    ∃ pc ∈ (kernelRun1_D c X t arg2 harg2 arg3 harg3 arg4 harg4 arg5 harg5 arg6 harg6 arg8 harg8 hc0 hc1 hc2 x0 x1 x2 x3 x4 hX0 hX1 xo5).1, y ∈ pc.1.set :=
  View.cover_of_tiledL (kernelRun1_D c X t arg2 harg2 arg3 harg3 arg4 harg4 arg5 harg5 arg6 harg6 arg8 harg8 hc0 hc1 hc2 x0 x1 x2 x3 x4 hX0 hX1 xo5).1 S8x1024.size (by sl_kernel_rfl) y

/-- What case D leaves in output 5's staging buffer: its pieces read back over junk. -/
def out1_D_5 (c : Dev nD) (X : Fin 84 → Fin 2 → Vec F S768x1024 .fp8e5m2) (t : Fin cfg1.N) (arg2 : Memref sig .tc .smem S2 .f32) (harg2 : arg2.IsWhole) (arg3 : Memref sig .tc .vmem S768x4096 .fp8e5m2) (harg3 : arg3.IsWhole) (arg4 : Memref sig .tc .vmem S1024x4096 .fp8e4m3) (harg4 : arg4.IsWhole) (arg5 : Memref sig .tc .vmem S768x1024 .bf16) (harg5 : arg5.IsWhole) (arg6 : Memref sig .tc .vmem S768x1024 .bf16) (harg6 : arg6.IsWhole) (arg8 : Memref sig .tc .vmem S8x1024 .f32) (harg8 : arg8.IsWhole) (hc0 : cond1_0 (grid1.coords t)) (hc1 : ¬cond1_1 (grid1.coords t)) (hc2 : cond1_2 (grid1.coords t))
    (x0 : Vec F S2 .f32) (x1 : Vec F S768x4096 .fp8e5m2) (x2 : Vec F S1024x4096 .fp8e4m3) (x3 : Vec F S768x1024 .bf16) (x4 : Vec F S768x1024 .bf16) (hX0 : X (Ring.bk 84 t.val) 0 = code0 x0 x1 x2 x3 x4) (hX1 : X (Ring.bk 84 t.val) 1 = code1 x0 x1 x2 x3) (xo5 : Vec F S8x1024 .f32) : Vec F S8x1024 .f32 :=
  VO1_5.read (Elt F) (VO1_5.writes (Elt F) VO1_5.junk (kernelRun1_D c X t arg2 harg2 arg3 harg3 arg4 harg4 arg5 harg5 arg6 harg6 arg8 harg8 hc0 hc1 hc2 x0 x1 x2 x3 x4 hX0 hX1 xo5).1)

/-! ## What the outputs hold after each point -/

/-- THE ACCUMULATION. What the outputs' staging buffers hold after the body at position `n`:
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S8x1024 .f32
  | 0, hn => out1_A_5 c (XV V c) ⟨0, hn⟩ (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (fun h => (fun h => by (try dsimp only at h); omega) ((hcond1_0 ⟨0, hn⟩).mp h)) ((hcond1_1 ⟨0, hn⟩).mpr (Nat.zero_mod _)) (fun h => (fun h => by (try dsimp only at h); omega) ((hcond1_2 ⟨0, hn⟩).mp h)) (iblk V c 0 ⟨0, hn⟩) (iblk V c 1 ⟨0, hn⟩) (iblk V c 2 ⟨0, hn⟩) (iblk V c 3 ⟨0, hn⟩) (iblk V c 4 ⟨0, hn⟩) (XV0 V c ⟨0, hn⟩) (XV1 V c ⟨0, hn⟩)
  | n + 1, hn =>
    if h0 : 2 ≤ (n + 1) then
      if h1 : (n + 1) % 84 = 0 then
        False.elim (by have hN : n + 1 < 84 := lt_of_lt_of_eq hn (show cfg1.N = 84 from N_1); omega)
      else
        if h2 : (n + 1) % 84 = 83 then
          out1_D_5 c (XV V c) ⟨n + 1, hn⟩ (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (fun h => h1 ((hcond1_1 ⟨n + 1, hn⟩).mp h)) ((hcond1_2 ⟨n + 1, hn⟩).mpr h2) (iblk V c 0 ⟨n + 1, hn⟩) (iblk V c 1 ⟨n + 1, hn⟩) (iblk V c 2 ⟨n + 1, hn⟩) (iblk V c 3 ⟨n + 1, hn⟩) (iblk V c 4 ⟨n + 1, hn⟩) (XV0 V c ⟨n + 1, hn⟩) (XV1 V c ⟨n + 1, hn⟩) (outsAt1 c n (Nat.lt_of_succ_lt hn))
        else
          out1_C_5 c (XV V c) ⟨n + 1, hn⟩ (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (fun h => h1 ((hcond1_1 ⟨n + 1, hn⟩).mp h)) (fun h => h2 ((hcond1_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (XV0 V c ⟨n + 1, hn⟩) (XV1 V c ⟨n + 1, hn⟩) (outsAt1 c n (Nat.lt_of_succ_lt hn))
    else
      if h1 : (n + 1) % 84 = 0 then
        if h2 : (n + 1) % 84 = 83 then
          False.elim (by have hN : n + 1 < 84 := lt_of_lt_of_eq hn (show cfg1.N = 84 from N_1); omega)
        else
          out1_A_5 c (XV V c) ⟨n + 1, hn⟩ (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) ((hcond1_1 ⟨n + 1, hn⟩).mpr h1) (fun h => h2 ((hcond1_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (XV0 V c ⟨n + 1, hn⟩) (XV1 V c ⟨n + 1, hn⟩)
      else
        if h2 : (n + 1) % 84 = 83 then
          False.elim (by have hN : n + 1 < 84 := lt_of_lt_of_eq hn (show cfg1.N = 84 from N_1); omega)
        else
          out1_B_5 c (XV V c) ⟨n + 1, hn⟩ (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) (fun h => h1 ((hcond1_1 ⟨n + 1, hn⟩).mp h)) (fun h => h2 ((hcond1_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (XV0 V c ⟨n + 1, hn⟩) (XV1 V c ⟨n + 1, hn⟩) (outsAt1 c n (Nat.lt_of_succ_lt hn))

/-- `outsAt1` at a point of case A: that case's contents. -/
theorem outsAt1_A (c : Dev nD) (t : Fin cfg1.N) (h0 : ¬2 ≤ t.val) (h1 : t.val % 84 = 0) (h2 : ¬t.val % 84 = 83) :
    outsAt1 V c t.val t.isLt = out1_A_5 c (XV V c) t (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) ((hcond1_1 t).mpr h1) (fun h => h2 ((hcond1_2 t).mp h)) (iblk V c 0 t) (iblk V c 1 t) (iblk V c 2 t) (iblk V c 3 t) (iblk V c 4 t) (XV0 V c t) (XV1 V c t) := by
  obtain ⟨n, hn⟩ := t
  cases n with
  | zero => exact rfl
  | succ n => exact (dif_neg h0).trans ((dif_pos h1).trans ((dif_neg h2).trans rfl))

/-- `outsAt1` at a point of case B: that case's contents, over what the point before left. -/
theorem outsAt1_B (c : Dev nD) (t : Fin cfg1.N) (h0 : ¬2 ≤ t.val) (h1 : ¬t.val % 84 = 0) (h2 : ¬t.val % 84 = 83) :
    outsAt1 V c t.val t.isLt = out1_B_5 c (XV V c) t (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (fun h => h1 ((hcond1_1 t).mp h)) (fun h => h2 ((hcond1_2 t).mp h)) (iblk V c 0 t) (iblk V c 1 t) (iblk V c 2 t) (iblk V c 3 t) (iblk V c 4 t) (XV0 V c t) (XV1 V c t) (outsAt1 V c (t.val - 1) (Nat.lt_of_le_of_lt (Nat.sub_le _ _) t.isLt)) := by
  obtain ⟨n, hn⟩ := t
  cases n with
  | zero => exact (by exfalso; (try dsimp only at h1); exact absurd (Nat.zero_mod _) h1)
  | succ n => exact (dif_neg h0).trans ((dif_neg h1).trans ((dif_neg h2).trans rfl))

/-- `outsAt1` at a point of case C: that case's contents, over what the point before left. -/
theorem outsAt1_C (c : Dev nD) (t : Fin cfg1.N) (h0 : 2 ≤ t.val) (h1 : ¬t.val % 84 = 0) (h2 : ¬t.val % 84 = 83) :
    outsAt1 V c t.val t.isLt = out1_C_5 c (XV V c) t (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (fun h => h1 ((hcond1_1 t).mp h)) (fun h => h2 ((hcond1_2 t).mp h)) (iblk V c 0 t) (iblk V c 1 t) (iblk V c 2 t) (iblk V c 3 t) (iblk V c 4 t) (XV0 V c t) (XV1 V c t) (outsAt1 V c (t.val - 1) (Nat.lt_of_le_of_lt (Nat.sub_le _ _) t.isLt)) := by
  obtain ⟨n, hn⟩ := t
  cases n with
  | zero => exact (by exfalso; (try dsimp only at h0); exact by omega)
  | succ n => exact (dif_pos h0).trans ((dif_neg h1).trans ((dif_neg h2).trans rfl))

/-- `outsAt1` at a point of case D: that case's contents, over what the point before left. -/
theorem outsAt1_D (c : Dev nD) (t : Fin cfg1.N) (h0 : 2 ≤ t.val) (h1 : ¬t.val % 84 = 0) (h2 : t.val % 84 = 83) :
    outsAt1 V c t.val t.isLt = out1_D_5 c (XV V c) t (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (fun h => h1 ((hcond1_1 t).mp h)) ((hcond1_2 t).mpr h2) (iblk V c 0 t) (iblk V c 1 t) (iblk V c 2 t) (iblk V c 3 t) (iblk V c 4 t) (XV0 V c t) (XV1 V c t) (outsAt1 V c (t.val - 1) (Nat.lt_of_le_of_lt (Nat.sub_le _ _) t.isLt)) := by
  obtain ⟨n, hn⟩ := t
  cases n with
  | zero => exact (by exfalso; (try dsimp only at h0); exact by omega)
  | succ n => exact (dif_pos h0).trans ((dif_neg h1).trans ((dif_pos h2).trans rfl))

/-! ## The pipeline's proof data -/

/-- The region invariant before point `k`: the generator register at some state, and each ring
    before point `k`. -/
def PhiR (c : Dev nD) (k : ℕ) : sProp 𝕄 := iprop(Gx c ∗ (wringAt c (XV V c) k ∗ wtileSpare c))

/-- The proof data of the one pipeline on core `c`: the arrays as the region finds them (`V`); after the body at
    point `t` each input's buffer at its block and the outputs' at `outsAt1`; the invariant
    (`PhiR`: the write ring's Lib/Ring/WriteBehind.lean `Ring.AtBΦ` before the point's step, beside the register and what the body takes whole);
    nothing owed; each input's share of its array
    (`Pipeline.shareOf`: the full share of an array several windows stage, dealt among them). -/
def dat (c : Dev nD) : Dat τ (Elt F) Unit ℕ (Pipeline.UD sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt1 V c t.val t.isLt)
  Φ t := PhiR V c t.val
  q w := Pipeline.shareOf spec1 w
  owed _ := 0

/-- The proof data's arrays are the region-entry contents: the proof data's definition projected (`dsimp`), so that
    `V` — a fold over @main's host prefix, long for some programs — is never unfolded to check it. -/
theorem A_eq (c : Dev nD) (w : Fin cfg1.W) : (dat V c).A w = V c (Pipeline.arrRef spec1 w) := by
  dsimp only [dat]

/-- The invariant at a point's start (the proof data at `t.castSucc`), restated at `t.val`. -/
theorem PhiR_castSucc (c : Dev nD) (t : Fin cfg1.N) : (dat V c).Φ t.castSucc = PhiR V c t.val := by
  dsimp only [dat]; simp only [Fin.coe_castSucc]
/-- The invariant at a point's end (the proof data at `t.succ`), restated at `t.val + 1`. -/
theorem PhiR_succ (c : Dev nD) (t : Fin cfg1.N) : (dat V c).Φ t.succ = PhiR V c (t.val + 1) := by
  dsimp only [dat]; simp only [Fin.val_succ]

/-- What the body leaves, window by window (the proof data's `match` reduced by `dsimp`). -/
theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = iblk V c 2 t := by dsimp only [dat]
theorem after1_3 (c : Dev nD) (t : Fin cfg1.N) : (dat V c).after 3 t = iblk V c 3 t := by dsimp only [dat]
theorem after1_4 (c : Dev nD) (t : Fin cfg1.N) : (dat V c).after 4 t = iblk V c 4 t := by dsimp only [dat]
theorem after1_5 (c : Dev nD) (t : Fin cfg1.N) : (dat V c).after 5 t = (outsAt1 V c t.val t.isLt) := by dsimp only [dat]

/-- Each input's current staging buffer holds its block at every point, fetched there or not (`beforeK_W_of`). -/
theorem before1_0 (c : Dev nD) (t : Fin cfg1.N) (d) : (dat V c).before 0 t d = iblk V c 0 t :=
  before1_0_of V (dat V c) (A_eq V c 0) (after1_0 V c) t d
theorem before1_1 (c : Dev nD) (t : Fin cfg1.N) (d) : (dat V c).before 1 t d = iblk V c 1 t :=
  before1_1_of V (dat V c) (A_eq V c 1) (after1_1 V c) t d
theorem before1_2 (c : Dev nD) (t : Fin cfg1.N) (d) : (dat V c).before 2 t d = iblk V c 2 t :=
  before1_2_of V (dat V c) (A_eq V c 2) (after1_2 V c) t d
theorem before1_3 (c : Dev nD) (t : Fin cfg1.N) (d) : (dat V c).before 3 t d = iblk V c 3 t :=
  before1_3_of V (dat V c) (A_eq V c 3) (after1_3 V c) t d
theorem before1_4 (c : Dev nD) (t : Fin cfg1.N) (d) : (dat V c).before 4 t d = iblk V c 4 t :=
  before1_4_of V (dat V c) (A_eq V c 4) (after1_4 V c) t d
/-- At a point of case B output 5's current staging buffer holds what the body left at the point before: the point is
    not the first, the buffer was not written back between (`flush1_5`), the window is live and uncut (Lib/Pipeline/Frame.lean
    `Dat.before_out_kept`). -/
theorem before1_5_B (c : Dev nD) (t : Fin cfg1.N) (h0 : ¬2 ≤ t.val) (h1 : ¬t.val % 84 = 0) (h2 : ¬t.val % 84 = 83) (d) :
    (dat V c).before 5 t d = (outsAt1 V c (t.val - 1) (Nat.lt_of_le_of_lt (Nat.sub_le _ _) t.isLt)) := by
  have hN : t.val < 84 := lt_of_lt_of_eq t.isLt (show cfg1.N = 84 from N_1)
  rw [Dat.before_out_kept _ 5 rfl t (by omega) (Bool.eq_false_iff.mpr fun h => by have := (flush1_5 _).mp h; dsimp only at this; omega)
    (fun _ => rfl) (fun _ _ => rfl)]
  dsimp only [dat]
/-- At a point of case C output 5's current staging buffer holds what the body left at the point before: the point is
    not the first, the buffer was not written back between (`flush1_5`), the window is live and uncut (Lib/Pipeline/Frame.lean
    `Dat.before_out_kept`). -/
theorem before1_5_C (c : Dev nD) (t : Fin cfg1.N) (h0 : 2 ≤ t.val) (h1 : ¬t.val % 84 = 0) (h2 : ¬t.val % 84 = 83) (d) :
    (dat V c).before 5 t d = (outsAt1 V c (t.val - 1) (Nat.lt_of_le_of_lt (Nat.sub_le _ _) t.isLt)) := by
  have hN : t.val < 84 := lt_of_lt_of_eq t.isLt (show cfg1.N = 84 from N_1)
  rw [Dat.before_out_kept _ 5 rfl t (by omega) (Bool.eq_false_iff.mpr fun h => by have := (flush1_5 _).mp h; dsimp only at this; omega)
    (fun _ => rfl) (fun _ _ => rfl)]
  dsimp only [dat]
/-- At a point of case D output 5's current staging buffer holds what the body left at the point before: the point is
    not the first, the buffer was not written back between (`flush1_5`), the window is live and uncut (Lib/Pipeline/Frame.lean
    `Dat.before_out_kept`). -/
theorem before1_5_D (c : Dev nD) (t : Fin cfg1.N) (h0 : 2 ≤ t.val) (h1 : ¬t.val % 84 = 0) (h2 : t.val % 84 = 83) (d) :
    (dat V c).before 5 t d = (outsAt1 V c (t.val - 1) (Nat.lt_of_le_of_lt (Nat.sub_le _ _) t.isLt)) := by
  have hN : t.val < 84 := lt_of_lt_of_eq t.isLt (show cfg1.N = 84 from N_1)
  rw [Dat.before_out_kept _ 5 rfl t (by omega) (Bool.eq_false_iff.mpr fun h => by have := (flush1_5 _).mp h; dsimp only at this; omega)
    (fun _ => rfl) (fun _ _ => rfl)]
  dsimp only [dat]

/-! ## The body obligation, at a generic point -/

/-- What the body is called with at point `t` (Lib/Pipeline.lean `BodyObligation`'s precondition, the windows one by one), -/
def bodyPre (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d))
    ∗ (∃ d, owns (c : Thread nD τ) (ms1_4 t) fullShare ((dat V c).before 4 t d))
    ∗ (∃ d, owns (c : Thread nD τ) (ms1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (ms1_0 t) fullShare ((dat V c).after 0 t)
    ∗ owns (c : Thread nD τ) (ms1_1 t) fullShare ((dat V c).after 1 t)
    ∗ owns (c : Thread nD τ) (ms1_2 t) fullShare ((dat V c).after 2 t)
    ∗ owns (c : Thread nD τ) (ms1_3 t) fullShare ((dat V c).after 3 t)
    ∗ owns (c : Thread nD τ) (ms1_4 t) fullShare ((dat V c).after 4 t)
    ∗ owns (c : Thread nD τ) (ms1_5 t) fullShare ((dat V c).after 5 t))

-- the generic class-R frame budget (`body_budget_of`: 400000 a case, scaled up for many buffers, side conditions and a carried scratch);
-- the write-ring leaves measured so far elaborate within Lean's default — retired when the budget is emitted only where a leaf measures above the default
set_option maxHeartbeats 1600000 in
/-- The body at any point: the inputs' memrefs hold their blocks (`before1_W`); the closed forms say which case the point is in (`by_cases`), an output the case reads before covering holds what the point before left (`before1_W_κ`); so the
    run applies; the invariant (`PhiR`) is rewritten, per case, to the write ring's pieces the point's role takes (Lib/Ring/WriteBehind.lean `AtB22_here`, `AtB2_zero'`, …, by the case's step facts `wstepK_R_κ`) and reassembled from what the run hands back (`AtB22_next`, `AtB22_drained`, …), the scratch's and the result's spare elements riding beside; the core's `owes` goes in at whatever the points before recorded and comes back with this point's waits, within the next point's bound (everything). -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4]
  rw [after1_0, after1_1, after1_2, after1_3, after1_4, after1_5]
  rw [PhiR_castSucc V c t, PhiR_succ V c t]
  unfold Dat.owesAt Pipeline.owesWithin
  rw [show (dat V c).owed t.castSucc = 0 from rfl, show (dat V c).owed t.succ = 0 from rfl]
  unfold PhiR wringAt
  have hgN : grid1.N = 84 := N_1
  have hN : t.val < 84 := lt_of_lt_of_eq t.isLt (show cfg1.N = 84 from N_1)
  by_cases h0 : 2 ≤ t.val
  · by_cases h1 : t.val % 84 = 0
    · exfalso; omega
    · by_cases h2 : t.val % 84 = 83
      · rw [outsAt1_D V c t h0 h1 h2]
        simp only [before1_5_D V c t h0 h1 h2]
        unfold out1_D_5
        have hw0 := wstep_D t ((hcond1_0 t).mpr h0) (fun h => h1 ((hcond1_1 t).mp h)) ((hcond1_2 t).mpr h2)
        obtain ⟨hW20, hWend0, hWs0⟩ := hw0
        rw [Ring.AtBΦ_lt _ _ _ _ _ t.val (by omega), Ring.AtB22_here_last _ _ _ _ t.val hW20 hWend0, Ring.AtBΦ_end _ _ _ _ _ (t.val + 1) hWend0, Ring.AtB22_drained _ _ t.val hW20 hWend0]
        iintro ⟨⟨Hg, ⟨⟨⟨Hp0_0_0, Hp0_0_1⟩, HB0_0, HF0_0, HI0_0⟩, HTsp0_0⟩⟩, ⟨%W, -, HW⟩, ⟨%d0, H0⟩, ⟨%d1, H1⟩, ⟨%d2, H2⟩, ⟨%d3, H3⟩, ⟨%d4, H4⟩, ⟨%d5, H5⟩⟩
        iapply ((kernelRun1_D c (XV V c) t _ _ _ _ _ _ _ _ _ _ _ _ ((hcond1_0 t).mpr h0) (fun h => h1 ((hcond1_1 t).mp h)) ((hcond1_2 t).mpr h2) (iblk V c 0 t) (iblk V c 1 t) (iblk V c 2 t) (iblk V c 3 t) (iblk V c 4 t) (XV0 V c t) (XV1 V c t) _).2 W _)
        isplitl [H0]; · iexact H0
        isplitl [H1]; · iexact H1
        isplitl [H2]; · iexact H2
        isplitl [H3]; · iexact H3
        isplitl [H4]; · iexact H4
        isplitl [H5]; · iexact H5
        isplitl [Hp0_0_0]; · iexact Hp0_0_0
        isplitl [Hp0_0_1]; · iexact Hp0_0_1
        isplitl [HF0_0]; · iexact HF0_0
        isplitl [HI0_0]; · iexact HI0_0
        isplitl [HW]; · iexact HW
        iintro ⟨H0, H1, H2, H3, H4, ⟨%e5, H5⟩, Ho0_0_0, Ho0_0_1, Hl0_0_0, Hl0_0_1, Hm0_0_0, Hm0_0_1, Hqo0_0, Hto0_0_0, Hto0_0_1, Hqp0_0, Htp0_0_0, Htp0_0_1, ⟨%W', HW'⟩⟩
        isplitl [Hg HB0_0 HTsp0_0 Ho0_0_0 Ho0_0_1 Hl0_0_0 Hl0_0_1 Hm0_0_0 Hm0_0_1 Hqo0_0 Hto0_0_0 Hto0_0_1 Hqp0_0 Htp0_0_0 Htp0_0_1]
        · isplitl [Hg]; · iexact Hg
          isplitl [Ho0_0_0 Ho0_0_1 Hl0_0_0 Hl0_0_1 Hm0_0_0 Hm0_0_1 HB0_0 Hqo0_0 Hto0_0_0 Hto0_0_1 Hqp0_0 Htp0_0_0 Htp0_0_1]
          · isplitl [Ho0_0_0 Ho0_0_1 Hl0_0_0 Hl0_0_1 Hm0_0_0 Hm0_0_1 HB0_0]
            · isplitl [Ho0_0_0 Ho0_0_1]
              · isplitl [Ho0_0_0]
                · iexact Ho0_0_0
                iexact Ho0_0_1
              isplitl [Hl0_0_0 Hl0_0_1]
              · isplitl [Hl0_0_0]
                · iexact Hl0_0_0
                iexact Hl0_0_1
              isplitl [Hm0_0_0 Hm0_0_1]
              · isplitl [Hm0_0_0]
                · iexact Hm0_0_0
                iexact Hm0_0_1
              iexact HB0_0
            isplitl [Hqo0_0 Hto0_0_0 Hto0_0_1]
            · isplitl [Hqo0_0]
              · iexact Hqo0_0
              isplitl [Hto0_0_0]
              · iexact Hto0_0_0
              iexact Hto0_0_1
            isplitl [Hqp0_0]
            · iexact Hqp0_0
            isplitl [Htp0_0_0]
            · iexact Htp0_0_0
            iexact Htp0_0_1
          iexact HTsp0_0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_D_5 c _ _ _ _ _ _ _ _ _ _ _ _ _ _ _ _ _ _ _ _ _ _ _ _ _)
      · rw [outsAt1_C V c t h0 h1 h2]
        simp only [before1_5_C V c t h0 h1 h2]
        unfold out1_C_5
        have hw0 := wstep_C t ((hcond1_0 t).mpr h0) (fun h => h1 ((hcond1_1 t).mp h)) (fun h => h2 ((hcond1_2 t).mp h))
        obtain ⟨hW20, hWlt0, hWs0⟩ := hw0
        rw [Ring.AtBΦ_lt _ _ _ _ _ t.val (by omega), Ring.AtB22_here _ _ _ _ t.val hW20 (by omega), Ring.AtBΦ_lt _ _ _ _ _ (t.val + 1) hWlt0, Ring.AtB22_next _ _ _ _ t.val hW20 (by omega)]
        iintro ⟨⟨Hg, ⟨⟨⟨⟨Hp0_0_0, Hp0_0_1⟩, HA0_0⟩, HB0_0, HF0_0, Hcar0_0⟩, HTsp0_0⟩⟩, ⟨%W, -, HW⟩, ⟨%d0, H0⟩, ⟨%d1, H1⟩, ⟨%d2, H2⟩, ⟨%d3, H3⟩, ⟨%d4, H4⟩, ⟨%d5, H5⟩⟩
        iapply ((kernelRun1_C c (XV V c) t _ _ _ _ _ _ _ _ _ _ _ _ ((hcond1_0 t).mpr h0) (fun h => h1 ((hcond1_1 t).mp h)) (fun h => h2 ((hcond1_2 t).mp h)) (iblk V c 0 t) (iblk V c 1 t) (iblk V c 2 t) (iblk V c 3 t) (iblk V c 4 t) (XV0 V c t) (XV1 V c t) _).2 W _)
        isplitl [H0]; · iexact H0
        isplitl [H1]; · iexact H1
        isplitl [H2]; · iexact H2
        isplitl [H3]; · iexact H3
        isplitl [H4]; · iexact H4
        isplitl [H5]; · iexact H5
        isplitl [Hp0_0_0]; · iexact Hp0_0_0
        isplitl [Hp0_0_1]; · iexact Hp0_0_1
        isplitl [HF0_0]; · iexact HF0_0
        isplitl [HW]; · iexact HW
        iintro ⟨H0, H1, H2, H3, H4, ⟨%e5, H5⟩, Hl0_0_0, Hl0_0_1, Hn0_0, ⟨%W', HW'⟩⟩
        isplitl [Hg HA0_0 HB0_0 Hcar0_0 HTsp0_0 Hl0_0_0 Hl0_0_1 Hn0_0]
        · isplitl [Hg]; · iexact Hg
          isplitl [HA0_0 Hl0_0_0 Hl0_0_1 HB0_0 Hcar0_0 Hn0_0]
          · isplitl [HA0_0]
            · iexact HA0_0
            isplitl [Hl0_0_0 Hl0_0_1 HB0_0]
            · isplitl [Hl0_0_0 Hl0_0_1]
              · isplitl [Hl0_0_0]
                · iexact Hl0_0_0
                iexact Hl0_0_1
              iexact HB0_0
            isplitl [Hcar0_0]
            · iexact Hcar0_0
            iexact Hn0_0
          iexact HTsp0_0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _ _ _)
  · by_cases h1 : t.val % 84 = 0
    · by_cases h2 : t.val % 84 = 83
      · exfalso; omega
      · rw [outsAt1_A V c t h0 h1 h2]
        unfold out1_A_5
        have hw0 := wstep_A t (fun h => h0 ((hcond1_0 t).mp h)) ((hcond1_1 t).mpr h1) (fun h => h2 ((hcond1_2 t).mp h))
        obtain ⟨hWlt0, hWs0⟩ := hw0
        rcases (show t.val = 0 ∨ t.val = 1 by omega) with hW0 | hW0
        · rw [Ring.AtBΦ_lt _ _ _ _ _ t.val (by omega), Ring.AtB2_zero' 2 _ _ _ _ t.val hW0, Ring.AtBΦ_lt _ _ _ _ _ (t.val + 1) (by omega), Ring.AtB22_next_zero' _ _ _ _ t.val hW0]
          iintro ⟨⟨Hg, ⟨⟨⟨⟨Hp0_0_0, Hp0_0_1⟩, HA0_0⟩, ⟨Hq0_0, Ht0_0_0, Ht0_0_1⟩, Hfx0_0⟩, HTsp0_0⟩⟩, ⟨%W, -, HW⟩, ⟨%d0, H0⟩, ⟨%d1, H1⟩, ⟨%d2, H2⟩, ⟨%d3, H3⟩, ⟨%d4, H4⟩, ⟨%d5, H5⟩⟩
          iapply ((kernelRun1_A c (XV V c) t _ _ _ _ _ _ _ _ _ _ _ _ (fun h => h0 ((hcond1_0 t).mp h)) ((hcond1_1 t).mpr h1) (fun h => h2 ((hcond1_2 t).mp h)) (iblk V c 0 t) (iblk V c 1 t) (iblk V c 2 t) (iblk V c 3 t) (iblk V c 4 t) (XV0 V c t) (XV1 V c t)).2 W _)
          isplitl [H0]; · iexact H0
          isplitl [H1]; · iexact H1
          isplitl [H2]; · iexact H2
          isplitl [H3]; · iexact H3
          isplitl [H4]; · iexact H4
          isplitl [H5]; · iexists _; iexact H5
          isplitl [Hp0_0_0]; · iexact Hp0_0_0
          isplitl [Hp0_0_1]; · iexact Hp0_0_1
          isplitl [Hq0_0]; · iexact Hq0_0
          isplitl [Ht0_0_0]; · iexact Ht0_0_0
          isplitl [Ht0_0_1]; · iexact Ht0_0_1
          isplitl [HW]; · iexact HW
          iintro ⟨H0, H1, H2, H3, H4, ⟨%e5, H5⟩, Hn0_0, ⟨%W', HW'⟩⟩
          isplitl [Hg HA0_0 Hfx0_0 HTsp0_0 Hn0_0]
          · isplitl [Hg]; · iexact Hg
            isplitl [HA0_0 Hfx0_0 Hn0_0]
            · isplitl [HA0_0]
              · iexact HA0_0
              isplitl [Hfx0_0]
              · iexact Hfx0_0
              iexact Hn0_0
            iexact HTsp0_0
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover1_A_5 c _ _ _ _ _ _ _ _ _ _ _ _ _ _ _ _ _ _ _ _ _ _ _ _)
        · rw [Ring.AtBΦ_lt _ _ _ _ _ t.val (by omega), Ring.AtB22_one' _ _ _ _ t.val hW0 (by decide), Ring.AtBΦ_lt _ _ _ _ _ (t.val + 1) (by omega), Ring.AtB22_next_one' _ _ _ _ t.val hW0]
          iintro ⟨⟨Hg, ⟨⟨⟨⟨Hp0_0_0, Hp0_0_1⟩, HA0_0⟩, ⟨Hq0_0, Ht0_0_0, Ht0_0_1⟩, Hcar0_0⟩, HTsp0_0⟩⟩, ⟨%W, -, HW⟩, ⟨%d0, H0⟩, ⟨%d1, H1⟩, ⟨%d2, H2⟩, ⟨%d3, H3⟩, ⟨%d4, H4⟩, ⟨%d5, H5⟩⟩
          iapply ((kernelRun1_A c (XV V c) t _ _ _ _ _ _ _ _ _ _ _ _ (fun h => h0 ((hcond1_0 t).mp h)) ((hcond1_1 t).mpr h1) (fun h => h2 ((hcond1_2 t).mp h)) (iblk V c 0 t) (iblk V c 1 t) (iblk V c 2 t) (iblk V c 3 t) (iblk V c 4 t) (XV0 V c t) (XV1 V c t)).2 W _)
          isplitl [H0]; · iexact H0
          isplitl [H1]; · iexact H1
          isplitl [H2]; · iexact H2
          isplitl [H3]; · iexact H3
          isplitl [H4]; · iexact H4
          isplitl [H5]; · iexists _; iexact H5
          isplitl [Hp0_0_0]; · iexact Hp0_0_0
          isplitl [Hp0_0_1]; · iexact Hp0_0_1
          isplitl [Hq0_0]; · iexact Hq0_0
          isplitl [Ht0_0_0]; · iexact Ht0_0_0
          isplitl [Ht0_0_1]; · iexact Ht0_0_1
          isplitl [HW]; · iexact HW
          iintro ⟨H0, H1, H2, H3, H4, ⟨%e5, H5⟩, Hn0_0, ⟨%W', HW'⟩⟩
          isplitl [Hg HA0_0 Hcar0_0 HTsp0_0 Hn0_0]
          · isplitl [Hg]; · iexact Hg
            isplitl [HA0_0 Hcar0_0 Hn0_0]
            · isplitl [HA0_0]
              · iexact HA0_0
              isplitl [Hcar0_0]
              · iexact Hcar0_0
              iexact Hn0_0
            iexact HTsp0_0
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover1_A_5 c _ _ _ _ _ _ _ _ _ _ _ _ _ _ _ _ _ _ _ _ _ _ _ _)
    · by_cases h2 : t.val % 84 = 83
      · exfalso; omega
      · rw [outsAt1_B V c t h0 h1 h2]
        simp only [before1_5_B V c t h0 h1 h2]
        unfold out1_B_5
        have hw0 := wstep_B t (fun h => h0 ((hcond1_0 t).mp h)) (fun h => h1 ((hcond1_1 t).mp h)) (fun h => h2 ((hcond1_2 t).mp h))
        obtain ⟨hWlt0, hWs0⟩ := hw0
        rcases (show t.val = 0 ∨ t.val = 1 by omega) with hW0 | hW0
        · rw [Ring.AtBΦ_lt _ _ _ _ _ t.val (by omega), Ring.AtB2_zero' 2 _ _ _ _ t.val hW0, Ring.AtBΦ_lt _ _ _ _ _ (t.val + 1) (by omega), Ring.AtB22_next_zero' _ _ _ _ t.val hW0]
          iintro ⟨⟨Hg, ⟨⟨⟨⟨Hp0_0_0, Hp0_0_1⟩, HA0_0⟩, ⟨Hq0_0, Ht0_0_0, Ht0_0_1⟩, Hfx0_0⟩, HTsp0_0⟩⟩, ⟨%W, -, HW⟩, ⟨%d0, H0⟩, ⟨%d1, H1⟩, ⟨%d2, H2⟩, ⟨%d3, H3⟩, ⟨%d4, H4⟩, ⟨%d5, H5⟩⟩
          iapply ((kernelRun1_B c (XV V c) t _ _ _ _ _ _ _ _ _ _ _ _ (fun h => h0 ((hcond1_0 t).mp h)) (fun h => h1 ((hcond1_1 t).mp h)) (fun h => h2 ((hcond1_2 t).mp h)) (iblk V c 0 t) (iblk V c 1 t) (iblk V c 2 t) (iblk V c 3 t) (iblk V c 4 t) (XV0 V c t) (XV1 V c t) _).2 W _)
          isplitl [H0]; · iexact H0
          isplitl [H1]; · iexact H1
          isplitl [H2]; · iexact H2
          isplitl [H3]; · iexact H3
          isplitl [H4]; · iexact H4
          isplitl [H5]; · iexact H5
          isplitl [Hp0_0_0]; · iexact Hp0_0_0
          isplitl [Hp0_0_1]; · iexact Hp0_0_1
          isplitl [Hq0_0]; · iexact Hq0_0
          isplitl [Ht0_0_0]; · iexact Ht0_0_0
          isplitl [Ht0_0_1]; · iexact Ht0_0_1
          isplitl [HW]; · iexact HW
          iintro ⟨H0, H1, H2, H3, H4, ⟨%e5, H5⟩, Hn0_0, ⟨%W', HW'⟩⟩
          isplitl [Hg HA0_0 Hfx0_0 HTsp0_0 Hn0_0]
          · isplitl [Hg]; · iexact Hg
            isplitl [HA0_0 Hfx0_0 Hn0_0]
            · isplitl [HA0_0]
              · iexact HA0_0
              isplitl [Hfx0_0]
              · iexact Hfx0_0
              iexact Hn0_0
            iexact HTsp0_0
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover1_B_5 c _ _ _ _ _ _ _ _ _ _ _ _ _ _ _ _ _ _ _ _ _ _ _ _ _)
        · rw [Ring.AtBΦ_lt _ _ _ _ _ t.val (by omega), Ring.AtB22_one' _ _ _ _ t.val hW0 (by decide), Ring.AtBΦ_lt _ _ _ _ _ (t.val + 1) (by omega), Ring.AtB22_next_one' _ _ _ _ t.val hW0]
          iintro ⟨⟨Hg, ⟨⟨⟨⟨Hp0_0_0, Hp0_0_1⟩, HA0_0⟩, ⟨Hq0_0, Ht0_0_0, Ht0_0_1⟩, Hcar0_0⟩, HTsp0_0⟩⟩, ⟨%W, -, HW⟩, ⟨%d0, H0⟩, ⟨%d1, H1⟩, ⟨%d2, H2⟩, ⟨%d3, H3⟩, ⟨%d4, H4⟩, ⟨%d5, H5⟩⟩
          iapply ((kernelRun1_B c (XV V c) t _ _ _ _ _ _ _ _ _ _ _ _ (fun h => h0 ((hcond1_0 t).mp h)) (fun h => h1 ((hcond1_1 t).mp h)) (fun h => h2 ((hcond1_2 t).mp h)) (iblk V c 0 t) (iblk V c 1 t) (iblk V c 2 t) (iblk V c 3 t) (iblk V c 4 t) (XV0 V c t) (XV1 V c t) _).2 W _)
          isplitl [H0]; · iexact H0
          isplitl [H1]; · iexact H1
          isplitl [H2]; · iexact H2
          isplitl [H3]; · iexact H3
          isplitl [H4]; · iexact H4
          isplitl [H5]; · iexact H5
          isplitl [Hp0_0_0]; · iexact Hp0_0_0
          isplitl [Hp0_0_1]; · iexact Hp0_0_1
          isplitl [Hq0_0]; · iexact Hq0_0
          isplitl [Ht0_0_0]; · iexact Ht0_0_0
          isplitl [Ht0_0_1]; · iexact Ht0_0_1
          isplitl [HW]; · iexact HW
          iintro ⟨H0, H1, H2, H3, H4, ⟨%e5, H5⟩, Hn0_0, ⟨%W', HW'⟩⟩
          isplitl [Hg HA0_0 Hcar0_0 HTsp0_0 Hn0_0]
          · isplitl [Hg]; · iexact Hg
            isplitl [HA0_0 Hcar0_0 Hn0_0]
            · isplitl [HA0_0]
              · iexact HA0_0
              isplitl [Hcar0_0]
              · iexact Hcar0_0
              iexact Hn0_0
            iexact HTsp0_0
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover1_B_5 c _ _ _ _ _ _ _ _ _ _ _ _ _ _ _ _ _ _ _ _ _ _ _ _ _)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

/-- The region's array written by the body's own copies: at anything before the call, -/
abbrev arrIn (c : Dev nD) : sProp 𝕄 := iprop(∃ f, hbPt1 (F := F) c hbM1_0 f)
/-- and at the codes of every point after it. -/
abbrev arrOut (c : Dev nD) : sProp 𝕄 := hbPt1 (F := F) c hbM1_0 (dhArr (XV V c))

/-- What the call finds is the invariant before the first point, the ring split into its tiles, cells and pieces; -/
theorem hin (c : Dev nD) : iprop(Pipeline.scopedRest spec1 c ∗ ((∃ r, prngReg c r) ∗ arrIn c) ∗ Pipeline.ownSems0 osem1 c) ⊢ ((dat V c).Φ 0 : sProp 𝕄) := by
  rw [ownSems01_eq, show (dat V c).Φ 0 = PhiR V c 0 from rfl, scopedRest1_split]
  unfold PhiR
  iintro ⟨⟨HS, HR⟩, ⟨Hg, Ho⟩, ⟨Hq0, Hq1⟩⟩
  isplitl [HR Hg]
  · isplitl [HR]; · iexact HR
    iexact Hg
  iapply (wring_in (F := F) c (XV V c))
  isplitl [HS]; · simp only [scM1_0, owns_whole]; iexact HS
  isplitl [Hq0 Hq1]
  · isplitl [Hq0]; · iexact Hq0
    iexact Hq1
  iexact Ho
/-- the invariant after the last point hands it back, joined, the array at the codes. -/
theorem hout (c : Dev nD) : ((dat V c).Φ (Fin.last cfg1.N) : sProp 𝕄) ⊢ iprop(Pipeline.scopedRest spec1 c ∗ ((∃ r, prngReg c r) ∗ arrOut V c) ∗ Pipeline.ownSems0 osem1 c) := by
  rw [ownSems01_eq, show (dat V c).Φ (Fin.last cfg1.N) = PhiR V c grid1.N from rfl, scopedRest1_split]
  unfold PhiR
  rw [show grid1.N = 84 by rw [N_1]]
  iintro ⟨⟨HR, Hg⟩, HW⟩
  ihave HX := (wring_out (F := F) c (XV V c)) $$ HW
  icases HX with ⟨HS, ⟨Hq0, Hq1⟩, Ho⟩
  isplitl [HS HR]
  · isplitl [HS]; · simp only [scM1_0, owns_whole]; iexact HS
    iexact HR
  isplitl [Hg Ho]
  · isplitl [Hg]; · iexact Hg
    iexact Ho
  isplitl [Hq0]; · iexact Hq0
  iexact Hq1

end Cert.KernelIdeal.Dh

end
-- ==== Proof.Dw2.lean ====
/-
  Region 2, the call `dw` that makes dW2: the run of its body (case by case), what its staging buffers hold after each point,
  and the pipeline's proof data, entered from any contents `V` of the buffers.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Frame
public import Idealize.ShloMosaic.Lib.Ring
public import Idealize.ShloMosaic.Lib.Tactic
public import Idealize.ShloMosaic.Lib.WordCmp

@[expose] public section

set_option maxRecDepth 16384

noncomputable section

namespace Cert.KernelIdeal.Dw2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/- `V`: what core `c`'s buffers hold when the region is entered. -/
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 3, through which its contents are stated (`View.read_writes_of_cover`: the
    choice does not matter). -/
abbrev VO2_3 : View sig .tc .vmem S1024x1024 .bf16 := (Memref.whole cc2_stg3_0 : Memref sig .tc .vmem S1024x1024 .bf16).view
/-- Each window's current staging memref at point `t`, spelled as the pipeline passes it (`bodyAt2`), and its wholeness. -/
abbrev ms2_0 (t : Fin cfg2.N) : Memref sig .tc .smem S1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4608x1024 .fp8e4m3 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4608x1024 .fp8e5m2 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .bf16 := win2_3.stage (cfg2.slots t 3)
abbrev hs2_3 (t : Fin cfg2.N) : (ms2_3 t).IsWhole := hstage2_3 ((cfg2.slots t 3).cast nbuf2_3)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun2_A (c : Dev nD) (i : grid2.Coords) (arg2 : Memref sig .tc .smem S1 .f32) (harg2 : arg2.IsWhole) (arg3 : Memref sig .tc .vmem S4608x1024 .fp8e4m3) (harg3 : arg3.IsWhole) (arg4 : Memref sig .tc .vmem S4608x1024 .fp8e5m2) (harg4 : arg4.IsWhole) (arg5 : Memref sig .tc .vmem S1024x1024 .bf16) (harg5 : arg5.IsWhole)
    (x0 : Vec F S1 .f32) (x1 : Vec F S4608x1024 .fp8e4m3) (x2 : Vec F S4608x1024 .fp8e5m2) :
    { L3 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc2_dw i arg2 harg2 arg3 harg3 arg4 harg4 arg5 harg5) K } := by
  refine ⟨?_, fun E K => ?run⟩
  case run =>
    simp only [cc2_dw_eq_skeleton]; unfold cc2_dw_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The run's pieces for output 3 tile its block (1 store of `S1024x1024`, checked by the kernel's evaluation: Lib/Ring.lean `Piece.tiledL`, linear in the pieces, through a loop's `@[irreducible]` trip theorem too), so they cover it. -/
theorem cover2_A_3 (c : Dev nD) (i : grid2.Coords) (arg2 : Memref sig .tc .smem S1 .f32) (harg2 : arg2.IsWhole) (arg3 : Memref sig .tc .vmem S4608x1024 .fp8e4m3) (harg3 : arg3.IsWhole) (arg4 : Memref sig .tc .vmem S4608x1024 .fp8e5m2) (harg4 : arg4.IsWhole) (arg5 : Memref sig .tc .vmem S1024x1024 .bf16) (harg5 : arg5.IsWhole)
    (x0 : Vec F S1 .f32) (x1 : Vec F S4608x1024 .fp8e4m3) (x2 : Vec F S4608x1024 .fp8e5m2) (y : S1024x1024.Idx) :
    ∃ pc ∈ (kernelRun2_A c i arg2 harg2 arg3 harg3 arg4 harg4 arg5 harg5 x0 x1 x2).1, y ∈ pc.1.set :=
  View.cover_of_tiledL (kernelRun2_A c i arg2 harg2 arg3 harg3 arg4 harg4 arg5 harg5 x0 x1 x2).1 S1024x1024.size (by sl_kernel_rfl) y

/-- What the run leaves in output 3's staging buffer: its pieces read back over junk. -/
def out2_A_3 (c : Dev nD) (i : grid2.Coords) (arg2 : Memref sig .tc .smem S1 .f32) (harg2 : arg2.IsWhole) (arg3 : Memref sig .tc .vmem S4608x1024 .fp8e4m3) (harg3 : arg3.IsWhole) (arg4 : Memref sig .tc .vmem S4608x1024 .fp8e5m2) (harg4 : arg4.IsWhole) (arg5 : Memref sig .tc .vmem S1024x1024 .bf16) (harg5 : arg5.IsWhole)
    (x0 : Vec F S1 .f32) (x1 : Vec F S4608x1024 .fp8e4m3) (x2 : Vec F S4608x1024 .fp8e5m2) : Vec F S1024x1024 .bf16 :=
  VO2_3.read (Elt F) (VO2_3.writes (Elt F) VO2_3.junk (kernelRun2_A c i arg2 harg2 arg3 harg3 arg4 harg4 arg5 harg5 x0 x1 x2).1)

/-! ## What the outputs hold after each point -/

/-- What the outputs' staging buffers hold after the body at point `t`: the run's contents at
    the point's memrefs and input blocks. -/
def outsAt2 (c : Dev nD) (t : Fin cfg2.N) : Vec F S1024x1024 .bf16 :=
  out2_A_3 c (grid2.coords t) (ms2_0 t) (hs2_0 t) (ms2_1 t) (hs2_1 t) (ms2_2 t) (hs2_2 t) (ms2_3 t) (hs2_3 t) (iblk V c 0 t) (iblk V c 1 t) (iblk V c 2 t)

/-! ## The pipeline's proof data -/

/-- The proof data of the one pipeline on core `c`: the arrays as the region finds them (`V`); after the body at
    point `t` each input's buffer at its block and the outputs' at `outsAt2`; the invariant the class's
    (Lib/Pipeline/Frame.lean `ΦA`: the scoped rest and the generator register); nothing owed; full shares. -/
def dat (c : Dev nD) : Dat τ (Elt F) Unit ℕ (Pipeline.UD sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => (outsAt2 V c t)
  Φ _ := Pipeline.ΦA spec2 c
  q _ := fullShare
  owed _ := 0

/-- The proof data's arrays are the region-entry contents: the proof data's definition projected (`dsimp`), so that
    `V` — a fold over @main's host prefix, long for some programs — is never unfolded to check it. -/
theorem A_eq (c : Dev nD) (w : Fin cfg2.W) : (dat V c).A w = V c (Pipeline.arrRef spec2 w) := by
  dsimp only [dat]

/-- What the body leaves, window by window (the proof data's `match` reduced by `dsimp`). -/
theorem after2_0 (c : Dev nD) (t : Fin cfg2.N) : (dat V c).after 0 t = iblk V c 0 t := by dsimp only [dat]
theorem after2_1 (c : Dev nD) (t : Fin cfg2.N) : (dat V c).after 1 t = iblk V c 1 t := by dsimp only [dat]
theorem after2_2 (c : Dev nD) (t : Fin cfg2.N) : (dat V c).after 2 t = iblk V c 2 t := by dsimp only [dat]
theorem after2_3 (c : Dev nD) (t : Fin cfg2.N) : (dat V c).after 3 t = (outsAt2 V c t) := by dsimp only [dat]

/-- Each input's current staging buffer holds its block at every point, fetched there or not (`beforeK_W_of`). -/
theorem before2_0 (c : Dev nD) (t : Fin cfg2.N) (d) : (dat V c).before 0 t d = iblk V c 0 t :=
  before2_0_of V (dat V c) (A_eq V c 0) (after2_0 V c) t d
theorem before2_1 (c : Dev nD) (t : Fin cfg2.N) (d) : (dat V c).before 1 t d = iblk V c 1 t :=
  before2_1_of V (dat V c) (A_eq V c 1) (after2_1 V c) t d
theorem before2_2 (c : Dev nD) (t : Fin cfg2.N) (d) : (dat V c).before 2 t d = iblk V c 2 t :=
  before2_2_of V (dat V c) (A_eq V c 2) (after2_2 V c) t d

/-! ## The body obligation, at a generic point -/

/-- What the body is called with at point `t` (Lib/Pipeline.lean `BodyObligation`'s precondition, the windows one by one), -/
def bodyPre (c : Dev nD) (t : Fin cfg2.N) : sProp 𝕄 :=
  iprop((dat V c).Φ t.castSucc ∗ (dat V c).owesAt () t.castSucc
    ∗ (∃ d, owns (c : Thread nD τ) (ms2_0 t) fullShare ((dat V c).before 0 t d))
    ∗ (∃ d, owns (c : Thread nD τ) (ms2_1 t) fullShare ((dat V c).before 1 t d))
    ∗ (∃ d, owns (c : Thread nD τ) (ms2_2 t) fullShare ((dat V c).before 2 t d))
    ∗ (∃ d, owns (c : Thread nD τ) (ms2_3 t) fullShare ((dat V c).before 3 t d)))

/-- and what it returns. -/
def bodyPost (c : Dev nD) (t : Fin cfg2.N) : sProp 𝕄 :=
  iprop((dat V c).Φ t.succ ∗ (dat V c).owesAt () t.succ
    ∗ owns (c : Thread nD τ) (ms2_0 t) fullShare ((dat V c).after 0 t)
    ∗ owns (c : Thread nD τ) (ms2_1 t) fullShare ((dat V c).after 1 t)
    ∗ owns (c : Thread nD τ) (ms2_2 t) fullShare ((dat V c).after 2 t)
    ∗ owns (c : Thread nD τ) (ms2_3 t) fullShare ((dat V c).after 3 t))

/-- The body at any point: the inputs' memrefs hold their blocks (`before2_W`); so the
    run applies; the invariant passes through unread; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before2_0, before2_1, before2_2]
  rw [show (dat V c).Φ t.succ = (dat V c).Φ t.castSucc from rfl,
    show (dat V c).owesAt () t.succ = (dat V c).owesAt () t.castSucc from rfl,
    after2_0, after2_1, after2_2, after2_3]
  unfold outsAt2
  unfold out2_A_3
  iintro ⟨HΦ, Ho, ⟨%d0, H0⟩, ⟨%d1, H1⟩, ⟨%d2, H2⟩, ⟨%d3, H3⟩⟩
  iapply ((kernelRun2_A c (grid2.coords t) _ _ _ _ _ _ _ _ (iblk V c 0 t) (iblk V c 1 t) (iblk V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover2_A_3 c _ _ _ _ _ _ _ _ _ _ _ _)

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

end Cert.KernelIdeal.Dw2

end
-- ==== Proof.Dw1.lean ====
/-
  Region 3, the call `dw` that makes dW1: the run of its body (case by case), what its staging buffers hold after each point,
  and the pipeline's proof data, entered from any contents `V` of the buffers.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Frame
public import Idealize.ShloMosaic.Lib.Ring
public import Idealize.ShloMosaic.Lib.Tactic
public import Idealize.ShloMosaic.Lib.WordCmp

@[expose] public section

set_option maxRecDepth 16384

noncomputable section

namespace Cert.KernelIdeal.Dw1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/- `V`: what core `c`'s buffers hold when the region is entered. -/
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (Pipeline.UD sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) Unit ℕ (Pipeline.UD sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 3, through which its contents are stated (`View.read_writes_of_cover`: the
    choice does not matter). -/
abbrev VO3_3 : View sig .tc .vmem S1024x1024 .bf16 := (Memref.whole cc3_stg3_0 : Memref sig .tc .vmem S1024x1024 .bf16).view
/-- Each window's current staging memref at point `t`, spelled as the pipeline passes it (`bodyAt3`), and its wholeness. -/
abbrev ms3_0 (t : Fin cfg3.N) : Memref sig .tc .smem S1 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S4608x1024 .fp8e4m3 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S4608x1024 .fp8e5m2 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x1024 .bf16 := win3_3.stage (cfg3.slots t 3)
abbrev hs3_3 (t : Fin cfg3.N) : (ms3_3 t).IsWhole := hstage3_3 ((cfg3.slots t 3).cast nbuf3_3)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun3_A (c : Dev nD) (i : grid3.Coords) (arg2 : Memref sig .tc .smem S1 .f32) (harg2 : arg2.IsWhole) (arg3 : Memref sig .tc .vmem S4608x1024 .fp8e4m3) (harg3 : arg3.IsWhole) (arg4 : Memref sig .tc .vmem S4608x1024 .fp8e5m2) (harg4 : arg4.IsWhole) (arg5 : Memref sig .tc .vmem S1024x1024 .bf16) (harg5 : arg5.IsWhole)
    (x0 : Vec F S1 .f32) (x1 : Vec F S4608x1024 .fp8e4m3) (x2 : Vec F S4608x1024 .fp8e5m2) :
    { L3 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc3_dw i arg2 harg2 arg3 harg3 arg4 harg4 arg5 harg5) K } := by
  refine ⟨?_, fun E K => ?run⟩
  case run =>
    simp only [cc3_dw_eq_skeleton]; unfold cc3_dw_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The run's pieces for output 3 tile its block (1 store of `S1024x1024`, checked by the kernel's evaluation: Lib/Ring.lean `Piece.tiledL`, linear in the pieces, through a loop's `@[irreducible]` trip theorem too), so they cover it. -/
theorem cover3_A_3 (c : Dev nD) (i : grid3.Coords) (arg2 : Memref sig .tc .smem S1 .f32) (harg2 : arg2.IsWhole) (arg3 : Memref sig .tc .vmem S4608x1024 .fp8e4m3) (harg3 : arg3.IsWhole) (arg4 : Memref sig .tc .vmem S4608x1024 .fp8e5m2) (harg4 : arg4.IsWhole) (arg5 : Memref sig .tc .vmem S1024x1024 .bf16) (harg5 : arg5.IsWhole)
    (x0 : Vec F S1 .f32) (x1 : Vec F S4608x1024 .fp8e4m3) (x2 : Vec F S4608x1024 .fp8e5m2) (y : S1024x1024.Idx) :
    ∃ pc ∈ (kernelRun3_A c i arg2 harg2 arg3 harg3 arg4 harg4 arg5 harg5 x0 x1 x2).1, y ∈ pc.1.set :=
  View.cover_of_tiledL (kernelRun3_A c i arg2 harg2 arg3 harg3 arg4 harg4 arg5 harg5 x0 x1 x2).1 S1024x1024.size (by sl_kernel_rfl) y

/-- What the run leaves in output 3's staging buffer: its pieces read back over junk. -/
def out3_A_3 (c : Dev nD) (i : grid3.Coords) (arg2 : Memref sig .tc .smem S1 .f32) (harg2 : arg2.IsWhole) (arg3 : Memref sig .tc .vmem S4608x1024 .fp8e4m3) (harg3 : arg3.IsWhole) (arg4 : Memref sig .tc .vmem S4608x1024 .fp8e5m2) (harg4 : arg4.IsWhole) (arg5 : Memref sig .tc .vmem S1024x1024 .bf16) (harg5 : arg5.IsWhole)
    (x0 : Vec F S1 .f32) (x1 : Vec F S4608x1024 .fp8e4m3) (x2 : Vec F S4608x1024 .fp8e5m2) : Vec F S1024x1024 .bf16 :=
  VO3_3.read (Elt F) (VO3_3.writes (Elt F) VO3_3.junk (kernelRun3_A c i arg2 harg2 arg3 harg3 arg4 harg4 arg5 harg5 x0 x1 x2).1)

/-! ## What the outputs hold after each point -/

/-- What the outputs' staging buffers hold after the body at point `t`: the run's contents at
    the point's memrefs and input blocks. -/
def outsAt3 (c : Dev nD) (t : Fin cfg3.N) : Vec F S1024x1024 .bf16 :=
  out3_A_3 c (grid3.coords t) (ms3_0 t) (hs3_0 t) (ms3_1 t) (hs3_1 t) (ms3_2 t) (hs3_2 t) (ms3_3 t) (hs3_3 t) (iblk V c 0 t) (iblk V c 1 t) (iblk V c 2 t)

/-! ## The pipeline's proof data -/

/-- The proof data of the one pipeline on core `c`: the arrays as the region finds them (`V`); after the body at
    point `t` each input's buffer at its block and the outputs' at `outsAt3`; the invariant the class's
    (Lib/Pipeline/Frame.lean `ΦA`: the scoped rest and the generator register); nothing owed; full shares. -/
def dat (c : Dev nD) : Dat τ (Elt F) Unit ℕ (Pipeline.UD sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => (outsAt3 V c t)
  Φ _ := Pipeline.ΦA spec3 c
  q _ := fullShare
  owed _ := 0

/-- The proof data's arrays are the region-entry contents: the proof data's definition projected (`dsimp`), so that
    `V` — a fold over @main's host prefix, long for some programs — is never unfolded to check it. -/
theorem A_eq (c : Dev nD) (w : Fin cfg3.W) : (dat V c).A w = V c (Pipeline.arrRef spec3 w) := by
  dsimp only [dat]

/-- What the body leaves, window by window (the proof data's `match` reduced by `dsimp`). -/
theorem after3_0 (c : Dev nD) (t : Fin cfg3.N) : (dat V c).after 0 t = iblk V c 0 t := by dsimp only [dat]
theorem after3_1 (c : Dev nD) (t : Fin cfg3.N) : (dat V c).after 1 t = iblk V c 1 t := by dsimp only [dat]
theorem after3_2 (c : Dev nD) (t : Fin cfg3.N) : (dat V c).after 2 t = iblk V c 2 t := by dsimp only [dat]
theorem after3_3 (c : Dev nD) (t : Fin cfg3.N) : (dat V c).after 3 t = (outsAt3 V c t) := by dsimp only [dat]

/-- Each input's current staging buffer holds its block at every point, fetched there or not (`beforeK_W_of`). -/
theorem before3_0 (c : Dev nD) (t : Fin cfg3.N) (d) : (dat V c).before 0 t d = iblk V c 0 t :=
  before3_0_of V (dat V c) (A_eq V c 0) (after3_0 V c) t d
theorem before3_1 (c : Dev nD) (t : Fin cfg3.N) (d) : (dat V c).before 1 t d = iblk V c 1 t :=
  before3_1_of V (dat V c) (A_eq V c 1) (after3_1 V c) t d
theorem before3_2 (c : Dev nD) (t : Fin cfg3.N) (d) : (dat V c).before 2 t d = iblk V c 2 t :=
  before3_2_of V (dat V c) (A_eq V c 2) (after3_2 V c) t d

/-! ## The body obligation, at a generic point -/

/-- What the body is called with at point `t` (Lib/Pipeline.lean `BodyObligation`'s precondition, the windows one by one), -/
def bodyPre (c : Dev nD) (t : Fin cfg3.N) : sProp 𝕄 :=
  iprop((dat V c).Φ t.castSucc ∗ (dat V c).owesAt () t.castSucc
    ∗ (∃ d, owns (c : Thread nD τ) (ms3_0 t) fullShare ((dat V c).before 0 t d))
    ∗ (∃ d, owns (c : Thread nD τ) (ms3_1 t) fullShare ((dat V c).before 1 t d))
    ∗ (∃ d, owns (c : Thread nD τ) (ms3_2 t) fullShare ((dat V c).before 2 t d))
    ∗ (∃ d, owns (c : Thread nD τ) (ms3_3 t) fullShare ((dat V c).before 3 t d)))

/-- and what it returns. -/
def bodyPost (c : Dev nD) (t : Fin cfg3.N) : sProp 𝕄 :=
  iprop((dat V c).Φ t.succ ∗ (dat V c).owesAt () t.succ
    ∗ owns (c : Thread nD τ) (ms3_0 t) fullShare ((dat V c).after 0 t)
    ∗ owns (c : Thread nD τ) (ms3_1 t) fullShare ((dat V c).after 1 t)
    ∗ owns (c : Thread nD τ) (ms3_2 t) fullShare ((dat V c).after 2 t)
    ∗ owns (c : Thread nD τ) (ms3_3 t) fullShare ((dat V c).after 3 t))

/-- The body at any point: the inputs' memrefs hold their blocks (`before3_W`); so the
    run applies; the invariant passes through unread; the core owes nothing throughout. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before3_0, before3_1, before3_2]
  rw [show (dat V c).Φ t.succ = (dat V c).Φ t.castSucc from rfl,
    show (dat V c).owesAt () t.succ = (dat V c).owesAt () t.castSucc from rfl,
    after3_0, after3_1, after3_2, after3_3]
  unfold outsAt3
  unfold out3_A_3
  iintro ⟨HΦ, Ho, ⟨%d0, H0⟩, ⟨%d1, H1⟩, ⟨%d2, H2⟩, ⟨%d3, H3⟩⟩
  iapply ((kernelRun3_A c (grid3.coords t) _ _ _ _ _ _ _ _ (iblk V c 0 t) (iblk V c 1 t) (iblk V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover3_A_3 c _ _ _ _ _ _ _ _ _ _ _ _)

/-- The body table's row at point `t`'s slots is the body as `bodyAt3` spells it. -/
theorem defs₀_row (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W3, bigSep_W3, defs₀_row]
  exact triple_restated (sound_body V c t) rfl .rfl fun _ => .rfl

end Cert.KernelIdeal.Dw1

end
-- ==== Proof.Dx.lean ====
/-
  Region 4, the call `dx`: the run of its body (case by case), what its staging buffers hold after each point,
  and the pipeline's proof data, entered from any contents `V` of the buffers.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Frame
public import Idealize.ShloMosaic.Lib.Ring
public import Idealize.ShloMosaic.Lib.Tactic
public import Idealize.ShloMosaic.Lib.WordCmp

@[expose] public section

set_option maxRecDepth 16384

noncomputable section

namespace Cert.KernelIdeal.Dx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/- `V`: what core `c`'s buffers hold when the region is entered. -/
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk V c 0 t) (t : Fin cfg4.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_1_of {c : Dev nD} (dat : Dat τ (Elt F) Unit ℕ (Pipeline.UD sig nD τ) ℕ cfg4 c) (hA : dat.A 1 = V c (Pipeline.arrRef spec4 1))
    (hafter : ∀ t, dat.after 1 t = iblk V c 1 t) (t : Fin cfg4.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_2_of {c : Dev nD} (dat : Dat τ (Elt F) Unit ℕ (Pipeline.UD sig nD τ) ℕ cfg4 c) (hA : dat.A 2 = V c (Pipeline.arrRef spec4 2))
    (hafter : ∀ t, dat.after 2 t = iblk V c 2 t) (t : Fin cfg4.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k4_h1`), from the grid coordinates (the skeleton's scalar
    chain substituted). -/
abbrev cond4_0 (i : grid4.Coords) : Prop := (Scalar.cmpi .ne (Scalar.extui (Scalar.cmpi .eq (BitVec.ofNat 32 (i 2).val) 0#32)) 0#32) = 1#1
/-- It holds at the points ≡ 0 (mod 14) — by arithmetic of the point. -/
theorem hcond4_0 : ∀ t : Fin cfg4.N, cond4_0 (grid4.coords t) ↔ t.val % 14 = 0 :=
  (fun t => by
    have ht : t.val < 84 := Nat.lt_of_lt_of_eq t.isLt N_4
    have e0 : (grid4.coords t 0).val = t.val / 28 % 3 := Pipeline.Grid.coords_val t 0 (by decide) rfl
    have e1 : (grid4.coords t 1).val = t.val / 14 % 2 := Pipeline.Grid.coords_val t 1 (by decide) rfl
    have e2 : (grid4.coords t 2).val = t.val / 1 % 14 := Pipeline.Grid.coords_val t 2 (by decide) rfl
    simp only [cond4_0, e0, e1, e2]
    word_cmp
   : ∀ t : Fin grid4.N, cond4_0 (grid4.coords t) ↔ t.val % 14 = 0)

/-- The condition of the body's `scf.if` 1 (`k4_h2`), from the grid coordinates (the skeleton's scalar
    chain substituted). -/
abbrev cond4_1 (i : grid4.Coords) : Prop := k4_cond2 i = 1#1
/-- It holds at the points ≡ 13 (mod 14) — by arithmetic of the point. -/
theorem hcond4_1 : ∀ t : Fin cfg4.N, cond4_1 (grid4.coords t) ↔ t.val % 14 = 13 :=
  (fun t => by
    have ht : t.val < 84 := Nat.lt_of_lt_of_eq t.isLt N_4
    have e0 : (grid4.coords t 0).val = t.val / 28 % 3 := Pipeline.Grid.coords_val t 0 (by decide) rfl
    have e1 : (grid4.coords t 1).val = t.val / 14 % 2 := Pipeline.Grid.coords_val t 1 (by decide) rfl
    have e2 : (grid4.coords t 2).val = t.val / 1 % 14 := Pipeline.Grid.coords_val t 2 (by decide) rfl
    simp only [cond4_1, k4_cond2, e0, e1, e2]
    word_cmp
   : ∀ t : Fin grid4.N, cond4_1 (grid4.coords t) ↔ t.val % 14 = 13)

/-! ## Where the windows are idle (the printed configuration's table `Cfg.idle`) -/

/-- Window 0 is never idle (an input). -/
theorem liveAt4_0 : ∀ t : Fin cfg4.N, cfg4.idle 0 (grid4.coords t) = false := fun _ => rfl
/-- Window 1 is never idle (an input). -/
theorem liveAt4_1 : ∀ t : Fin cfg4.N, cfg4.idle 1 (grid4.coords t) = false := fun _ => rfl
/-- Window 2 is never idle (an input). -/
theorem liveAt4_2 : ∀ t : Fin cfg4.N, cfg4.idle 2 (grid4.coords t) = false := fun _ => rfl
/-- At the points of case A the printed configuration (`Cfg.idle`) calls output 3 idle: the case stores nothing into it. -/
theorem idleAt4_3_A : ∀ t : Fin cfg4.N, cond4_0 (grid4.coords t) → ¬cond4_1 (grid4.coords t) → cfg4.idle 3 (grid4.coords t) = true := by decide +kernel
/-- At the points of case A the pipeline does not write output 3's block back. -/
theorem noFlush4_3_A : ∀ t : Fin cfg4.N, cond4_0 (grid4.coords t) → ¬cond4_1 (grid4.coords t) → (cfg4.win 3).flush t = false := by decide +kernel
/-- At the points of case B the printed configuration (`Cfg.idle`) calls output 3 idle: the case stores nothing into it. -/
theorem idleAt4_3_B : ∀ t : Fin cfg4.N, ¬cond4_0 (grid4.coords t) → ¬cond4_1 (grid4.coords t) → cfg4.idle 3 (grid4.coords t) = true := by decide +kernel
/-- At the points of case B the pipeline does not write output 3's block back. -/
theorem noFlush4_3_B : ∀ t : Fin cfg4.N, ¬cond4_0 (grid4.coords t) → ¬cond4_1 (grid4.coords t) → (cfg4.win 3).flush t = false := by decide +kernel
/-- At the points of case C the printed configuration (`Cfg.idle`) calls output 3 live: the case stores into it. -/
theorem liveAt4_3_C : ∀ t : Fin cfg4.N, ¬cond4_0 (grid4.coords t) → cond4_1 (grid4.coords t) → cfg4.idle 3 (grid4.coords t) = false := by decide +kernel

/-! ## The kernel body on any staging memrefs: a subtype the run finds -/

/-- One staging buffer of output window 3, through which its contents are stated (`View.read_writes_of_cover`: the
    choice does not matter). -/
abbrev VO4_3 : View sig .tc .vmem S1536x2048 .bf16 := (Memref.whole cc4_stg3_0 : Memref sig .tc .vmem S1536x2048 .bf16).view
/-- Each window's current staging memref at point `t`, spelled as the pipeline passes it (`bodyAt4`), and its wholeness. -/
abbrev ms4_0 (t : Fin cfg4.N) : Memref sig .tc .smem S1 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1536x2048 .fp8e5m2 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048x2048 .fp8e4m3 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1536x2048 .bf16 := win4_3.stage (cfg4.slots t 3)
abbrev hs4_3 (t : Fin cfg4.N) : (ms4_3 t).IsWhole := hstage4_3 ((cfg4.slots t 3).cast nbuf4_3)
/-- The scratch operands: whole scoped buffers of the kernel's own, passed beside the windows. -/
abbrev scM4_0 : Memref sig .tc .vmem S1536x2048 .f32 := Memref.whole cc4_scratch0
/-- The scratch `arg7` the kernel carries between points, as a view: what it holds is stated through it. -/
abbrev VS4_0 : View sig .tc .vmem S1536x2048 .f32 := scM4_0.view

/-- The other kernels' scoped buffers and the generator register: what rides along. -/
abbrev Gx (c : Dev nD) : sProp 𝕄 :=
  iprop(Pipeline.scopedRestBut (Ix := Unit) (Name := ℕ) (U := Pipeline.UD sig nD τ) (Lvl := ℕ) (Val := Elt F) spec4 c [cc4_scratch0] ∗ ∃ r, prngReg c r)

/-- The class's invariant with the scratch operand as a memref owned at some contents. -/
theorem PhiA4_eq (c : Dev nD) :
    (Pipeline.ΦA spec4 c : sProp 𝕄)
      = iprop(iprop((∃ d, owns (c : Thread nD τ) scM4_0 fullShare d)) ∗ Gx c) := by
  unfold Pipeline.ΦA; rw [scopedRest4_split]; simp only [scM4_0, owns_whole]
  exact (BI.sep_assoc).antisymm BI.sep_assoc'

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 14, 28, 42, 56, 70), WITH the
    proof that on whole staging memrefs — the inputs' at their contents, the outputs it leaves idle (3: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun4_A (c : Dev nD) (i : grid4.Coords) (arg3 : Memref sig .tc .smem S1 .f32) (harg3 : arg3.IsWhole) (arg4 : Memref sig .tc .vmem S1536x2048 .fp8e5m2) (harg4 : arg4.IsWhole) (arg5 : Memref sig .tc .vmem S2048x2048 .fp8e4m3) (harg5 : arg5.IsWhole) (arg6 : Memref sig .tc .vmem S1536x2048 .bf16) (harg6 : arg6.IsWhole) (arg7 : Memref sig .tc .vmem S1536x2048 .f32) (harg7 : arg7.IsWhole) (hc0 : cond4_0 i) (hc1 : ¬cond4_1 i)
    (x0 : Vec F S1 .f32) (x1 : Vec F S1536x2048 .fp8e5m2) (x2 : Vec F S2048x2048 .fp8e4m3) :
    Σ' (L3 : List (View.Piece (Elt F) S1536x2048 .bf16)), { LS0 : List (View.Piece (Elt F) S1536x2048 .f32) //
      ∀ (xi3 : Vec F S1536x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc4_dx i arg3 harg3 arg4 harg4 arg5 harg5 arg6 harg6 arg7 harg7) K } := by
  refine ⟨[], ?_, fun xi3 E K => ?run⟩
  case run =>
    simp only [cc4_dx_eq_skeleton]; unfold cc4_dx_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 82: 72 of 84), WITH the
    proof that on whole staging memrefs — the inputs' at their contents, the outputs it leaves idle (3: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun4_B (c : Dev nD) (i : grid4.Coords) (arg3 : Memref sig .tc .smem S1 .f32) (harg3 : arg3.IsWhole) (arg4 : Memref sig .tc .vmem S1536x2048 .fp8e5m2) (harg4 : arg4.IsWhole) (arg5 : Memref sig .tc .vmem S2048x2048 .fp8e4m3) (harg5 : arg5.IsWhole) (arg6 : Memref sig .tc .vmem S1536x2048 .bf16) (harg6 : arg6.IsWhole) (arg7 : Memref sig .tc .vmem S1536x2048 .f32) (harg7 : arg7.IsWhole) (hc0 : ¬cond4_0 i) (hc1 : ¬cond4_1 i)
    (x0 : Vec F S1 .f32) (x1 : Vec F S1536x2048 .fp8e5m2) (x2 : Vec F S2048x2048 .fp8e4m3) (xs0 : Vec F S1536x2048 .f32) :
    Σ' (L3 : List (View.Piece (Elt F) S1536x2048 .bf16)), { LS0 : List (View.Piece (Elt F) S1536x2048 .f32) //
      ∀ (xi3 : Vec F S1536x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc4_dx i arg3 harg3 arg4 harg4 arg5 harg5 arg6 harg6 arg7 harg7) K } := by
  refine ⟨[], ?_, fun xi3 E K => ?run⟩
  case run =>
    simp only [cc4_dx_eq_skeleton]; unfold cc4_dx_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

-- (the run's proof term is large: the definition's epilogue — `abstractNestedProofs` — walks it past the default budget)
set_option maxHeartbeats 1000000 in
/-- What the body's stores leave in each output's staging memref, as pieces (last first) IN CASE C (`scf.if` 0 not taken, `scf.if` 1 taken: points 13, 27, 41, 55, 69, 83), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun4_C (c : Dev nD) (i : grid4.Coords) (arg3 : Memref sig .tc .smem S1 .f32) (harg3 : arg3.IsWhole) (arg4 : Memref sig .tc .vmem S1536x2048 .fp8e5m2) (harg4 : arg4.IsWhole) (arg5 : Memref sig .tc .vmem S2048x2048 .fp8e4m3) (harg5 : arg5.IsWhole) (arg6 : Memref sig .tc .vmem S1536x2048 .bf16) (harg6 : arg6.IsWhole) (arg7 : Memref sig .tc .vmem S1536x2048 .f32) (harg7 : arg7.IsWhole) (hc0 : ¬cond4_0 i) (hc1 : cond4_1 i)
    (x0 : Vec F S1 .f32) (x1 : Vec F S1536x2048 .fp8e5m2) (x2 : Vec F S2048x2048 .fp8e4m3) (xs0 : Vec F S1536x2048 .f32) :
    Σ' (L3 : List (View.Piece (Elt F) S1536x2048 .bf16)), { LS0 : List (View.Piece (Elt F) S1536x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc4_dx i arg3 harg3 arg4 harg4 arg5 harg5 arg6 harg6 arg7 harg7) K } := by
  refine ⟨?_, ?_, fun E K => ?run⟩
  case run =>
    simp only [cc4_dx_eq_skeleton]; unfold cc4_dx_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-- Case A stores nothing into output 3 (the window is idle at its points and not written back there):
    no pieces — a placeholder (junk read back) that nothing consults, since at these points the window is neither
    written back nor read at the next point (Lib/Pipeline.lean "Idle points"). -/
def out4_A_3 (c : Dev nD) (i : grid4.Coords) (arg3 : Memref sig .tc .smem S1 .f32) (harg3 : arg3.IsWhole) (arg4 : Memref sig .tc .vmem S1536x2048 .fp8e5m2) (harg4 : arg4.IsWhole) (arg5 : Memref sig .tc .vmem S2048x2048 .fp8e4m3) (harg5 : arg5.IsWhole) (arg6 : Memref sig .tc .vmem S1536x2048 .bf16) (harg6 : arg6.IsWhole) (arg7 : Memref sig .tc .vmem S1536x2048 .f32) (harg7 : arg7.IsWhole) (hc0 : cond4_0 i) (hc1 : ¬cond4_1 i)
    (x0 : Vec F S1 .f32) (x1 : Vec F S1536x2048 .fp8e5m2) (x2 : Vec F S2048x2048 .fp8e4m3) : Vec F S1536x2048 .bf16 :=
  VO4_3.read (Elt F) (VO4_3.writes (Elt F) VO4_3.junk (kernelRun4_A c i arg3 harg3 arg4 harg4 arg5 harg5 arg6 harg6 arg7 harg7 hc0 hc1 x0 x1 x2).1)

/-- Case A's pieces for scratch `arg7`, which the kernel carries between points, cover it: 2 pieces of `S1536x2048` tiling it (Lib/Ring.lean `Piece.tiledL`). -/
theorem scover4_A_0 (c : Dev nD) (i : grid4.Coords) (arg3 : Memref sig .tc .smem S1 .f32) (harg3 : arg3.IsWhole) (arg4 : Memref sig .tc .vmem S1536x2048 .fp8e5m2) (harg4 : arg4.IsWhole) (arg5 : Memref sig .tc .vmem S2048x2048 .fp8e4m3) (harg5 : arg5.IsWhole) (arg6 : Memref sig .tc .vmem S1536x2048 .bf16) (harg6 : arg6.IsWhole) (arg7 : Memref sig .tc .vmem S1536x2048 .f32) (harg7 : arg7.IsWhole) (hc0 : cond4_0 i) (hc1 : ¬cond4_1 i)
    (x0 : Vec F S1 .f32) (x1 : Vec F S1536x2048 .fp8e5m2) (x2 : Vec F S2048x2048 .fp8e4m3) (y : S1536x2048.Idx) :
    ∃ pc ∈ (kernelRun4_A c i arg3 harg3 arg4 harg4 arg5 harg5 arg6 harg6 arg7 harg7 hc0 hc1 x0 x1 x2).2.1, y ∈ pc.1.set :=
  View.cover_of_tiledL (kernelRun4_A c i arg3 harg3 arg4 harg4 arg5 harg5 arg6 harg6 arg7 harg7 hc0 hc1 x0 x1 x2).2.1 S1536x2048.size (by sl_kernel_rfl) y

/-- What case A leaves in scratch `arg7`: its pieces read back over junk. -/
def sout4_A_0 (c : Dev nD) (i : grid4.Coords) (arg3 : Memref sig .tc .smem S1 .f32) (harg3 : arg3.IsWhole) (arg4 : Memref sig .tc .vmem S1536x2048 .fp8e5m2) (harg4 : arg4.IsWhole) (arg5 : Memref sig .tc .vmem S2048x2048 .fp8e4m3) (harg5 : arg5.IsWhole) (arg6 : Memref sig .tc .vmem S1536x2048 .bf16) (harg6 : arg6.IsWhole) (arg7 : Memref sig .tc .vmem S1536x2048 .f32) (harg7 : arg7.IsWhole) (hc0 : cond4_0 i) (hc1 : ¬cond4_1 i)
    (x0 : Vec F S1 .f32) (x1 : Vec F S1536x2048 .fp8e5m2) (x2 : Vec F S2048x2048 .fp8e4m3) : Vec F S1536x2048 .f32 :=
  VS4_0.read (Elt F) (VS4_0.writes (Elt F) VS4_0.junk (kernelRun4_A c i arg3 harg3 arg4 harg4 arg5 harg5 arg6 harg6 arg7 harg7 hc0 hc1 x0 x1 x2).2.1)

/-- Case B stores nothing into output 3 (the window is idle at its points and not written back there):
    no pieces — a placeholder (junk read back) that nothing consults, since at these points the window is neither
    written back nor read at the next point (Lib/Pipeline.lean "Idle points"). -/
def out4_B_3 (c : Dev nD) (i : grid4.Coords) (arg3 : Memref sig .tc .smem S1 .f32) (harg3 : arg3.IsWhole) (arg4 : Memref sig .tc .vmem S1536x2048 .fp8e5m2) (harg4 : arg4.IsWhole) (arg5 : Memref sig .tc .vmem S2048x2048 .fp8e4m3) (harg5 : arg5.IsWhole) (arg6 : Memref sig .tc .vmem S1536x2048 .bf16) (harg6 : arg6.IsWhole) (arg7 : Memref sig .tc .vmem S1536x2048 .f32) (harg7 : arg7.IsWhole) (hc0 : ¬cond4_0 i) (hc1 : ¬cond4_1 i)
    (x0 : Vec F S1 .f32) (x1 : Vec F S1536x2048 .fp8e5m2) (x2 : Vec F S2048x2048 .fp8e4m3) (xs0 : Vec F S1536x2048 .f32) : Vec F S1536x2048 .bf16 :=
  VO4_3.read (Elt F) (VO4_3.writes (Elt F) VO4_3.junk (kernelRun4_B c i arg3 harg3 arg4 harg4 arg5 harg5 arg6 harg6 arg7 harg7 hc0 hc1 x0 x1 x2 xs0).1)

/-- Case B's pieces for scratch `arg7`, which the kernel carries between points, cover it: 1 piece of `S1536x2048` tiling it (Lib/Ring.lean `Piece.tiledL`). -/
theorem scover4_B_0 (c : Dev nD) (i : grid4.Coords) (arg3 : Memref sig .tc .smem S1 .f32) (harg3 : arg3.IsWhole) (arg4 : Memref sig .tc .vmem S1536x2048 .fp8e5m2) (harg4 : arg4.IsWhole) (arg5 : Memref sig .tc .vmem S2048x2048 .fp8e4m3) (harg5 : arg5.IsWhole) (arg6 : Memref sig .tc .vmem S1536x2048 .bf16) (harg6 : arg6.IsWhole) (arg7 : Memref sig .tc .vmem S1536x2048 .f32) (harg7 : arg7.IsWhole) (hc0 : ¬cond4_0 i) (hc1 : ¬cond4_1 i)
    (x0 : Vec F S1 .f32) (x1 : Vec F S1536x2048 .fp8e5m2) (x2 : Vec F S2048x2048 .fp8e4m3) (xs0 : Vec F S1536x2048 .f32) (y : S1536x2048.Idx) :
    ∃ pc ∈ (kernelRun4_B c i arg3 harg3 arg4 harg4 arg5 harg5 arg6 harg6 arg7 harg7 hc0 hc1 x0 x1 x2 xs0).2.1, y ∈ pc.1.set :=
  View.cover_of_tiledL (kernelRun4_B c i arg3 harg3 arg4 harg4 arg5 harg5 arg6 harg6 arg7 harg7 hc0 hc1 x0 x1 x2 xs0).2.1 S1536x2048.size (by sl_kernel_rfl) y

/-- What case B leaves in scratch `arg7`: its pieces read back over junk. -/
def sout4_B_0 (c : Dev nD) (i : grid4.Coords) (arg3 : Memref sig .tc .smem S1 .f32) (harg3 : arg3.IsWhole) (arg4 : Memref sig .tc .vmem S1536x2048 .fp8e5m2) (harg4 : arg4.IsWhole) (arg5 : Memref sig .tc .vmem S2048x2048 .fp8e4m3) (harg5 : arg5.IsWhole) (arg6 : Memref sig .tc .vmem S1536x2048 .bf16) (harg6 : arg6.IsWhole) (arg7 : Memref sig .tc .vmem S1536x2048 .f32) (harg7 : arg7.IsWhole) (hc0 : ¬cond4_0 i) (hc1 : ¬cond4_1 i)
    (x0 : Vec F S1 .f32) (x1 : Vec F S1536x2048 .fp8e5m2) (x2 : Vec F S2048x2048 .fp8e4m3) (xs0 : Vec F S1536x2048 .f32) : Vec F S1536x2048 .f32 :=
  VS4_0.read (Elt F) (VS4_0.writes (Elt F) VS4_0.junk (kernelRun4_B c i arg3 harg3 arg4 harg4 arg5 harg5 arg6 harg6 arg7 harg7 hc0 hc1 x0 x1 x2 xs0).2.1)

/-- Case C's pieces for output 3 tile its block (1 store of `S1536x2048`, checked by the kernel's evaluation: Lib/Ring.lean `Piece.tiledL`, linear in the pieces, through a loop's `@[irreducible]` trip theorem too), so they cover it. -/
theorem cover4_C_3 (c : Dev nD) (i : grid4.Coords) (arg3 : Memref sig .tc .smem S1 .f32) (harg3 : arg3.IsWhole) (arg4 : Memref sig .tc .vmem S1536x2048 .fp8e5m2) (harg4 : arg4.IsWhole) (arg5 : Memref sig .tc .vmem S2048x2048 .fp8e4m3) (harg5 : arg5.IsWhole) (arg6 : Memref sig .tc .vmem S1536x2048 .bf16) (harg6 : arg6.IsWhole) (arg7 : Memref sig .tc .vmem S1536x2048 .f32) (harg7 : arg7.IsWhole) (hc0 : ¬cond4_0 i) (hc1 : cond4_1 i)
    (x0 : Vec F S1 .f32) (x1 : Vec F S1536x2048 .fp8e5m2) (x2 : Vec F S2048x2048 .fp8e4m3) (xs0 : Vec F S1536x2048 .f32) (y : S1536x2048.Idx) :
    ∃ pc ∈ (kernelRun4_C c i arg3 harg3 arg4 harg4 arg5 harg5 arg6 harg6 arg7 harg7 hc0 hc1 x0 x1 x2 xs0).1, y ∈ pc.1.set :=
  View.cover_of_tiledL (kernelRun4_C c i arg3 harg3 arg4 harg4 arg5 harg5 arg6 harg6 arg7 harg7 hc0 hc1 x0 x1 x2 xs0).1 S1536x2048.size (by sl_kernel_rfl) y

/-- What case C leaves in output 3's staging buffer: its pieces read back over junk. -/
def out4_C_3 (c : Dev nD) (i : grid4.Coords) (arg3 : Memref sig .tc .smem S1 .f32) (harg3 : arg3.IsWhole) (arg4 : Memref sig .tc .vmem S1536x2048 .fp8e5m2) (harg4 : arg4.IsWhole) (arg5 : Memref sig .tc .vmem S2048x2048 .fp8e4m3) (harg5 : arg5.IsWhole) (arg6 : Memref sig .tc .vmem S1536x2048 .bf16) (harg6 : arg6.IsWhole) (arg7 : Memref sig .tc .vmem S1536x2048 .f32) (harg7 : arg7.IsWhole) (hc0 : ¬cond4_0 i) (hc1 : cond4_1 i)
    (x0 : Vec F S1 .f32) (x1 : Vec F S1536x2048 .fp8e5m2) (x2 : Vec F S2048x2048 .fp8e4m3) (xs0 : Vec F S1536x2048 .f32) : Vec F S1536x2048 .bf16 :=
  VO4_3.read (Elt F) (VO4_3.writes (Elt F) VO4_3.junk (kernelRun4_C c i arg3 harg3 arg4 harg4 arg5 harg5 arg6 harg6 arg7 harg7 hc0 hc1 x0 x1 x2 xs0).1)

/-- Case C's pieces for scratch `arg7`, which the kernel carries between points, cover it: 1 piece of `S1536x2048` tiling it (Lib/Ring.lean `Piece.tiledL`). -/
theorem scover4_C_0 (c : Dev nD) (i : grid4.Coords) (arg3 : Memref sig .tc .smem S1 .f32) (harg3 : arg3.IsWhole) (arg4 : Memref sig .tc .vmem S1536x2048 .fp8e5m2) (harg4 : arg4.IsWhole) (arg5 : Memref sig .tc .vmem S2048x2048 .fp8e4m3) (harg5 : arg5.IsWhole) (arg6 : Memref sig .tc .vmem S1536x2048 .bf16) (harg6 : arg6.IsWhole) (arg7 : Memref sig .tc .vmem S1536x2048 .f32) (harg7 : arg7.IsWhole) (hc0 : ¬cond4_0 i) (hc1 : cond4_1 i)
    (x0 : Vec F S1 .f32) (x1 : Vec F S1536x2048 .fp8e5m2) (x2 : Vec F S2048x2048 .fp8e4m3) (xs0 : Vec F S1536x2048 .f32) (y : S1536x2048.Idx) :
    ∃ pc ∈ (kernelRun4_C c i arg3 harg3 arg4 harg4 arg5 harg5 arg6 harg6 arg7 harg7 hc0 hc1 x0 x1 x2 xs0).2.1, y ∈ pc.1.set :=
  View.cover_of_tiledL (kernelRun4_C c i arg3 harg3 arg4 harg4 arg5 harg5 arg6 harg6 arg7 harg7 hc0 hc1 x0 x1 x2 xs0).2.1 S1536x2048.size (by sl_kernel_rfl) y

/-- What case C leaves in scratch `arg7`: its pieces read back over junk. -/
def sout4_C_0 (c : Dev nD) (i : grid4.Coords) (arg3 : Memref sig .tc .smem S1 .f32) (harg3 : arg3.IsWhole) (arg4 : Memref sig .tc .vmem S1536x2048 .fp8e5m2) (harg4 : arg4.IsWhole) (arg5 : Memref sig .tc .vmem S2048x2048 .fp8e4m3) (harg5 : arg5.IsWhole) (arg6 : Memref sig .tc .vmem S1536x2048 .bf16) (harg6 : arg6.IsWhole) (arg7 : Memref sig .tc .vmem S1536x2048 .f32) (harg7 : arg7.IsWhole) (hc0 : ¬cond4_0 i) (hc1 : cond4_1 i)
    (x0 : Vec F S1 .f32) (x1 : Vec F S1536x2048 .fp8e5m2) (x2 : Vec F S2048x2048 .fp8e4m3) (xs0 : Vec F S1536x2048 .f32) : Vec F S1536x2048 .f32 :=
  VS4_0.read (Elt F) (VS4_0.writes (Elt F) VS4_0.junk (kernelRun4_C c i arg3 harg3 arg4 harg4 arg5 harg5 arg6 harg6 arg7 harg7 hc0 hc1 x0 x1 x2 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before4_W_κ`). An assignment of the conditions no point meets is no case (`False.elim`). -/
def outsAt4 (c : Dev nD) : (n : ℕ) → n < cfg4.N → Vec F S1536x2048 .bf16 × Vec F S1536x2048 .f32
  | 0, hn => (out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk V c 0 ⟨0, hn⟩) (iblk V c 1 ⟨0, hn⟩) (iblk V c 2 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk V c 0 ⟨0, hn⟩) (iblk V c 1 ⟨0, hn⟩) (iblk V c 2 ⟨0, hn⟩))
  | n + 1, hn =>
    if h0 : (n + 1) % 14 = 0 then
      if h1 : (n + 1) % 14 = 13 then
        False.elim (by have hN : n + 1 < 84 := lt_of_lt_of_eq hn (show cfg4.N = 84 from N_4); omega)
      else
        (out4_A_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => h1 ((hcond4_1 ⟨n + 1, hn⟩).mp h)) (iblk V c 0 ⟨n + 1, hn⟩) (iblk V c 1 ⟨n + 1, hn⟩) (iblk V c 2 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => h1 ((hcond4_1 ⟨n + 1, hn⟩).mp h)) (iblk V c 0 ⟨n + 1, hn⟩) (iblk V c 1 ⟨n + 1, hn⟩) (iblk V c 2 ⟨n + 1, hn⟩))
    else
      if h1 : (n + 1) % 14 = 13 then
        (out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk V c 0 ⟨n + 1, hn⟩) (iblk V c 1 ⟨n + 1, hn⟩) (iblk V c 2 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk V c 0 ⟨n + 1, hn⟩) (iblk V c 1 ⟨n + 1, hn⟩) (iblk V c 2 ⟨n + 1, hn⟩) (outsAt4 c n (Nat.lt_of_succ_lt hn)).2)
      else
        (out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) (fun h => h1 ((hcond4_1 ⟨n + 1, hn⟩).mp h)) (iblk V c 0 ⟨n + 1, hn⟩) (iblk V c 1 ⟨n + 1, hn⟩) (iblk V c 2 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) (fun h => h1 ((hcond4_1 ⟨n + 1, hn⟩).mp h)) (iblk V c 0 ⟨n + 1, hn⟩) (iblk V c 1 ⟨n + 1, hn⟩) (iblk V c 2 ⟨n + 1, hn⟩) (outsAt4 c n (Nat.lt_of_succ_lt hn)).2)

/-- `outsAt4` at a point of case A: that case's contents. -/
theorem outsAt4_A (c : Dev nD) (t : Fin cfg4.N) (h0 : t.val % 14 = 0) (h1 : ¬t.val % 14 = 13) :
    outsAt4 V c t.val t.isLt = (out4_A_3 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk V c 0 t) (iblk V c 1 t) (iblk V c 2 t), sout4_A_0 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk V c 0 t) (iblk V c 1 t) (iblk V c 2 t)) := by
  obtain ⟨n, hn⟩ := t
  cases n with
  | zero => exact rfl
  | succ n => exact (dif_pos h0).trans ((dif_neg h1).trans rfl)

/-- `outsAt4` at a point of case B: that case's contents, over what the point before left. -/
theorem outsAt4_B (c : Dev nD) (t : Fin cfg4.N) (h0 : ¬t.val % 14 = 0) (h1 : ¬t.val % 14 = 13) :
    outsAt4 V c t.val t.isLt = (out4_B_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk V c 0 t) (iblk V c 1 t) (iblk V c 2 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk V c 0 t) (iblk V c 1 t) (iblk V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt4` at a point of case C: that case's contents, over what the point before left. -/
theorem outsAt4_C (c : Dev nD) (t : Fin cfg4.N) (h0 : ¬t.val % 14 = 0) (h1 : t.val % 14 = 13) :
    outsAt4 V c t.val t.isLt = (out4_C_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk V c 0 t) (iblk V c 1 t) (iblk V c 2 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk V c 0 t) (iblk V c 1 t) (iblk V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt4`'s scratch components), the others at anything, and the generator register
    at some state. -/
def PhiS (c : Dev nD) : (n : ℕ) → n ≤ cfg4.N → sProp 𝕄
  | 0, _ => Pipeline.ΦA spec4 c
  | n + 1, hn => iprop(iprop(owns (c : Thread nD τ) scM4_0 fullShare ((outsAt4 V c n hn).2)) ∗ Gx c)

theorem PhiS_zero (c : Dev nD) (n : ℕ) (h : n ≤ cfg4.N) (hz : n = 0) : PhiS V c n h = Pipeline.ΦA spec4 c := by
  subst hz; rfl

/-- After point `n` (before point `n + 1`): the carried scratch at that point's contents. -/
theorem PhiS_succ (c : Dev nD) (n : ℕ) (hn : n < cfg4.N) :
    PhiS V c (n + 1) hn = iprop(iprop(owns (c : Thread nD τ) scM4_0 fullShare ((outsAt4 V c n hn).2)) ∗ Gx c) := rfl

/-- Before a point that is not the first: the carried scratch at what the point before left. -/
theorem PhiS_pos (c : Dev nD) (n : ℕ) (h : n ≤ cfg4.N) (hz : n ≠ 0) :
    PhiS V c n h = iprop(iprop(owns (c : Thread nD τ) scM4_0 fullShare ((outsAt4 V c (n - 1) (by omega)).2)) ∗ Gx c) := by
  cases n with
  | zero => exact absurd rfl hz
  | succ n => rfl

/-! ## The pipeline's proof data -/

/-- The proof data of the one pipeline on core `c`: the arrays as the region finds them (`V`); after the body at
    point `t` each input's buffer at its block and the outputs' at `outsAt4`; the invariant the class's
    (`PhiS`: the class's `ΦA` before the first point, then the scoped rest with the carried scratch at `outsAt4`'s component);
    nothing owed; full shares. -/
def dat (c : Dev nD) : Dat τ (Elt F) Unit ℕ (Pipeline.UD sig nD τ) ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => (outsAt4 V c t.val t.isLt).1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg4.W) : (dat V c).A w = V c (Pipeline.arrRef spec4 w) := by
  dsimp only [dat]

/-- The invariant at a point's start (the proof data at `t.castSucc`), restated at `t.val`. -/
theorem PhiS_castSucc (c : Dev nD) (t : Fin cfg4.N) :
    (dat V c).Φ t.castSucc = PhiS V c t.val (Nat.le_of_lt t.isLt) := by
  dsimp only [dat]; exact Pipeline.Dat.Φ_castSucc (PhiS V c) t

/-- What the body leaves, window by window (the proof data's `match` reduced by `dsimp`). -/
theorem after4_0 (c : Dev nD) (t : Fin cfg4.N) : (dat V c).after 0 t = iblk V c 0 t := by dsimp only [dat]
theorem after4_1 (c : Dev nD) (t : Fin cfg4.N) : (dat V c).after 1 t = iblk V c 1 t := by dsimp only [dat]
theorem after4_2 (c : Dev nD) (t : Fin cfg4.N) : (dat V c).after 2 t = iblk V c 2 t := by dsimp only [dat]
theorem after4_3 (c : Dev nD) (t : Fin cfg4.N) : (dat V c).after 3 t = (outsAt4 V c t.val t.isLt).1 := by dsimp only [dat]

/-- Each input's current staging buffer holds its block at every point, fetched there or not (`beforeK_W_of`). -/
theorem before4_0 (c : Dev nD) (t : Fin cfg4.N) (d) : (dat V c).before 0 t d = iblk V c 0 t :=
  before4_0_of V (dat V c) (A_eq V c 0) (after4_0 V c) t d
theorem before4_1 (c : Dev nD) (t : Fin cfg4.N) (d) : (dat V c).before 1 t d = iblk V c 1 t :=
  before4_1_of V (dat V c) (A_eq V c 1) (after4_1 V c) t d
theorem before4_2 (c : Dev nD) (t : Fin cfg4.N) (d) : (dat V c).before 2 t d = iblk V c 2 t :=
  before4_2_of V (dat V c) (A_eq V c 2) (after4_2 V c) t d

/-! ## The body obligation, at a generic point -/

/-- What the body is called with at point `t` (Lib/Pipeline.lean `BodyObligation`'s precondition, the windows one by one), -/
def bodyPre (c : Dev nD) (t : Fin cfg4.N) : sProp 𝕄 :=
  iprop((dat V c).Φ t.castSucc ∗ (dat V c).owesAt () t.castSucc
    ∗ (∃ d, owns (c : Thread nD τ) (ms4_0 t) fullShare ((dat V c).before 0 t d))
    ∗ (∃ d, owns (c : Thread nD τ) (ms4_1 t) fullShare ((dat V c).before 1 t d))
    ∗ (∃ d, owns (c : Thread nD τ) (ms4_2 t) fullShare ((dat V c).before 2 t d))
    ∗ (∃ d, owns (c : Thread nD τ) (ms4_3 t) fullShare ((dat V c).before 3 t d)))

/-- and what it returns. -/
def bodyPost (c : Dev nD) (t : Fin cfg4.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point: the inputs' memrefs hold their blocks (`before4_W`); the closed forms say which case the point is in (`by_cases`), an output the case reads before covering holds what the point before left (`before4_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before4_0, before4_1, before4_2]
  rw [show (dat V c).owesAt () t.succ = (dat V c).owesAt () t.castSucc from rfl]
  rw [show (dat V c).Φ t.succ = PhiS V c (t.val + 1) t.isLt from rfl, PhiS_succ]
  have hN : t.val < 84 := lt_of_lt_of_eq t.isLt (show cfg4.N = 84 from N_4)
  by_cases h0 : t.val % 14 = 0
  · by_cases h1 : t.val % 14 = 13
    · exfalso; omega
    · rw [show (dat V c).leavesExact 0 t = owns (c : Thread nD τ) (ms4_0 t) fullShare ((dat V c).after 0 t) from by
      unfold Dat.leavesExact; rw [liveAt4_0 t], after4_0]
      rw [show (dat V c).leavesExact 1 t = owns (c : Thread nD τ) (ms4_1 t) fullShare ((dat V c).after 1 t) from by
      unfold Dat.leavesExact; rw [liveAt4_1 t], after4_1]
      rw [show (dat V c).leavesExact 2 t = owns (c : Thread nD τ) (ms4_2 t) fullShare ((dat V c).after 2 t) from by
      unfold Dat.leavesExact; rw [liveAt4_2 t], after4_2]
      rw [Dat.leavesExact_idle (dat V c) 3 t (idleAt4_3_A t ((hcond4_0 t).mpr h0) (fun h => h1 ((hcond4_1 t).mp h))) (noFlush4_3_A t ((hcond4_0 t).mpr h0) (fun h => h1 ((hcond4_1 t).mp h)))]
      by_cases hz : t.val = 0
      · rw [PhiS_castSucc V c t, PhiS_zero V c _ _ hz, PhiA4_eq]
        rw [outsAt4_A V c t h0 h1]
        unfold sout4_A_0; (try dsimp only)
        iintro ⟨⟨HS0, Hg⟩, Ho, ⟨%d0, H0⟩, ⟨%d1, H1⟩, ⟨%d2, H2⟩, ⟨%d3, H3⟩⟩
        iapply ((kernelRun4_A c (grid4.coords t) _ _ _ _ _ _ _ _ _ _ ((hcond4_0 t).mpr h0) (fun h => h1 ((hcond4_1 t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover4_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        rw [outsAt4_A V c t h0 h1]
        unfold sout4_A_0; (try dsimp only)
        iintro ⟨⟨HS0, Hg⟩, Ho, ⟨%d0, H0⟩, ⟨%d1, H1⟩, ⟨%d2, H2⟩, ⟨%d3, H3⟩⟩
        iapply ((kernelRun4_A c (grid4.coords t) _ _ _ _ _ _ _ _ _ _ ((hcond4_0 t).mpr h0) (fun h => h1 ((hcond4_1 t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover4_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 14 = 13
    · rw [show (dat V c).leavesExact 0 t = owns (c : Thread nD τ) (ms4_0 t) fullShare ((dat V c).after 0 t) from by
      unfold Dat.leavesExact; rw [liveAt4_0 t], after4_0]
      rw [show (dat V c).leavesExact 1 t = owns (c : Thread nD τ) (ms4_1 t) fullShare ((dat V c).after 1 t) from by
      unfold Dat.leavesExact; rw [liveAt4_1 t], after4_1]
      rw [show (dat V c).leavesExact 2 t = owns (c : Thread nD τ) (ms4_2 t) fullShare ((dat V c).after 2 t) from by
      unfold Dat.leavesExact; rw [liveAt4_2 t], after4_2]
      rw [show (dat V c).leavesExact 3 t = owns (c : Thread nD τ) (ms4_3 t) fullShare ((dat V c).after 3 t) from by
      unfold Dat.leavesExact; rw [liveAt4_3_C t (fun h => h0 ((hcond4_0 t).mp h)) ((hcond4_1 t).mpr h1)], after4_3]
      by_cases hz : t.val = 0
      · exfalso; have hN : t.val < 84 := lt_of_lt_of_eq t.isLt (show cfg4.N = 84 from N_4); omega
      · rw [PhiS_castSucc V c t, PhiS_pos V c _ _ hz]
        rw [outsAt4_C V c t h0 h1]
        unfold out4_C_3 sout4_C_0; (try dsimp only)
        iintro ⟨⟨HS0, Hg⟩, Ho, ⟨%d0, H0⟩, ⟨%d1, H1⟩, ⟨%d2, H2⟩, ⟨%d3, H3⟩⟩
        iapply ((kernelRun4_C c (grid4.coords t) _ _ _ _ _ _ _ _ _ _ (fun h => h0 ((hcond4_0 t).mp h)) ((hcond4_1 t).mpr h1) (iblk V c 0 t) (iblk V c 1 t) (iblk V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover4_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover4_C_3 c _ _ _ _ _ _ _ _ _ _ _ _ _ _ _ _ _)
    · rw [show (dat V c).leavesExact 0 t = owns (c : Thread nD τ) (ms4_0 t) fullShare ((dat V c).after 0 t) from by
      unfold Dat.leavesExact; rw [liveAt4_0 t], after4_0]
      rw [show (dat V c).leavesExact 1 t = owns (c : Thread nD τ) (ms4_1 t) fullShare ((dat V c).after 1 t) from by
      unfold Dat.leavesExact; rw [liveAt4_1 t], after4_1]
      rw [show (dat V c).leavesExact 2 t = owns (c : Thread nD τ) (ms4_2 t) fullShare ((dat V c).after 2 t) from by
      unfold Dat.leavesExact; rw [liveAt4_2 t], after4_2]
      rw [Dat.leavesExact_idle (dat V c) 3 t (idleAt4_3_B t (fun h => h0 ((hcond4_0 t).mp h)) (fun h => h1 ((hcond4_1 t).mp h))) (noFlush4_3_B t (fun h => h0 ((hcond4_0 t).mp h)) (fun h => h1 ((hcond4_1 t).mp h)))]
      by_cases hz : t.val = 0
      · exfalso; have hN : t.val < 84 := lt_of_lt_of_eq t.isLt (show cfg4.N = 84 from N_4); omega
      · rw [PhiS_castSucc V c t, PhiS_pos V c _ _ hz]
        rw [outsAt4_B V c t h0 h1]
        unfold sout4_B_0; (try dsimp only)
        iintro ⟨⟨HS0, Hg⟩, Ho, ⟨%d0, H0⟩, ⟨%d1, H1⟩, ⟨%d2, H2⟩, ⟨%d3, H3⟩⟩
        iapply ((kernelRun4_B c (grid4.coords t) _ _ _ _ _ _ _ _ _ _ (fun h => h0 ((hcond4_0 t).mp h)) (fun h => h1 ((hcond4_1 t).mp h)) (iblk V c 0 t) (iblk V c 1 t) (iblk V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover4_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The body table's row at point `t`'s slots is the body as `bodyAt4` spells it. -/
theorem defs₀_row (t : Fin cfg4.N) :
    defs₀ (F := F) .tc cfg4.body (cfg4.bodyArgs t (cfg4.slots t)) = bodyAt4 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W4, bigSep_W4, defs₀_row]
  exact triple_restated (sound_body V c t) rfl .rfl fun _ => .rfl

/-- What the launch hands the region (`ΦA`) is the invariant before the first point. -/
theorem hin (c : Dev nD) : Pipeline.ΦA spec4 c ⊢ (dat V c).Φ 0 := by
  rw [show (dat V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg4.N + 1)) (ht : t.val ≠ 0) : (dat V c).Φ t ⊢ Pipeline.ΦA spec4 c := by
  rw [show (dat V c).Φ t = PhiS V c t.val (Nat.le_of_lt_succ t.isLt) from rfl, PhiS_pos V c _ _ ht, PhiA4_eq]
  iintro ⟨HS0, Hg⟩
  isplitl [HS0]
  · iexists _; iexact HS0
  iexact Hg

/-- The same after the last point. -/
theorem hout (c : Dev nD) : (dat V c).Φ (Fin.last cfg4.N) ⊢ Pipeline.ΦA spec4 c :=
  Phi_out V c _ (by rw [Fin.val_last]; have : cfg4.N = 84 := N_4; omega)

end Cert.KernelIdeal.Dx

end
-- ==== Proof.Chain.lean ====
/-
  The contents of the buffers between the items of @main, named one after the other: after each host stretch what its
  operations compute, after each call what its pipeline writes back.
-/
module

public import proofs.«01_k».proof.Proof.Gen.KernelIdeal.Regions
public import proofs.«01_k».proof.Proof.Quant
public import proofs.«01_k».proof.Proof.Dh
public import proofs.«01_k».proof.Proof.Dw2
public import proofs.«01_k».proof.Proof.Dw1
public import proofs.«01_k».proof.Proof.Dx

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg HostSeg Seg)

variable {F : FTy → Type} [FloatOps F]

local notation "𝕄" => MT nD τ sig Unit (Elt F) ℕ (Pipeline.UD sig nD τ) ℕ

variable (m : (ℓ : Loc nD τ sig) → Buf (Elt F) ℓ)

/-- A valuation's contents of the TensorCore's buffers. -/
abbrev tcV (V : (c : Dev nD) → Valuation τ sig (Elt F)) (c : Dev nD) (b : Ref sig .tc) : Buf (Elt F) ((c : Thread nD τ).loc b) := V c (Proc.devRef .tc b)

/-- At the entry of call 0. -/
def X1 (c : Dev nD) : Valuation τ sig (Elt F) := V1 m c

/-- After call 0. -/
def X2 (c : Dev nD) : Valuation τ sig (Elt F) := Function.update (Function.update (X1 m c) main_v5_0 ((Quant.dat (tcV (X1 m)) c).arrAt 2 cfg0.N)) main_v5_1 ((Quant.dat (tcV (X1 m)) c).arrAt 3 cfg0.N)
theorem X2_v5_0 (c : Dev nD) : X2 m c main_v5_0 = ((Quant.dat (tcV (X1 m)) c).arrAt 2 cfg0.N) := by
  unfold X2; exact (Function.update_of_ne (StableHlo.devRef_ne_of_ne (by decide)) _ _).trans (Function.update_self _ _ _)
theorem X2_v5_1 (c : Dev nD) : X2 m c main_v5_1 = ((Quant.dat (tcV (X1 m)) c).arrAt 3 cfg0.N) := by
  unfold X2; exact Function.update_self _ _ _
theorem X2_of (c : Dev nD) (r : Ref sig .tc) (h : r ∉ ([main_v5_0, main_v5_1] : List (Ref sig .tc))) : X2 m c r = X1 m c r := by
  unfold X2; simp only [Function.update_of_ne (StableHlo.devRef_ne_of_ne (List.ne_of_not_mem_cons h) : (Proc.devRef .tc r : DevRef τ sig) ≠ Proc.devRef .tc main_v5_0), Function.update_of_ne (StableHlo.devRef_ne_of_ne (List.ne_of_not_mem_cons (List.not_mem_of_not_mem_cons h)) : (Proc.devRef .tc r : DevRef τ sig) ≠ Proc.devRef .tc main_v5_1)]

/-- At the entry of call 1. -/
def X3 (c : Dev nD) : Valuation τ sig (Elt F) := StableHlo.after hostOps1 (X2 m c)
theorem X3_of (c : Dev nD) (r : Ref sig .tc) (h : r ∉ hostOps1_W) : X3 m c r = X2 m c r := by
  unfold X3; exact StableHlo.after_of_writes_sub hostOps1 _ hostOps1_writes h

/-- After call 1. -/
def X4 (c : Dev nD) : Valuation τ sig (Elt F) := Function.update (Function.update (X3 m c) main_v10_1 ((Dh.dat (tcV (X3 m)) c).arrAt 5 cfg1.N)) main_v10_0 (Dh.dhArr (Dh.XV (tcV (X3 m)) c))
theorem X4_v10_1 (c : Dev nD) : X4 m c main_v10_1 = ((Dh.dat (tcV (X3 m)) c).arrAt 5 cfg1.N) := by
  unfold X4; exact (Function.update_of_ne (StableHlo.devRef_ne_of_ne (by decide)) _ _).trans (Function.update_self _ _ _)
theorem X4_v10_0 (c : Dev nD) : X4 m c main_v10_0 = (Dh.dhArr (Dh.XV (tcV (X3 m)) c)) := by
  unfold X4; exact Function.update_self _ _ _
theorem X4_of (c : Dev nD) (r : Ref sig .tc) (h : r ∉ ([main_v10_1, main_v10_0] : List (Ref sig .tc))) : X4 m c r = X3 m c r := by
  unfold X4; simp only [Function.update_of_ne (StableHlo.devRef_ne_of_ne (List.ne_of_not_mem_cons h) : (Proc.devRef .tc r : DevRef τ sig) ≠ Proc.devRef .tc main_v10_1), Function.update_of_ne (StableHlo.devRef_ne_of_ne (List.ne_of_not_mem_cons (List.not_mem_of_not_mem_cons h)) : (Proc.devRef .tc r : DevRef τ sig) ≠ Proc.devRef .tc main_v10_0)]

/-- At the entry of call 2. -/
def X5 (c : Dev nD) : Valuation τ sig (Elt F) := StableHlo.after hostOps2 (X4 m c)
theorem X5_of (c : Dev nD) (r : Ref sig .tc) (h : r ∉ hostOps2_W) : X5 m c r = X4 m c r := by
  unfold X5; exact StableHlo.after_of_writes_sub hostOps2 _ hostOps2_writes h

/-- After call 2. -/
def X6 (c : Dev nD) : Valuation τ sig (Elt F) := Function.update (X5 m c) main_v13 ((Dw2.dat (tcV (X5 m)) c).arrAt 3 cfg2.N)
theorem X6_v13 (c : Dev nD) : X6 m c main_v13 = ((Dw2.dat (tcV (X5 m)) c).arrAt 3 cfg2.N) := by
  unfold X6; exact Function.update_self _ _ _
theorem X6_of (c : Dev nD) (r : Ref sig .tc) (h : r ∉ ([main_v13] : List (Ref sig .tc))) : X6 m c r = X5 m c r := by
  unfold X6; simp only [Function.update_of_ne (StableHlo.devRef_ne_of_ne (List.ne_of_not_mem_cons h) : (Proc.devRef .tc r : DevRef τ sig) ≠ Proc.devRef .tc main_v13)]

/-- At the entry of call 3. -/
def X7 (c : Dev nD) : Valuation τ sig (Elt F) := StableHlo.after hostOps3 (X6 m c)
theorem X7_of (c : Dev nD) (r : Ref sig .tc) (h : r ∉ hostOps3_W) : X7 m c r = X6 m c r := by
  unfold X7; exact StableHlo.after_of_writes_sub hostOps3 _ hostOps3_writes h

/-- After call 3. -/
def X8 (c : Dev nD) : Valuation τ sig (Elt F) := Function.update (X7 m c) main_v16 ((Dw1.dat (tcV (X7 m)) c).arrAt 3 cfg3.N)
theorem X8_v16 (c : Dev nD) : X8 m c main_v16 = ((Dw1.dat (tcV (X7 m)) c).arrAt 3 cfg3.N) := by
  unfold X8; exact Function.update_self _ _ _
theorem X8_of (c : Dev nD) (r : Ref sig .tc) (h : r ∉ ([main_v16] : List (Ref sig .tc))) : X8 m c r = X7 m c r := by
  unfold X8; simp only [Function.update_of_ne (StableHlo.devRef_ne_of_ne (List.ne_of_not_mem_cons h) : (Proc.devRef .tc r : DevRef τ sig) ≠ Proc.devRef .tc main_v16)]

/-- At the entry of call 4. -/
def X9 (c : Dev nD) : Valuation τ sig (Elt F) := StableHlo.after hostOps4 (X8 m c)
theorem X9_of (c : Dev nD) (r : Ref sig .tc) (h : r ∉ hostOps4_W) : X9 m c r = X8 m c r := by
  unfold X9; exact StableHlo.after_of_writes_sub hostOps4 _ hostOps4_writes h

/-- After call 4. -/
def X10 (c : Dev nD) : Valuation τ sig (Elt F) := Function.update (X9 m c) main_v19 ((Dx.dat (tcV (X9 m)) c).arrAt 3 cfg4.N)
theorem X10_v19 (c : Dev nD) : X10 m c main_v19 = ((Dx.dat (tcV (X9 m)) c).arrAt 3 cfg4.N) := by
  unfold X10; exact Function.update_self _ _ _
theorem X10_of (c : Dev nD) (r : Ref sig .tc) (h : r ∉ ([main_v19] : List (Ref sig .tc))) : X10 m c r = X9 m c r := by
  unfold X10; simp only [Function.update_of_ne (StableHlo.devRef_ne_of_ne (List.ne_of_not_mem_cons h) : (Proc.devRef .tc r : DevRef τ sig) ≠ Proc.devRef .tc main_v19)]

/-- What the calls leave in the buffers they write. -/
def outs : Outs (F := F) := fun J r c => match J with
  | 2 => X2 m c r
  | 4 => X4 m c r
  | 6 => X6 m c r
  | 8 => X8 m c r
  | 10 => X10 m c r
  | _ => m ((c : Thread nD τ).loc r)

/-- An update with what an updated valuation holds there. -/
theorem upd1 (v : Valuation τ sig (Elt F)) (a : DevRef τ sig) (x) : Function.update v a (Function.update v a x a) = Function.update v a x := by
  rw [Function.update_self]
theorem upd2 (v : Valuation τ sig (Elt F)) (a b : DevRef τ sig) (h : a ≠ b) (x y) :
    Function.update (Function.update v a (Function.update (Function.update v a x) b y a)) b (Function.update (Function.update v a x) b y b)
      = Function.update (Function.update v a x) b y := by
  rw [Function.update_self, Function.update_of_ne h, Function.update_self]

theorem V1_eq (c : Dev nD) : V1 m c = X1 m c := rfl
theorem V2_eq (c : Dev nD) : V2 m (outs m) c = X2 m c := by
  show Function.update (Function.update (V1 m c) main_v5_0 (X2 m c main_v5_0)) main_v5_1 (X2 m c main_v5_1) = _
  rw [V1_eq m c]; unfold X2
  exact upd2 _ _ _ (StableHlo.devRef_ne_of_ne (by decide)) _ _
theorem V3_eq (c : Dev nD) : V3 m (outs m) c = X3 m c := by
  show StableHlo.after hostOps1 (V2 m (outs m) c) = _
  rw [V2_eq m c]; rfl
theorem V4_eq (c : Dev nD) : V4 m (outs m) c = X4 m c := by
  show Function.update (Function.update (V3 m (outs m) c) main_v10_1 (X4 m c main_v10_1)) main_v10_0 (X4 m c main_v10_0) = _
  rw [V3_eq m c]; unfold X4
  exact upd2 _ _ _ (StableHlo.devRef_ne_of_ne (by decide)) _ _
theorem V5_eq (c : Dev nD) : V5 m (outs m) c = X5 m c := by
  show StableHlo.after hostOps2 (V4 m (outs m) c) = _
  rw [V4_eq m c]; rfl
theorem V6_eq (c : Dev nD) : V6 m (outs m) c = X6 m c := by
  show Function.update (V5 m (outs m) c) main_v13 (X6 m c main_v13) = _
  rw [V5_eq m c]; unfold X6
  exact upd1 _ _ _
theorem V7_eq (c : Dev nD) : V7 m (outs m) c = X7 m c := by
  show StableHlo.after hostOps3 (V6 m (outs m) c) = _
  rw [V6_eq m c]; rfl
theorem V8_eq (c : Dev nD) : V8 m (outs m) c = X8 m c := by
  show Function.update (V7 m (outs m) c) main_v16 (X8 m c main_v16) = _
  rw [V7_eq m c]; unfold X8
  exact upd1 _ _ _
theorem V9_eq (c : Dev nD) : V9 m (outs m) c = X9 m c := by
  show StableHlo.after hostOps4 (V8 m (outs m) c) = _
  rw [V8_eq m c]; rfl
theorem V10_eq (c : Dev nD) : V10 m (outs m) c = X10 m c := by
  show Function.update (V9 m (outs m) c) main_v19 (X10 m c main_v19) = _
  rw [V9_eq m c]; unfold X10
  exact upd1 _ _ _

/-- What the arrays of call 0 hold when it is left. -/
theorem arrs0 (c : Dev nD) (w : Fin 4) : (Quant.dat (tcV (X1 m)) c).arrAt w cfg0.N = tcV (X2 m) c (Pipeline.arrRef spec0 w) :=
  match w with
  | ⟨0, _⟩ => ((Quant.dat (tcV (X1 m)) c).arrAt_in 0 rfl _).trans ((Quant.A_eq (tcV (X1 m)) c 0).trans (X2_of m c main_v4 (by decide)).symm)
  | ⟨1, _⟩ => ((Quant.dat (tcV (X1 m)) c).arrAt_in 1 rfl _).trans ((Quant.A_eq (tcV (X1 m)) c 1).trans (X2_of m c main_v0 (by decide)).symm)
  | ⟨2, _⟩ => (X2_v5_0 m c).symm
  | ⟨3, _⟩ => (X2_v5_1 m c).symm
/-- It leaves every other buffer. -/
theorem keeps0 (c : Dev nD) (b : Ref sig .tc) (hb : b ∉ Finset.univ.image (Pipeline.arrRef spec0)) : tcV (X2 m) c b = tcV (X1 m) c b :=
  X2_of m c b (by
    intro h
    simp only [List.mem_cons, List.not_mem_nil, or_false] at h
    rcases h with h | h
    · exact hb (Finset.mem_image.mpr ⟨2, Finset.mem_univ _, h.symm⟩)
    · exact hb (Finset.mem_image.mpr ⟨3, Finset.mem_univ _, h.symm⟩))

/-- What the arrays of call 1 hold when it is left. -/
theorem arrs1 (c : Dev nD) (w : Fin 6) : (Dh.dat (tcV (X3 m)) c).arrAt w cfg1.N = tcV (X4 m) c (Pipeline.arrRef spec1 w) :=
  match w with
  | ⟨0, _⟩ => ((Dh.dat (tcV (X3 m)) c).arrAt_in 0 rfl _).trans ((Dh.A_eq (tcV (X3 m)) c 0).trans (X4_of m c main_v9 (by decide)).symm)
  | ⟨1, _⟩ => ((Dh.dat (tcV (X3 m)) c).arrAt_in 1 rfl _).trans ((Dh.A_eq (tcV (X3 m)) c 1).trans (X4_of m c main_v5_0 (by decide)).symm)
  | ⟨2, _⟩ => ((Dh.dat (tcV (X3 m)) c).arrAt_in 2 rfl _).trans ((Dh.A_eq (tcV (X3 m)) c 2).trans (X4_of m c main_arg8 (by decide)).symm)
  | ⟨3, _⟩ => ((Dh.dat (tcV (X3 m)) c).arrAt_in 3 rfl _).trans ((Dh.A_eq (tcV (X3 m)) c 3).trans (X4_of m c main_v1 (by decide)).symm)
  | ⟨4, _⟩ => ((Dh.dat (tcV (X3 m)) c).arrAt_in 4 rfl _).trans ((Dh.A_eq (tcV (X3 m)) c 4).trans (X4_of m c main_v1 (by decide)).symm)
  | ⟨5, _⟩ => (X4_v10_1 m c).symm

/-- What the arrays of call 2 hold when it is left. -/
theorem arrs2 (c : Dev nD) (w : Fin 4) : (Dw2.dat (tcV (X5 m)) c).arrAt w cfg2.N = tcV (X6 m) c (Pipeline.arrRef spec2 w) :=
  match w with
  | ⟨0, _⟩ => ((Dw2.dat (tcV (X5 m)) c).arrAt_in 0 rfl _).trans ((Dw2.A_eq (tcV (X5 m)) c 0).trans (X6_of m c main_v12 (by decide)).symm)
  | ⟨1, _⟩ => ((Dw2.dat (tcV (X5 m)) c).arrAt_in 1 rfl _).trans ((Dw2.A_eq (tcV (X5 m)) c 1).trans (X6_of m c main_v3 (by decide)).symm)
  | ⟨2, _⟩ => ((Dw2.dat (tcV (X5 m)) c).arrAt_in 2 rfl _).trans ((Dw2.A_eq (tcV (X5 m)) c 2).trans (X6_of m c main_v5_0 (by decide)).symm)
  | ⟨3, _⟩ => (X6_v13 m c).symm
/-- It leaves every other buffer. -/
theorem keeps2 (c : Dev nD) (b : Ref sig .tc) (hb : b ∉ Finset.univ.image (Pipeline.arrRef spec2)) : tcV (X6 m) c b = tcV (X5 m) c b :=
  X6_of m c b (by
    intro h
    simp only [List.mem_cons, List.not_mem_nil, or_false] at h
    exact hb (Finset.mem_image.mpr ⟨3, Finset.mem_univ _, h.symm⟩))

/-- What the arrays of call 3 hold when it is left. -/
theorem arrs3 (c : Dev nD) (w : Fin 4) : (Dw1.dat (tcV (X7 m)) c).arrAt w cfg3.N = tcV (X8 m) c (Pipeline.arrRef spec3 w) :=
  match w with
  | ⟨0, _⟩ => ((Dw1.dat (tcV (X7 m)) c).arrAt_in 0 rfl _).trans ((Dw1.A_eq (tcV (X7 m)) c 0).trans (X8_of m c main_v15 (by decide)).symm)
  | ⟨1, _⟩ => ((Dw1.dat (tcV (X7 m)) c).arrAt_in 1 rfl _).trans ((Dw1.A_eq (tcV (X7 m)) c 1).trans (X8_of m c main_v2 (by decide)).symm)
  | ⟨2, _⟩ => ((Dw1.dat (tcV (X7 m)) c).arrAt_in 2 rfl _).trans ((Dw1.A_eq (tcV (X7 m)) c 2).trans (X8_of m c main_v10_0 (by decide)).symm)
  | ⟨3, _⟩ => (X8_v16 m c).symm
/-- It leaves every other buffer. -/
theorem keeps3 (c : Dev nD) (b : Ref sig .tc) (hb : b ∉ Finset.univ.image (Pipeline.arrRef spec3)) : tcV (X8 m) c b = tcV (X7 m) c b :=
  X8_of m c b (by
    intro h
    simp only [List.mem_cons, List.not_mem_nil, or_false] at h
    exact hb (Finset.mem_image.mpr ⟨3, Finset.mem_univ _, h.symm⟩))

/-- What the arrays of call 4 hold when it is left. -/
theorem arrs4 (c : Dev nD) (w : Fin 4) : (Dx.dat (tcV (X9 m)) c).arrAt w cfg4.N = tcV (X10 m) c (Pipeline.arrRef spec4 w) :=
  match w with
  | ⟨0, _⟩ => ((Dx.dat (tcV (X9 m)) c).arrAt_in 0 rfl _).trans ((Dx.A_eq (tcV (X9 m)) c 0).trans (X10_of m c main_v18 (by decide)).symm)
  | ⟨1, _⟩ => ((Dx.dat (tcV (X9 m)) c).arrAt_in 1 rfl _).trans ((Dx.A_eq (tcV (X9 m)) c 1).trans (X10_of m c main_v10_0 (by decide)).symm)
  | ⟨2, _⟩ => ((Dx.dat (tcV (X9 m)) c).arrAt_in 2 rfl _).trans ((Dx.A_eq (tcV (X9 m)) c 2).trans (X10_of m c main_arg6 (by decide)).symm)
  | ⟨3, _⟩ => (X10_v19 m c).symm
/-- It leaves every other buffer. -/
theorem keeps4 (c : Dev nD) (b : Ref sig .tc) (hb : b ∉ Finset.univ.image (Pipeline.arrRef spec4)) : tcV (X10 m) c b = tcV (X9 m) c b :=
  X10_of m c b (by
    intro h
    simp only [List.mem_cons, List.not_mem_nil, or_false] at h
    exact hb (Finset.mem_image.mpr ⟨3, Finset.mem_univ _, h.symm⟩))

/-- The proof data of the five calls, each entered from what the items before it leave. -/
def pdats : (p : Fin 5) → (c : Dev nD) → Dat τ (Elt F) Unit ℕ (Pipeline.UD sig nD τ) ℕ (Pipeline.pin (pcfgs (F := F)) adm p) c
  | ⟨0, _⟩ => fun c => Quant.dat (tcV (X1 m)) c
  | ⟨1, _⟩ => fun c => Dh.dat (tcV (X3 m)) c
  | ⟨2, _⟩ => fun c => Dw2.dat (tcV (X5 m)) c
  | ⟨3, _⟩ => fun c => Dw1.dat (tcV (X7 m)) c
  | ⟨4, _⟩ => fun c => Dx.dat (tcV (X9 m)) c

end Cert.KernelIdeal.Run

end
-- ==== Proof.Segs.lean ====
/-
  The five calls as segments of @main over the buffers' contents, and the run of @main: every buffer that no call
  scopes ends at the last valuation.
-/
module

public import proofs.«01_k».proof.Proof.Chain
public import Idealize.ShloMosaic.Lib.Pipeline.RegionsLoop

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg HostSeg Seg)

variable {F : FTy → Type} [FloatOps F]

local notation "𝕄" => MT nD τ sig Unit (Elt F) ℕ (Pipeline.UD sig nD τ) ℕ

variable (m : (ℓ : Loc nD τ sig) → Buf (Elt F) ℓ)

/-- No core owes another anything: no level is assigned. -/
abbrev L : GSem nD τ sig → Finset Unit := fun _ => ∅
abbrev lv : GSem nD τ sig → Unit → ℕ := fun _ _ => 0

/-- What rides along between the items: what the core owes (nothing), and its generator register. -/
abbrev E (c : Dev nD) : sProp 𝕄 := iprop((∃ W, owes (c : Thread nD τ) (0 : CellTallies nD τ sig Unit) W) ∗ ∃ r, prngReg c r)

/-- The buffers of a core at a valuation, as the thread state holds them. -/
theorem bufs_held (c : Dev nD) (V : Valuation τ sig (Elt F)) :
    (unscopedBufs c (fun b => V (Proc.devRef .tc b)) : sProp 𝕄) = StableHlo.held (c : Thread nD τ) (Pipeline.ucRefs τ sig) V :=
  Pipeline.unscopedBufs_held (Ix := Unit) (Name := ℕ) (U := Pipeline.UD sig nD τ) (Lvl := ℕ) c V

set_option backward.isDefEq.respectTransparency.types false in
/-- A call whose arrays are distinct and whose body keeps the generator register and the scoped buffers it does not
    stage: entered from the buffers at `W`, left with them at `W'`. -/
def seg (p : Fin 5) (kit : Pipeline.LaunchFacts (nD := nD) (τ := τ) cfgs p)
    (hbody : ∀ c, BodyObligation (pdats m p c) (defs₀ (F := F)) Variants.none () Set.univ)
    (howed : ∀ c t, (pdats m p c).owed t = 0) (hrec : ∀ c, (pdats m p c).recorded 0 = Set.univ)
    (hshare : ∀ c w, (pdats m p c).share w = fullShare)
    (hin : ∀ c, (Pipeline.ΦA (Pipeline.pin (pcfgs (F := F)) adm p).spec c : sProp 𝕄) ⊢ (pdats m p c).Φ 0)
    (hout : ∀ c, (pdats m p c).Φ (Fin.last (Pipeline.pin (pcfgs (F := F)) adm p).N) ⊢ (Pipeline.ΦA (Pipeline.pin (pcfgs (F := F)) adm p).spec c : sProp 𝕄))
    (W W' : (c : Dev nD) → Valuation τ sig (Elt F))
    (hA : ∀ c w, (pdats m p c).A w = tcV W c (Pipeline.arrRef (Pipeline.pin (pcfgs (F := F)) adm p).spec w))
    (hF : ∀ c w, (pdats m p c).arrAt w (Pipeline.pin (pcfgs (F := F)) adm p).N = tcV W' c (Pipeline.arrRef (Pipeline.pin (pcfgs (F := F)) adm p).spec w))
    (hne : ∀ c b, b ∉ Finset.univ.image (Pipeline.arrRef (Pipeline.pin (pcfgs (F := F)) adm p).spec) → tcV W' c b = tcV W c b) :
    RegionSeg (pcfgs (F := F)) adm (pdats m) () defs₀ Variants.none L lv p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (W c) ∗ E c)
  post c := iprop(StableHlo.held (c : Thread nD τ) (Pipeline.ucRefs τ sig) (W' c) ∗ E c)
  X c := iprop(∃ r, prngReg c r)
  Y c := iprop(∃ r, prngReg c r)
  Z c := Pipeline.unscopedRest (Ix := Unit) (Name := ℕ) (U := Pipeline.UD sig nD τ) (Lvl := ℕ) (Pipeline.pin (pcfgs (F := F)) adm p).spec c (tcV W c)
  hentry c := by
    rw [Pipeline.ownSems0_none, ← bufs_held]
    have hsplit := Pipeline.arrays_of_unscopedBufs (p := p) (pcfgs (F := F)) adm (pdats m) kit.win kit.arr_whole c (hshare c) (tcV W c) (hA c)
    iintro ⟨⟨Hub, HO, Hg⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed c 0, hrec c]
      icases HO with ⟨%Wd, HO⟩; iexists Wd; isplitr; · ipureintro; exact fun _ _ => Or.inl trivial
      iexact HO
    isplitl [Hg]; · iexact Hg
    iexact Hrest
  hin c := by
    refine (show _ ⊢ (Pipeline.ΦA (Pipeline.pin (pcfgs (F := F)) adm p).spec c : sProp 𝕄) from ?_).trans (hin c)
    unfold Pipeline.ΦA
    iintro ⟨Hg, -, Hr⟩
    isplitl [Hr]; · iexact Hr
    iexact Hg
  hout c := by
    refine (hout c).trans ?_
    rw [Pipeline.ownSems0_none]
    unfold Pipeline.ΦA
    iintro ⟨Hr, Hg⟩
    isplitl [Hg]; · iexact Hg
    isplitr; · iempintro
    iexact Hr
  hexit c := by
    have hjoin := Pipeline.unscopedBufs_of_arrays (p := p) (pcfgs (F := F)) adm (Ix := Unit) (Name := ℕ) (U := Pipeline.UD sig nD τ) (Lvl := ℕ) kit.win kit.arr_whole c
      (pdats m) (hshare c) (tcV W c) (tcV W' c) ((pdats m p c).arrAt · (Pipeline.pin (pcfgs (F := F)) adm p).N) (hF c) (hne c)
    rw [← bufs_held]
    iintro ⟨Ha, HO, Hg, Hrest⟩
    imodintro
    isplitl [Ha Hrest]
    · iapply hjoin; isplitl [Ha] <;> iassumption
    isplitl [HO]
    · unfold Pipeline.Dat.owesAt Pipeline.owesWithin
      rw [howed c (Fin.last _)]
      icases HO with ⟨%Wd, -, HO⟩; iexists Wd; iexact HO
    iexact Hg

/-- Of the buffers that are no array of call 1, the one its body writes by itself, and the others. -/
theorem rest1_split (c : Dev nD) (V : Valuation τ sig (Elt F)) :
    (Pipeline.unscopedRest (Ix := Unit) (Name := ℕ) (U := Pipeline.UD sig nD τ) (Lvl := ℕ) spec1 c (fun b => V (Proc.devRef .tc b)) : sProp 𝕄)
      = iprop(Dh.hbPt1 c Dh.hbM1_0 (V (Proc.devRef .tc main_v10_0))
        ∗ bigSep (((Finset.univ.filter fun b : Ref sig .tc => ¬ b.isScoped) \ Finset.univ.image (Pipeline.arrRef spec1)) \ {main_v10_0})
            fun b => ((c.tc : Thread nD τ).loc b) ↦{fullShare} V (Proc.devRef .tc b)) := by
  unfold Pipeline.unscopedRest
  rw [BI.bigSep_sdiff_split (s := (Finset.univ.filter fun b : Ref sig .tc => ¬ b.isScoped) \ Finset.univ.image (Pipeline.arrRef spec1)) (t := {main_v10_0})
    (Finset.singleton_subset_iff.mpr (by decide)), BI.bigSep_singleton]
  rfl

/-- Call 1 leaves the others. -/
theorem rest1_keeps (c : Dev nD) :
    (bigSep (((Finset.univ.filter fun b : Ref sig .tc => ¬ b.isScoped) \ Finset.univ.image (Pipeline.arrRef spec1)) \ {main_v10_0})
        fun b => ((c.tc : Thread nD τ).loc b) ↦{fullShare} X3 m c (Proc.devRef .tc b) : sProp 𝕄)
      = bigSep (((Finset.univ.filter fun b : Ref sig .tc => ¬ b.isScoped) \ Finset.univ.image (Pipeline.arrRef spec1)) \ {main_v10_0})
        fun b => ((c.tc : Thread nD τ).loc b) ↦{fullShare} X4 m c (Proc.devRef .tc b) :=
  BI.bigSep_congr fun b hb => by
    rw [X4_of m c b ?_]
    intro h
    simp only [List.mem_cons, List.not_mem_nil, or_false] at h
    rcases h with h | h
    · exact (Finset.mem_sdiff.mp (Finset.mem_sdiff.mp hb).1).2 (Finset.mem_image.mpr ⟨5, Finset.mem_univ _, h.symm⟩)
    · exact (Finset.mem_sdiff.mp hb).2 (Finset.mem_singleton.mpr h)

set_option backward.isDefEq.respectTransparency.types false in
/-- Call 1: two of its windows share an array, and its body writes the codes' array by copies of its own on its own
    semaphores. Entered from the buffers at `X3 m`, left with them at `X4 m`. -/
def seg1 : RegionSeg (pcfgs (F := F)) adm (pdats m) () defs₀ Variants.none L lv 1 where
  win := launch₀1.win
  block_pos := launch₀1.block_pos
  stage_whole := launch₀1.stage_whole
  K := Fin 2
  osem := Dh.osem1
  ho := Dh.ownSemFacts1
  hbody c := (Dh.body_obligation (tcV (X3 m)) c).loose
  hwaits := Pipeline.hwaits_of_owed_zero _ _ _ _ L lv 1 fun _ _ => rfl
  pre c := iprop(StableHlo.held (c : Thread nD τ) (Pipeline.ucRefs τ sig) (X3 m c) ∗ E c)
  post c := iprop(StableHlo.held (c : Thread nD τ) (Pipeline.ucRefs τ sig) (X4 m c) ∗ E c)
  X c := iprop(((∃ r, prngReg c r) ∗ Dh.arrIn c) ∗ Pipeline.ownSems0 Dh.osem1 c)
  Y c := iprop((∃ r, prngReg c r) ∗ Dh.arrOut (tcV (X3 m)) c)
  Z c := bigSep (((Finset.univ.filter fun b : Ref sig .tc => ¬ b.isScoped) \ Finset.univ.image (Pipeline.arrRef spec1)) \ {main_v10_0})
            fun b => ((c.tc : Thread nD τ).loc b) ↦{fullShare} X3 m c (Proc.devRef .tc b)
  hentry c := by
    rw [← bufs_held]
    have hsplit := Pipeline.arrays_of_unscopedBufs_shared (p := 1) (pcfgs (F := F)) adm (pdats m) launch₀1.win sharedIn1 launch₀1.arr_whole c
      (fun _ _ => rfl) (tcV (X3 m) c) (Dh.A_eq (tcV (X3 m)) c)
    iintro ⟨⟨Hub, HO, Hg⟩, Hs, -⟩
    ihave H := hsplit $$ Hub
    icases H with ⟨Ha, Hrest⟩
    ihave Hrest' := (Entails.of_eq (rest1_split c (X3 m c))) $$ Hrest
    icases Hrest' with ⟨Hv, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wd, HO⟩; iexists Wd; isplitr; · ipureintro; exact fun _ _ => Or.inl trivial
      iexact HO
    isplitl [Hg Hv Hs]
    · isplitl [Hg Hv]
      · isplitl [Hg]; · iexact Hg
        unfold Dh.arrIn
        iexists _; iexact Hv
      iexact Hs
    iexact Hrest
  hin c := by
    refine (show _ ⊢ iprop(Pipeline.scopedRest spec1 c ∗ ((∃ r, prngReg c r) ∗ Dh.arrIn c) ∗ Pipeline.ownSems0 Dh.osem1 c) from ?_).trans (Dh.hin (tcV (X3 m)) c)
    iintro ⟨⟨Hg, Hs⟩, -, Hr⟩
    isplitl [Hr]; · iexact Hr
    isplitl [Hg]; · iexact Hg
    iexact Hs
  hout c := by
    refine (Dh.hout (tcV (X3 m)) c).trans ?_
    iintro ⟨Hr, HY, Hs⟩
    isplitl [HY]; · iexact HY
    isplitl [Hs]; · iexact Hs
    iexact Hr
  hexit c := by
    have hjoin := Pipeline.unscopedBufs_of_arrays_shared (p := 1) (pcfgs (F := F)) adm (Ix := Unit) (Name := ℕ) (U := Pipeline.UD sig nD τ) (Lvl := ℕ) launch₀1.win sharedIn1
      launch₀1.arr_whole c (pdats m) (fun _ _ => rfl) (tcV (X4 m) c) (tcV (X4 m) c) ((pdats m 1 c).arrAt · cfg1.N)
      (arrs1 m c)
      (fun _ _ => rfl)
    rw [← bufs_held]
    iintro ⟨Ha, HO, ⟨Hg, Hv⟩, Hrest⟩
    imodintro
    isplitl [Ha Hv Hrest]
    · iapply hjoin
      isplitl [Ha]; · iexact Ha
      iapply (Entails.of_eq (rest1_split c (X4 m c)).symm)
      isplitl [Hv]; · rw [X4_v10_0]; iexact Hv
      iapply (Entails.of_eq (rest1_keeps m c))
      iexact Hrest
    isplitl [HO]
    · unfold Pipeline.Dat.owesAt Pipeline.owesWithin
      icases HO with ⟨%Wd, -, HO⟩; iexists Wd; iexact HO
    iexact Hg

/-- The other calls. -/
def seg0 : RegionSeg (pcfgs (F := F)) adm (pdats m) () defs₀ Variants.none L lv 0 :=
  seg m 0 launch0 (Quant.body_obligation (tcV (X1 m))) (fun _ _ => rfl) (fun _ => rfl) (fun c w => (Quant.dat (tcV (X1 m)) c).share_full (fun _ => rfl) w) (fun _ => .rfl) (fun _ => .rfl)
    (X1 m) (X2 m) (Quant.A_eq (tcV (X1 m))) (arrs0 m) (keeps0 m)
def seg2 : RegionSeg (pcfgs (F := F)) adm (pdats m) () defs₀ Variants.none L lv 2 :=
  seg m 2 launch2 (Dw2.body_obligation (tcV (X5 m))) (fun _ _ => rfl) (fun _ => rfl) (fun c w => (Dw2.dat (tcV (X5 m)) c).share_full (fun _ => rfl) w) (fun _ => .rfl) (fun _ => .rfl)
    (X5 m) (X6 m) (Dw2.A_eq (tcV (X5 m))) (arrs2 m) (keeps2 m)
def seg3 : RegionSeg (pcfgs (F := F)) adm (pdats m) () defs₀ Variants.none L lv 3 :=
  seg m 3 launch3 (Dw1.body_obligation (tcV (X7 m))) (fun _ _ => rfl) (fun _ => rfl) (fun c w => (Dw1.dat (tcV (X7 m)) c).share_full (fun _ => rfl) w) (fun _ => .rfl) (fun _ => .rfl)
    (X7 m) (X8 m) (Dw1.A_eq (tcV (X7 m))) (arrs3 m) (keeps3 m)
def seg4 : RegionSeg (pcfgs (F := F)) adm (pdats m) () defs₀ Variants.none L lv 4 :=
  seg m 4 launch4 (Dx.body_obligation (tcV (X9 m))) (fun _ _ => rfl) (fun _ => rfl) (fun c w => (Dx.dat (tcV (X9 m)) c).share_full (fun _ => rfl) w) (Dx.hin (tcV (X9 m))) (Dx.hout (tcV (X9 m)))
    (X9 m) (X10 m) (Dx.A_eq (tcV (X9 m))) (arrs4 m) (keeps4 m)

/-- The contents at the end. -/
def X11 (c : Dev nD) : Valuation τ sig (Elt F) := StableHlo.after hostOps5 (X10 m c)
theorem V11_eq (c : Dev nD) : V11 m (outs m) c = X11 m c := by
  show StableHlo.after hostOps5 (V10 m (outs m) c) = _
  rw [V10_eq m c]; rfl
theorem X11_of (c : Dev nD) (r : Ref sig .tc) (h : r ∉ hostOps5_W) : X11 m c r = X10 m c r := by
  unfold X11; exact StableHlo.after_of_writes_sub hostOps5 _ hostOps5_writes h

theorem held_eq {c : Dev nD} {V V' : Valuation τ sig (Elt F)} (h : V = V') {R : sProp 𝕄} :
    iprop(StableHlo.held (c : Thread nD τ) (Pipeline.ucRefs τ sig) V ∗ R) ⊢ iprop(StableHlo.held (c : Thread nD τ) (Pipeline.ucRefs τ sig) V' ∗ R) := by
  rw [h]

/-- The pipelines' ghost state is dealt at launch. -/
theorem ghost0 : (ownU ((Rounds.initOf (Pipeline.cells cfgs cellOf_inj) (Pipeline.launchToks cfgs cellOf_inj), 1) : Pipeline.UD sig nD τ) : sProp 𝕄)
    ⊢ |={Set.univ}=> iprop(BI.own ((embL : Emb _ (MT nD τ sig Unit (Elt F) ℕ (Pipeline.UD sig nD τ) ℕ)) (Rounds.initOf (Pipeline.cells cfgs cellOf_inj) (Pipeline.launchToks cfgs cellOf_inj)))
      ∗ bigSep Finset.univ (fun _ : Dev nD => (BI.emp : sProp 𝕄))) := by
  iintro Hu
  ihave H' := (ownU_pair _ _) $$ Hu
  icases H' with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

/-- A core's thread state at launch. -/
theorem start (ρ : Dev nD → PrngReg) (c : Dev nD) :
    (iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)) : sProp 𝕄)
      ⊢ iprop(StableHlo.held (c : Thread nD τ) (Pipeline.ucRefs τ sig) (V0 m c) ∗ E c) := by
  rw [← bufs_held c (V0 m c)]
  iintro ⟨Hh, -, HO, -, Hg, -⟩
  isplitl [Hh]; · iexact Hh
  isplitl [HO]; · iexists _; iexact HO
  iexists _; iexact Hg

set_option backward.isDefEq.respectTransparency.types false in
/-- THE RUN: every weakly fair execution of @main from memory `m` with zero counters terminates, every buffer that no
    call scopes at the last valuation, every semaphore at zero. -/
theorem run (ρ : Dev nD → PrngReg) :
    θ_run defs (onTc (τ := τ) (main (F := F))) ⟨m, fun _ => 0, ρ⟩ (fun r => (∀ (c : Dev nD) (b : Ref sig .tc), b.isScoped = false →
      r.2.mem ((c.tc : Thread nD τ).loc b) = X11 m c b) ∧ r.2.sem = fun _ => 0) := by
  refine Pipeline.θ_run_regions_kit_dev_sems (pcfgs (F := F)) adm (pdats m) () cellOf_inj embL defs₀ Variants.none L lv m ρ main
    (segs m (outs m) Variants.none L lv (fun _ => E) () (pdats m) (seg0 m) (seg1 m) (seg2 m) (seg3 m) (seg4 m))
    (fun c Q => by
      rewrite [main_chain c, Seg.run_eq_chain,
        show (segs m (outs m) Variants.none L lv (fun _ => E) () (pdats m) (seg0 m) (seg1 m) (seg2 m) (seg3 m) (seg4 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5 ] from rfl]
      dsimp (config := { failIfUnchanged := false }) only
      exact .rfl)
    (fun c => by simp only [segs, Seg.pipes_host, Seg.pipes_region, Seg.pipes_nil]; decide) 0 (fun _ _ => rfl) (fun _ => BI.emp) _ ghost0
    (T₀ := fun c => iprop(StableHlo.held (c : Thread nD τ) (Pipeline.ucRefs τ sig) (V0 m c) ∗ E c))
    (Tₙ := fun c => StableHlo.held (c : Thread nD τ) (Pipeline.ucRefs τ sig) (V11 m (outs m) c))
    (hch := fun c => ⟨.rfl, held_eq (V1_eq m c), held_eq (V2_eq m c).symm, held_eq (V3_eq m c), held_eq (V4_eq m c).symm, held_eq (V5_eq m c),
      held_eq (V6_eq m c).symm, held_eq (V7_eq m c), held_eq (V8_eq m c).symm, held_eq (V9_eq m c), held_eq (V10_eq m c).symm,
      sep_mono .rfl (by iintro ⟨HO, -⟩; iexact HO)⟩)
    (hinit := ?_) (QY := fun c s => ∀ b : Ref sig .tc, b.isScoped = false → s.mem ((c.tc : Thread nD τ).loc b) = X11 m c b)
    (hfin := fun c s' => ?_) (hQ := fun _ h hz => ⟨h, funext fun g => hz g (.inr (regions_no_unscoped g.2))⟩)
  · -- the launch
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ ((bigSep Finset.univ fun c : Dev nD => iprop(StableHlo.held (c : Thread nD τ) (Pipeline.ucRefs τ sig) (V0 m c) ∗ E c)) : sProp 𝕄) :=
      bigSep_mono fun c _ => start m ρ c
    iintro ⟨H, -⟩
    ihave H' := hsplit $$ H
    imodintro
    iexact H'
  · -- the end: each buffer read off the last valuation
    rw [V11_eq]
    unfold StableHlo.held
    iintro ⟨Hh, HSI⟩
    ihave Hr := (pointsTo_read_all (Pipeline.ucRefs τ sig) (fun b => ((c : Thread nD τ).1, b)) (X11 m c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, fun h' => Bool.false_ne_true (hb.symm.trans h')⟩)
    · iexact HSI

end Cert.KernelIdeal.Run

end
-- ==== Proof.Frame.lean ====
/-
  The frame of the whole kernel, at any reading of its floats: it runs to the end, its arguments end as they were, and every
  semaphore ends at zero.
-/
module

public import proofs.«01_k».proof.Proof.Segs

@[expose] public section

noncomputable section

namespace Cert.KernelIdeal.Run

open Cert.KernelIdeal Cert.KernelIdeal.Gen Idealize.ShloMosaic Idealize.ShloMosaic.TcCoe Idealize.SL.Sem

variable {F : FTy → Type} [FloatOps F] (m : (ℓ : Loc nD τ sig) → Buf (Elt F) ℓ)

theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) := by
  refine (θ_run _ _ _).mono (fun r h => ⟨fun c => ?_, h.2⟩) (run m ρ)
  exact ⟨(h.1 c main_arg0 rfl).trans ((congrFun (V11_eq m c).symm _).trans (V11_main_arg0 m (outs m) c)),
    (h.1 c main_arg1 rfl).trans ((congrFun (V11_eq m c).symm _).trans (V11_main_arg1 m (outs m) c)),
    (h.1 c main_arg2 rfl).trans ((congrFun (V11_eq m c).symm _).trans (V11_main_arg2 m (outs m) c)),
    (h.1 c main_arg3 rfl).trans ((congrFun (V11_eq m c).symm _).trans (V11_main_arg3 m (outs m) c)),
    (h.1 c main_arg4 rfl).trans ((congrFun (V11_eq m c).symm _).trans (V11_main_arg4 m (outs m) c)),
    (h.1 c main_arg5 rfl).trans ((congrFun (V11_eq m c).symm _).trans (V11_main_arg5 m (outs m) c)),
    (h.1 c main_arg6 rfl).trans ((congrFun (V11_eq m c).symm _).trans (V11_main_arg6 m (outs m) c)),
    (h.1 c main_arg7 rfl).trans ((congrFun (V11_eq m c).symm _).trans (V11_main_arg7 m (outs m) c)),
    (h.1 c main_arg8 rfl).trans ((congrFun (V11_eq m c).symm _).trans (V11_main_arg8 m (outs m) c)),
    (h.1 c main_arg9 rfl).trans ((congrFun (V11_eq m c).symm _).trans (V11_main_arg9 m (outs m) c)),
    (h.1 c main_arg10 rfl).trans ((congrFun (V11_eq m c).symm _).trans (V11_main_arg10 m (outs m) c)),
    (h.1 c main_arg11 rfl).trans ((congrFun (V11_eq m c).symm _).trans (V11_main_arg11 m (outs m) c)),
    (h.1 c main_arg12 rfl).trans ((congrFun (V11_eq m c).symm _).trans (V11_main_arg12 m (outs m) c)),
    (h.1 c main_arg13 rfl).trans ((congrFun (V11_eq m c).symm _).trans (V11_main_arg13 m (outs m) c)),
    (h.1 c main_arg14 rfl).trans ((congrFun (V11_eq m c).symm _).trans (V11_main_arg14 m (outs m) c)),
    (h.1 c main_arg15 rfl).trans ((congrFun (V11_eq m c).symm _).trans (V11_main_arg15 m (outs m) c))⟩

end Cert.KernelIdeal.Run

end
-- ==== Proof.FrameWords.lean ====
/-
  The frame of the kernel on words. The kernel and its idealisation print the same text, so the kernel's machine program is the
  idealisation's read on words: the two are equal by computation, and the frame of `Frame` carries over.
-/
module

public import proofs.«01_k».proof.Defs
public import proofs.«01_k».proof.Proof.Gen.Kernel
public import proofs.«01_k».proof.Proof.Frame

@[expose] public section

set_option maxRecDepth 65536
set_option maxHeartbeats 0

noncomputable section

namespace Cert.Proof

open Idealize.ShloMosaic Idealize.SL.Sem

attribute [local instance] Cert.Kernel.Gen.facts Cert.KernelIdeal.Gen.facts

/-- The bodies are the same. -/
theorem bodies_eq : Cert.Kernel.defs₀ (F := Bits) = (Cert.KernelIdeal.defs₀ (F := Bits) : Defs Cert.Kernel.nD Cert.Kernel.τ Cert.Kernel.sig (Elt Bits) Cert.Kernel.Λ₀) := by
  refine congrArg Defs.onTc ?_
  funext l a
  match l, a with
  | 0, _ => rfl
  | 1, _ => rfl
  | 2, _ => rfl
  | 3, _ => rfl
  | 4, _ => rfl
  | ⟨_ + 5, h⟩, _ => exact absurd h (Nat.not_lt.2 (Nat.le_add_left _ _))

/-- The definitions are the same. -/
theorem defs_eq : Cert.Kernel.defs (F := Bits) = (Cert.KernelIdeal.defs (F := Bits) :
    Defs Cert.Kernel.nD Cert.Kernel.τ Cert.Kernel.sig (Elt Bits) (Pipeline.Sig Cert.Kernel.Λ₀ (Fin 5) fun p => (Cert.Kernel.pcfgs (F := Bits) p).Adm)) :=
  congrArg (Pipeline.defs Cert.Kernel.pcfgs) bodies_eq

/-- The main programs are the same. -/
theorem main_eq : Cert.Kernel.main (F := Bits) = (Cert.KernelIdeal.main (F := Bits) :
    Dev Cert.Kernel.nD → Prog (TpuEff Cert.Kernel.nD Cert.Kernel.τ Cert.Kernel.sig (Elt Bits) (Pipeline.Sig Cert.Kernel.Λ₀ (Fin 5) fun p => (Cert.Kernel.pcfgs (F := Bits) p).Adm) .tc) PUnit) := rfl

/-- The kernel on words runs, and leaves its arguments and every semaphore as they were. -/
theorem frame_Kernel : Cert.quiescent_Kernel := by
  intro m g _
  rw [defs_eq, main_eq]
  exact Cert.KernelIdeal.Run.frame (F := Bits) m g

end Cert.Proof

end
-- ==== Proof.Products.lean ====
module

public import Idealize.ShloMosaic.Lib.Pointwise
public import Idealize.ShloMosaic.Lib.Pipeline.ValueKit

/-! The two scaled matrix products over exact numbers, in plain words: rows against rows and columns against columns. -/

@[expose] public section

noncomputable section

namespace Cert.Products

open Idealize.ShloMosaic

/-- Both arrays summed over their ROWS (`aᵀ b`), times the scale. -/
def prodTN {K M N : ℕ} (a : (⟨2, ![K, M]⟩ : Shape).Idx → EReal) (b : (⟨2, ![K, N]⟩ : Shape).Idx → EReal) (s : EReal) :
    (⟨2, ![M, N]⟩ : Shape).Idx → EReal :=
  fun i => (∑ k : Fin K, a (ix2 k (i 0)) * b (ix2 k (i 1))) * s

/-- Both arrays summed over their COLUMNS (`a bᵀ`), times the scale. -/
def prodNT {K M N : ℕ} (a : (⟨2, ![M, K]⟩ : Shape).Idx → EReal) (b : (⟨2, ![N, K]⟩ : Shape).Idx → EReal) (s : EReal) :
    (⟨2, ![M, N]⟩ : Shape).Idx → EReal :=
  fun i => (∑ k : Fin K, a (ix2 (i 0) k) * b (ix2 (i 1) k)) * s

end Cert.Products
-- ==== Proof.Spec.lean ====
module

public import proofs.«01_k».proof.Proof.Products

/-! The mathematics of the backward pass over exact numbers, in plain words: quantised codes, the gradient of the gated
activation, the greatest absolute value and the history with a new entry in front. -/

@[expose] public section

noncomputable section

namespace Cert.Spec

open Idealize.ShloMosaic Cert.Products

/-- An array of two axes. -/
abbrev Arr (a b : ℕ) : Type := (⟨2, ![a, b]⟩ : Shape).Idx → EReal

/-- An array of one axis. -/
abbrev Row (a : ℕ) : Type := (⟨1, ![a]⟩ : Shape).Idx → EReal

/-- An array whose leading axis has extent one, read as an array of two axes. -/
def flat {a b : ℕ} (x : (⟨3, ![1, a, b]⟩ : Shape).Idx → EReal) : Arr a b := fun i => x (ix3 0 (i 0) (i 1))

/-- The range of the codes: ±57344. -/
def clip (x : EReal) : EReal := min (Ideal.ofBits .f32 0x47600000#32) (max (Ideal.ofBits .f32 0xC7600000#32) x)

/-- Codes: scaled by the inverse scale and clipped. -/
def codes {a b : ℕ} (v : Arr a b) (inv : EReal) : Arr a b := fun i => clip (v i * inv)

/-- The gradient of `g·σ(g)·u` in `g`, times the incoming gradient `d`. -/
def gradGate (d g u : EReal) : EReal := d * u * Ideal.logistic g * (1 + g * (1 - Ideal.logistic g))

/-- The gradient of `g·σ(g)·u` in `u`, times the incoming gradient `d`. -/
def gradUp (d g : EReal) : EReal := d * g * Ideal.logistic g

/-- The incoming gradient of the hidden activations. -/
abbrev gradA (q : Arr 4608 4096) (w : Arr 14336 4096) (s : EReal) : Arr 4608 14336 := prodNT q w s

/-- The gradient in the gate half, at row `r` and column `f`. -/
def gateAt (q : Arr 4608 4096) (w : Arr 14336 4096) (s : EReal) (gu : Arr 4608 28672) (r : Fin 4608) (f : Fin 14336) : EReal :=
  gradGate (gradA q w s (ix2 r f)) (gu (ix2 r ⟨f.val, by omega⟩)) (gu (ix2 r ⟨f.val + 14336, by omega⟩))

/-- The gradient in the up half, at row `r` and column `f`. -/
def upAt (q : Arr 4608 4096) (w : Arr 14336 4096) (s : EReal) (gu : Arr 4608 28672) (r : Fin 4608) (f : Fin 14336) : EReal :=
  gradUp (gradA q w s (ix2 r f)) (gu (ix2 r ⟨f.val, by omega⟩))

/-- The gradient of both halves, side by side. -/
def gradH (q : Arr 4608 4096) (w : Arr 14336 4096) (s : EReal) (gu : Arr 4608 28672) : Arr 4608 28672 := fun i =>
  if h : (i 1).val < 14336 then gateAt q w s gu (i 0) ⟨(i 1).val, h⟩
  else upAt q w s gu (i 0) ⟨(i 1).val - 14336, by have : (i 1).val < 28672 := (i 1).isLt; omega⟩

/-- The absolute value. -/
def mag (x : EReal) : EReal := max x (-x)

theorem mag_nonneg (x : EReal) : 0 ≤ mag x := by
  unfold mag
  rcases le_total 0 x with h | h
  · exact le_max_of_le_left h
  · exact le_max_of_le_right (EReal.neg_nonneg.mpr h)

/-- The greatest absolute value. -/
def maxAbs {a b : ℕ} (v : Arr a b) : EReal := ⨆ i, mag (v i)

theorem maxAbs_le {a b : ℕ} (v : Arr a b) (z : EReal) : maxAbs v ≤ z ↔ ∀ i, mag (v i) ≤ z := iSup_le_iff

/-- Two numbers with the same upper bounds are equal. -/
theorem eq_of_bounds {x y : EReal} (h : ∀ z, x ≤ z ↔ y ≤ z) : x = y :=
  le_antisymm ((h y).mpr le_rfl) ((h x).mp le_rfl)

/-- The history of greatest absolute values: the new one in front, the last one dropped. -/
def hist (x : EReal) (h : Row 16) : Row 16 := fun i =>
  if (i 0).val < 1 then x else h (ix1 ⟨(i 0).val - 1, by have : (i 0).val < 16 := (i 0).isLt; omega⟩)

/-- What the backward pass is given: the incoming gradient, the saved arrays with their scales, the two histories, and the
scales of the two gradients with their inverses. -/
structure Inputs where
  dy : Arr 4608 4096
  gu : Arr 4608 28672
  x : Arr 4608 4096
  xs : EReal
  a : Arr 4608 14336
  asc : EReal
  w1 : Arr 4096 28672
  w1s : EReal
  w2 : Arr 14336 4096
  w2s : EReal
  h1 : Row 16
  h2 : Row 16
  dys : EReal
  dyi : EReal
  dhs : EReal
  dhi : EReal

namespace Inputs

variable (I : Inputs)

/-- The codes of the incoming gradient. -/
def dyc : Arr 4608 4096 := codes I.dy I.dyi

/-- The gradient of both halves. -/
def dH : Arr 4608 28672 := gradH I.dyc I.w2 (I.dys * I.w2s) I.gu

/-- The codes of the gradient of both halves. -/
def dHc : Arr 4608 28672 := codes I.dH I.dhi

/-- The gradient of the input. -/
def dX : Arr 4608 4096 := prodNT I.dHc I.w1 (I.dhs * I.w1s)

/-- The gradient of the first weights. -/
def dW1 : Arr 4096 28672 := prodTN I.x I.dHc (I.xs * I.dhs)

/-- The gradient of the second weights. -/
def dW2 : Arr 14336 4096 := prodTN I.a I.dyc (I.asc * I.dys)

/-- The new history of the incoming gradient. -/
def newH1 : Row 16 := hist (maxAbs I.dy) I.h1

/-- The new history of the gradient of both halves. -/
def newH2 : Row 16 := hist (maxAbs I.dH) I.h2

end Inputs

end Cert.Spec

end
-- ==== Proof.KPay.lean ====
module

public import proofs.«01_k».proof.Proof.Gen.KernelIdeal.Skeleton
public import proofs.«01_k».proof.Proof.Spec

/-! What the five calls' bodies compute, over exact numbers. -/

@[expose] public section

set_option maxRecDepth 16384

noncomputable section

namespace Cert.KernelIdeal.Result

open Cert.KernelIdeal Cert.KernelIdeal.Gen Idealize.ShloMosaic
open Cert.Products Cert.Spec

/-! ## Upper bounds of a search for the greatest value -/

/-- The least number of the greatest-value search. -/
theorem negInf : Ideal.ofBits .f32 0xFF800000#32 = ⊥ := by
  rfl

/-- A search over one axis stays below what each of its numbers stays below. -/
theorem fold_le {n : ℕ} (f : Fin n → EReal) (z : EReal) :
    Finset.fold max (Ideal.ofBits .f32 0xFF800000#32) f Finset.univ ≤ z ↔ ∀ k, f k ≤ z := by
  rw [Finset.fold_max_le]
  exact ⟨fun h k => h.2 k (Finset.mem_univ _), fun h => ⟨negInf ▸ bot_le, fun k _ => h k⟩⟩

/-- A search over two axes stays below what each of its numbers stays below. -/
theorem fold_le2 {a b : ℕ} (f : Fin a × Fin b → EReal) (z : EReal) :
    Finset.fold max (Ideal.ofBits .f32 0xFF800000#32) f Finset.univ ≤ z ↔ ∀ k, f k ≤ z := by
  rw [Finset.fold_max_le]
  exact ⟨fun h k => h.2 k (Finset.mem_univ _), fun h => ⟨negInf ▸ bot_le, fun k _ => h k⟩⟩

/-! ## The call that quantises the incoming gradient -/

/-- The accumulator of the greatest absolute values starts at zero. -/
theorem q2_apply (y : S8x4096.Idx) : k0_pay2 (F := Ideal) y = 0 := by
  pointwise [k0_pay2]

/-- Codes of one block. -/
theorem q4_eq (v : Vec Ideal S256x4096 .bf16) (i : EReal) : k0_pay4 (F := Ideal) v i = codes v i := by
  funext y
  unfold codes clip
  pointwise [k0_pay4, k0_pay1]

/-- One block's absolute values are taken into the accumulator. -/
theorem q3_le (a : Vec Ideal S256x4096 .bf16) (v : Vec Ideal S8x4096 .f32) (y : S8x4096.Idx) (z : EReal) :
    k0_pay3 (F := Ideal) a v y ≤ z ↔ v y ≤ z ∧ ∀ k : Fin 32, mag (a (ix2 ⟨k.val * 8 + (y 0).val, by have : (y 0).val < 8 := (y 0).isLt; omega⟩ (y 1))) ≤ z := by
  have h : k0_pay3 (F := Ideal) a v y = max (v y) (Finset.fold max (Ideal.ofBits .f32 0xFF800000#32)
      (fun k : Fin 32 => mag (a (ix2 ⟨k.val * 8 + (y 0).val, by have : (y 0).val < 8 := (y 0).isLt; omega⟩ (y 1)))) Finset.univ) := by
    pointwise [k0_pay3, k0_pay1]
    rfl
  rw [h, max_le_iff, fold_le]

/-! ## The call that makes the gradient of both halves -/

/-- The accumulator of the greatest absolute values starts at zero. -/
theorem h1_apply (y : S8x1024.Idx) : k1_pay1 (F := Ideal) y = 0 := by
  pointwise [k1_pay1]

/-- One block of the gradient in the gate half. -/
theorem h5_apply (x1 : Vec Ideal S768x4096 .fp8e5m2) (x2 : Vec Ideal S1024x4096 .fp8e4m3) (s : EReal) (g u : Vec Ideal S768x1024 .bf16) (y : S768x1024.Idx) :
    k1_pay5 (F := Ideal) x1 x2 s g u y = gradGate (prodNT x1 x2 s y) (g y) (u y) := by
  unfold gradGate prodNT
  pointwise [k1_pay5, k1_pay4, k1_pay3, k1_pay2]

/-- One block of the gradient in the up half. -/
theorem h6_apply (x1 : Vec Ideal S768x4096 .fp8e5m2) (x2 : Vec Ideal S1024x4096 .fp8e4m3) (s : EReal) (g : Vec Ideal S768x1024 .bf16) (y : S768x1024.Idx) :
    k1_pay6 (F := Ideal) x1 x2 s g y = gradUp (prodNT x1 x2 s y) (g y) := by
  unfold gradUp prodNT
  pointwise [k1_pay6, k1_pay4, k1_pay3, k1_pay2]

/-- The greater of the two halves' absolute values. -/
theorem h7_apply (x1 : Vec Ideal S768x4096 .fp8e5m2) (x2 : Vec Ideal S1024x4096 .fp8e4m3) (s : EReal) (g u : Vec Ideal S768x1024 .bf16) (y : S768x1024.Idx) :
    k1_pay7 (F := Ideal) x1 x2 s g u y = max (mag (k1_pay5 (F := Ideal) x1 x2 s g u y)) (mag (k1_pay6 (F := Ideal) x1 x2 s g y)) := by
  pointwise [k1_pay7]
  rfl

/-- One block's absolute values are taken into the accumulator. -/
theorem h8_le (a : FVec Ideal S768x1024 .f32) (v : Vec Ideal S8x1024 .f32) (y : S8x1024.Idx) (z : EReal) :
    k1_pay8 (F := Ideal) a v y ≤ z ↔ v y ≤ z ∧ ∀ k : Fin 96, a (ix2 ⟨k.val * 8 + (y 0).val, by have : (y 0).val < 8 := (y 0).isLt; omega⟩ (y 1)) ≤ z := by
  have h : k1_pay8 (F := Ideal) a v y = max (v y) (Finset.fold max (Ideal.ofBits .f32 0xFF800000#32)
      (fun k : Fin 96 => a (ix2 ⟨k.val * 8 + (y 0).val, by have : (y 0).val < 8 := (y 0).isLt; omega⟩ (y 1))) Finset.univ) := by
    pointwise [k1_pay8]
  rw [h, max_le_iff, fold_le]

/-- Codes of one block, gate half. -/
theorem h9_apply (i : EReal) (v : FVec Ideal S768x1024 .f32) (y : S768x1024.Idx) : k1_pay9 (F := Ideal) i v (ix4 0 0 (y 0) (y 1)) = clip (v y * i) := by
  unfold clip
  pointwise [k1_pay9]

/-- Codes of one block, up half. -/
theorem h10_apply (i : EReal) (v : FVec Ideal S768x1024 .f32) (y : S768x1024.Idx) : k1_pay10 (F := Ideal) i v (ix4 0 0 (y 0) (y 1)) = clip (v y * i) := by
  unfold clip
  pointwise [k1_pay10]

/-! ## The calls that make the gradients of weights and input -/

/-- One block of the gradient of the second weights. -/
theorem w2_apply (x1 : Vec Ideal S4608x1024 .fp8e4m3) (x2 : Vec Ideal S4608x1024 .fp8e5m2) (s : EReal) (y : S1024x1024.Idx) :
    k2_pay1 x1 x2 s y = (∑ k : Fin 4608, x1 (ix2 k (y 0)) * x2 (ix2 k (y 1))) * s := by
  pointwise [k2_pay1]

/-- One block of the gradient of the first weights. -/
theorem w1_apply (x1 : Vec Ideal S4608x1024 .fp8e4m3) (x2 : Vec Ideal S4608x1024 .fp8e5m2) (s : EReal) (y : S1024x1024.Idx) :
    k3_pay1 x1 x2 s y = (∑ k : Fin 4608, x1 (ix2 k (y 0)) * x2 (ix2 k (y 1))) * s := by
  pointwise [k3_pay1]

/-- The accumulator starts at zero. -/
theorem x1_apply (y : S1536x2048.Idx) : k4_pay1 (F := Ideal) y = 0 := by
  pointwise [k4_pay1]

/-- One partial product is added to the accumulator. -/
theorem x2_apply (x0 : Vec Ideal S1536x2048 .f32) (x1 : Vec Ideal S1536x2048 .fp8e5m2) (x2 : Vec Ideal S2048x2048 .fp8e4m3) (y : S1536x2048.Idx) :
    k4_pay2 x0 x1 x2 y = x0 y + ∑ k : Fin 2048, x1 (ix2 (y 0) k) * x2 (ix2 (y 1) k) := by
  pointwise [k4_pay2]

/-- The accumulator is scaled at the end. -/
theorem x3_apply (x0 : Vec Ideal S1536x2048 .f32) (s : EReal) (y : S1536x2048.Idx) :
    k4_pay3 x0 s y = x0 y * s := by
  pointwise [k4_pay3]

end Cert.KernelIdeal.Result

end
-- ==== Proof.KReads.lean ====
module

public import proofs.«01_k».proof.Proof.Segs
public import proofs.«01_k».proof.Proof.KPay
public import Idealize.ShloMosaic.Lib.Pipeline.ReadBack

/-! What the calls find in the arrays the host prepared, over exact numbers. -/

@[expose] public section

set_option maxRecDepth 16384

noncomputable section

namespace Cert.KernelIdeal.Result

open Cert.KernelIdeal Cert.KernelIdeal.Gen Cert.KernelIdeal.Run Idealize.ShloMosaic Idealize.ShloMosaic.TcCoe Idealize.SL.Sem
open Cert.Products Cert.Spec

variable (m : (ℓ : Loc nD τ sig) → Buf (Elt Ideal) ℓ)

/-- What the kernel is given on a core. -/
def inp (c : Dev nD) : Inputs where
  dy := flat (m (c, main_arg0))
  gu := flat (m (c, main_arg1))
  x := flat (m (c, main_arg2))
  xs := m (c, main_arg3) ix0
  a := flat (m (c, main_arg4))
  asc := m (c, main_arg5) ix0
  w1 := m (c, main_arg6)
  w1s := m (c, main_arg7) ix0
  w2 := m (c, main_arg8)
  w2s := m (c, main_arg9) ix0
  h1 := m (c, main_arg10)
  h2 := m (c, main_arg11)
  dys := m (c, main_arg12) ix0
  dyi := m (c, main_arg13) ix0
  dhs := m (c, main_arg14) ix0
  dhi := m (c, main_arg15) ix0

/-! ## Before the first call -/

theorem X1_v0 (c : Dev nD) : X1 m c main_v0 = (inp m c).dy := by
  funext y
  unfold X1 V1 inp flat
  entry_read
  pointwise

theorem X1_v1 (c : Dev nD) : X1 m c main_v1 = (inp m c).gu := by
  funext y
  unfold X1 V1 inp flat
  entry_read
  pointwise

theorem X1_v2 (c : Dev nD) : X1 m c main_v2 = (inp m c).x := by
  funext y
  unfold X1 V1 inp flat
  entry_read
  pointwise

theorem X1_v3 (c : Dev nD) : X1 m c main_v3 = (inp m c).a := by
  funext y
  unfold X1 V1 inp flat
  entry_read
  pointwise

theorem X1_v4 (c : Dev nD) : X1 m c main_v4 (ix1 0) = (inp m c).dyi := by
  unfold X1 V1 inp
  entry_read
  pointwise

/-- An array the host operations before the first call do not write is as given. -/
theorem X1_of (c : Dev nD) (r : Ref sig .tc) (h : r ∉ hostOps0_W) : X1 m c r = m (c, Proc.devRef .tc r) := V1_of m c r h

/-! ## Between the calls -/

theorem ops1_0 (σ : Valuation τ sig (Elt Ideal)) (a b : EReal) (ha : σ main_arg12 ix0 = a) (hb : σ main_arg9 ix0 = b) :
    StableHlo.after hostOps1 σ main_v9 (ix1 0) = a * b := by
  entry_read
  pointwise
  subst ha hb
  rfl

theorem ops1_1 (σ : Valuation τ sig (Elt Ideal)) : StableHlo.after hostOps1 σ main_v9 (ix1 1) = σ main_arg15 ix0 := by
  entry_read
  pointwise

theorem ops2_0 (σ : Valuation τ sig (Elt Ideal)) (a b : EReal) (ha : σ main_arg5 ix0 = a) (hb : σ main_arg12 ix0 = b) :
    StableHlo.after hostOps2 σ main_v12 (ix1 0) = a * b := by
  entry_read
  pointwise
  subst ha hb
  rfl

theorem ops3_0 (σ : Valuation τ sig (Elt Ideal)) (a b : EReal) (ha : σ main_arg3 ix0 = a) (hb : σ main_arg14 ix0 = b) :
    StableHlo.after hostOps3 σ main_v15 (ix1 0) = a * b := by
  entry_read
  pointwise
  subst ha hb
  rfl

theorem ops4_0 (σ : Valuation τ sig (Elt Ideal)) (a b : EReal) (ha : σ main_arg14 ix0 = a) (hb : σ main_arg7 ix0 = b) :
    StableHlo.after hostOps4 σ main_v18 (ix1 0) = a * b := by
  entry_read
  pointwise
  subst ha hb
  rfl

/-! ## After the last call -/

/-- The greatest number of an array of two axes. -/
def most {a b : ℕ} (v : Arr a b) : EReal := Finset.fold max (Ideal.ofBits .f32 0xFF800000#32) (fun k : Fin a × Fin b => v (ix2 k.1 k.2)) Finset.univ

theorem most_le {a b : ℕ} (v : Arr a b) (z : EReal) : most v ≤ z ↔ ∀ i, v i ≤ z := by
  unfold most
  rw [fold_le2]
  refine ⟨fun h i => ?_, fun h k => h _⟩
  rw [eq_ix2 i]
  exact h (i 0, i 1)

theorem ops5_h1 (σ : Valuation τ sig (Elt Ideal)) : StableHlo.after hostOps5 σ main_v23 = hist (most (a := 8) (b := 4096) (σ main_v5_1)) (σ main_arg10) := by
  funext y
  entry_read
  unfold hist most
  pointwise
  rfl

theorem ops5_h2 (σ : Valuation τ sig (Elt Ideal)) : StableHlo.after hostOps5 σ main_v27 = hist (most (a := 8) (b := 1024) (σ main_v10_1)) (σ main_arg11) := by
  funext y
  entry_read
  unfold hist most
  pointwise
  rfl

end Cert.KernelIdeal.Result

end
-- ==== Proof.KQuant.lean ====
module

public import proofs.«01_k».proof.Proof.Quant
public import proofs.«01_k».proof.Proof.KPay
public import Idealize.ShloMosaic.Lib.Pipeline.ReadBack

/-! What the call that quantises the incoming gradient leaves, over exact numbers: the codes, and greatest absolute values
whose greatest is that of the whole array. -/

@[expose] public section

set_option maxRecDepth 16384

noncomputable section

namespace Cert.KernelIdeal.Quant

open Cert.KernelIdeal Cert.KernelIdeal.Gen Cert.KernelIdeal.Result Idealize.ShloMosaic Idealize.ShloMosaic.TcCoe Idealize.SL.Sem
open Cert.Products Cert.Spec

variable (V : (c : Dev nD) → (b : Ref sig .tc) → Buf (Elt Ideal) ((c : Thread nD τ).loc b))

/-- Which block each window stages at a grid point. -/
theorem idx : ∀ t : Fin cfg0.N, win0_0.index t = ![0] ∧ win0_1.index t = ![t.val, 0] ∧ win0_2.index t = ![t.val, 0]
    ∧ win0_3.index t = ![0, 0] := (by decide +kernel : ∀ t : Fin grid0.N, _)

/-- The staged inverse scale. -/
theorem blk0 (c : Dev nD) (t : Fin cfg0.N) (i : S1.Idx) : iblk V c 0 t i = V c main_v4 (ix1 0) := by
  blk_ext [iblk, idx t]

/-- The staged block of the incoming gradient. -/
theorem blkDy (c : Dev nD) (t : Fin cfg0.N) (y : S256x4096.Idx) : iblk V c 1 t y = V c main_v0 (((View.whole main_v5_0).slice (win0_2.rect t)).emb y) := by
  blk_ext [iblk, idx t]

/-- The codes after the run. -/
theorem arr2 (c : Dev nD) : (dat V c).arrAt 2 cfg0.N = codes (a := 4608) (b := 4096) (V c main_v0) (V c main_v4 (ix1 0)) := by
  refine (dat V c).arrAt_eq_of_covers 2 _ (by decide +kernel) fun t hf y => ?_
  blk_simp
  rw [after0_2]
  by_cases h0 : t.val % 18 = 0
  · rw [outsAt0_A V c t h0]
    frame_out
    rw [View.ld_apply, blk0, q4_eq]
    exact congrArg (fun x : EReal => clip (x * _)) (blkDy V c t y)
  · rw [outsAt0_B V c t h0]
    frame_out
    rw [View.ld_apply, blk0, q4_eq]
    exact congrArg (fun x : EReal => clip (x * _)) (blkDy V c t y)

/-- What the accumulator stays below, point by point. -/
theorem acc_le (c : Dev nD) (y : S8x4096.Idx) (z : EReal) : (n : ℕ) → (hn : n < cfg0.N) → ((outsAt0 V c n hn).2 y ≤ z ↔ 0 ≤ z ∧ ∀ (s : Fin cfg0.N), s.val ≤ n → ∀ k : Fin 32,
      mag (iblk V c 1 s (ix2 ⟨k.val * 8 + (y 0).val, by have : (y 0).val < 8 := (y 0).isLt; omega⟩ (y 1))) ≤ z)
  | 0, hn => by
    rw [outsAt0_A V c ⟨0, hn⟩ rfl]
    frame_out
    rw [q3_le, q2_apply]
    refine and_congr Iff.rfl ⟨fun h s hs k => ?_, fun h k => h ⟨0, hn⟩ le_rfl k⟩
    obtain rfl : s = ⟨0, hn⟩ := Fin.ext (Nat.le_zero.mp hs)
    exact h k
  | n + 1, hn => by
    have ih := acc_le c y z n (Nat.lt_of_succ_lt hn)
    have h0 : ¬ (n + 1) % 18 = 0 := by have : n + 1 < 18 := lt_of_lt_of_eq hn N_0; omega
    rw [outsAt0_B V c ⟨n + 1, hn⟩ h0]
    frame_out
    rw [q3_le]
    refine (and_congr ih Iff.rfl).trans ⟨fun h => ⟨h.1.1, fun s hs k => ?_⟩, fun h => ⟨⟨h.1, fun s hs k => h.2 s (Nat.le_succ_of_le hs) k⟩, fun k => h.2 ⟨n + 1, hn⟩ le_rfl k⟩⟩
    rcases Nat.lt_or_ge s.val (n + 1) with hlt | hge
    · exact h.1.2 s (Nat.lt_succ_iff.mp hlt) k
    · obtain rfl : s = ⟨n + 1, hn⟩ := Fin.ext (le_antisymm hs hge)
      exact h.2 k

/-- The accumulator's array after the run: what the last point leaves. -/
theorem arr3 (c : Dev nD) : (dat V c).arrAt 3 cfg0.N = (outsAt0 V c 17 (lt_of_lt_of_eq (by omega) N_0.symm)).2 := by
  refine (dat V c).arrAt_eq_of_after_last 3 ⟨17, lt_of_lt_of_eq (by omega) N_0.symm⟩ (by decide +kernel) _ fun j => ?_
  blk_simp
  exact congrFun (after0_3 V c ⟨17, lt_of_lt_of_eq (by omega) N_0.symm⟩) j

/-- What the accumulator's array stays below: the same as all the absolute values. -/
theorem arr3_le (c : Dev nD) (z : EReal) : (∀ y : S8x4096.Idx, (outsAt0 V c 17 (lt_of_lt_of_eq (by omega) N_0.symm)).2 y ≤ z)
    ↔ ∀ i : S4608x4096.Idx, mag (V c main_v0 i) ≤ z := by
  refine ⟨fun h i => ?_, fun h y => ?_⟩
  · have hi : (i 0).val < 4608 := (i 0).isLt
    have h' := ((acc_le V c (ix2 ⟨(i 0).val % 8, by omega⟩ (i 1)) z 17 _).mp (h _)).2 ⟨(i 0).val / 256, lt_of_lt_of_eq (by omega) N_0.symm⟩ (by show (i 0).val / 256 ≤ 17; omega)
      ⟨(i 0).val % 256 / 8, by omega⟩
    rw [blkDy] at h'
    refine le_of_eq_of_le (congrArg (fun j => mag (V c main_v0 j)) ?_) h'
    blk_ext [idx]
  · refine (acc_le V c y z 17 _).mpr ⟨(mag_nonneg _).trans (h (ix2 0 0)), fun s _ k => ?_⟩
    rw [blkDy]
    exact h _

end Cert.KernelIdeal.Quant

end
-- ==== Proof.KDh.lean ====
module

public import proofs.«01_k».proof.Proof.Dh
public import proofs.«01_k».proof.Proof.KPay
public import Idealize.ShloMosaic.Lib.Pipeline.ReadBack

/-! What the call that makes the gradient of both halves leaves, over exact numbers: the codes, and greatest absolute values
whose greatest is that of the whole gradient. -/

@[expose] public section

set_option maxRecDepth 16384

noncomputable section

namespace Cert.KernelIdeal.Dh

open Cert.KernelIdeal Cert.KernelIdeal.Gen Cert.KernelIdeal.Result Idealize.ShloMosaic Idealize.ShloMosaic.TcCoe Idealize.SL.Sem
open Cert.Products Cert.Spec

variable (V : (c : Dev nD) → (b : Ref sig .tc) → Buf (Elt Ideal) ((c : Thread nD τ).loc b))

/-- Which block each window stages at a grid point. -/
theorem idx : ∀ t : Fin cfg1.N, win1_0.index t = ![0] ∧ win1_1.index t = ![t.val % 6, 0] ∧ win1_2.index t = ![t.val / 6, 0]
    ∧ win1_3.index t = ![t.val % 6, t.val / 6] ∧ win1_4.index t = ![t.val % 6, t.val / 6 + 14] ∧ win1_5.index t = ![0, 0] :=
  (by decide +kernel : ∀ t : Fin grid1.N, _)

/-- The whole gradient, from what the call finds. -/
def grad (c : Dev nD) : Arr 4608 28672 :=
  gradH (V c main_v5_0) (V c main_arg8) (V c main_v9 (ix1 0)) (V c main_v1)

theorem lt_N (t : Fin cfg1.N) : t.val < 84 := lt_of_lt_of_eq t.isLt N_1

/-- A row of a point's block, in the array. -/
def row (t : Fin cfg1.N) (y : S768x1024.Idx) : Fin 4608 :=
  ⟨768 * (t.val % 6) + (y 0).val, by have : (y 0).val < 768 := (y 0).isLt; omega⟩

/-- A column of a point's block, in its half of the array. -/
def col (t : Fin cfg1.N) (y : S768x1024.Idx) : Fin 14336 :=
  ⟨1024 * (t.val / 6) + (y 1).val, by have : (y 1).val < 1024 := (y 1).isLt; have := lt_N t; omega⟩

/-- The staged product scale and inverse scale. -/
theorem blk0 (c : Dev nD) (t : Fin cfg1.N) (i : S2.Idx) : iblk V c 0 t i = V c main_v9 i := by
  refine congrArg (V c main_v9) ?_
  blk_ext [idx t]

/-- A point's block of the incoming gradient of the activations. -/
theorem dA (c : Dev nD) (t : Fin cfg1.N) (s : EReal) (y : S768x1024.Idx) :
    prodNT (K := 4096) (M := 768) (N := 1024) (iblk V c 1 t) (iblk V c 2 t) s y = gradA (V c main_v5_0) (V c main_arg8) s (ix2 (row t y) (col t y)) := by
  unfold gradA prodNT row col
  refine congrArg₂ (· * ·) (Finset.sum_congr rfl fun k _ => ?_) rfl
  refine congrArg₂ (· * ·) ?_ ?_ <;> blk_ext [iblk, idx t]

/-- A point's block of the gate half. -/
theorem blkG (c : Dev nD) (t : Fin cfg1.N) (y : S768x1024.Idx) :
    iblk V c 3 t y = V c main_v1 (ix2 (row t y) ⟨(col t y).val, by omega⟩) := by
  unfold row col
  blk_ext [iblk, idx t]

/-- A point's block of the up half. -/
theorem blkU (c : Dev nD) (t : Fin cfg1.N) (y : S768x1024.Idx) :
    iblk V c 4 t y = V c main_v1 (ix2 (row t y) ⟨(col t y).val + 14336, by omega⟩) := by
  unfold row col
  blk_ext [iblk, idx t]

/-- The gradient in a column of the gate half. -/
theorem gradH_gate (q : Arr 4608 4096) (w : Arr 14336 4096) (s : EReal) (gu : Arr 4608 28672) (r : Fin 4608) (f : Fin 14336) (j : Fin 28672) (hj : j.val = f.val) :
    gradH q w s gu (ix2 r j) = gateAt q w s gu r f := by
  have h : j.val < 14336 := hj.trans_lt f.isLt
  exact (dif_pos h).trans (congrArg (gateAt q w s gu r) (Fin.ext hj))

/-- The gradient in a column of the up half. -/
theorem gradH_up (q : Arr 4608 4096) (w : Arr 14336 4096) (s : EReal) (gu : Arr 4608 28672) (r : Fin 4608) (f : Fin 14336) (j : Fin 28672) (hj : j.val = f.val + 14336) :
    gradH q w s gu (ix2 r j) = upAt q w s gu r f := by
  have h : ¬ j.val < 14336 := by omega
  exact (dif_neg h).trans (congrArg (upAt q w s gu r) (Fin.ext (Nat.sub_eq_of_eq_add hj)))

/-- A point's block of the gradient, gate half. -/
theorem gate (c : Dev nD) (t : Fin cfg1.N) (y : S768x1024.Idx) :
    k1_pay5 (F := Ideal) (iblk V c 1 t) (iblk V c 2 t) (V c main_v9 (ix1 0)) (iblk V c 3 t) (iblk V c 4 t) y
      = grad V c (ix2 (row t y) ⟨(col t y).val, by omega⟩) := by
  refine (h5_apply _ _ _ _ _ y).trans (Eq.trans ?_ (gradH_gate _ _ _ _ (row t y) (col t y) _ rfl).symm)
  rw [blkG, blkU]
  exact congrArg (fun d => gradGate d _ _) (dA V c t _ y)

/-- A point's block of the gradient, up half. -/
theorem up (c : Dev nD) (t : Fin cfg1.N) (y : S768x1024.Idx) :
    k1_pay6 (F := Ideal) (iblk V c 1 t) (iblk V c 2 t) (V c main_v9 (ix1 0)) (iblk V c 3 t) y
      = grad V c (ix2 (row t y) ⟨(col t y).val + 14336, by omega⟩) := by
  refine (h6_apply _ _ _ _ y).trans (Eq.trans ?_ (gradH_up _ _ _ _ (row t y) (col t y) _ rfl).symm)
  rw [blkG]
  exact congrArg (fun d => gradUp d _) (dA V c t _ y)

/-- The point whose blocks hold an entry. -/
def pt (y : S4608x28672.Idx) : Fin cfg1.N :=
  ⟨6 * ((y 1).val % 14336 / 1024) + (y 0).val / 768, lt_of_lt_of_eq (by have : (y 0).val < 4608 := (y 0).isLt; omega) N_1.symm⟩

/-- Where in those blocks it is. -/
def loc (y : S4608x28672.Idx) : S768x1024.Idx := ix2 ⟨(y 0).val % 768, by omega⟩ ⟨(y 1).val % 1024, by omega⟩

theorem row_pt (y : S4608x28672.Idx) : row (pt y) (loc y) = y 0 := by
  have h0 : (y 0).val < 4608 := (y 0).isLt
  refine Fin.ext ?_
  show 768 * ((6 * ((y 1).val % 14336 / 1024) + (y 0).val / 768) % 6) + (y 0).val % 768 = (y 0).val
  omega

theorem col_pt (y : S4608x28672.Idx) : (col (pt y) (loc y)).val = (y 1).val % 14336 := by
  have h0 : (y 0).val < 4608 := (y 0).isLt
  show 1024 * ((6 * ((y 1).val % 14336 / 1024) + (y 0).val / 768) / 6) + (y 1).val % 1024 = (y 1).val % 14336
  omega

/-- The first block of codes at a point. -/
theorem code0_apply (c : Dev nD) (t : Fin cfg1.N) (i : S768x1024.Idx) :
    code0 (iblk V c 0 t) (iblk V c 1 t) (iblk V c 2 t) (iblk V c 3 t) (iblk V c 4 t) i
      = clip (grad V c (ix2 (row t i) ⟨(col t i).val, by omega⟩) * V c main_v9 (ix1 1)) := by
  unfold code0
  rw [blk0, blk0]
  refine (h9_apply _ _ i).trans ?_
  rw [gate]

/-- The second block of codes at a point. -/
theorem code1_apply (c : Dev nD) (t : Fin cfg1.N) (i : S768x1024.Idx) :
    code1 (iblk V c 0 t) (iblk V c 1 t) (iblk V c 2 t) (iblk V c 3 t) i
      = clip (grad V c (ix2 (row t i) ⟨(col t i).val + 14336, by omega⟩) * V c main_v9 (ix1 1)) := by
  unfold code1
  rw [blk0, blk0]
  refine (h10_apply _ _ i).trans ?_
  rw [up]

/-- The codes after the run. -/
theorem arr (c : Dev nD) : dhArr (XV V c) = codes (grad V c) (V c main_v9 (ix1 1)) := by
  funext y
  have h0 : (y 0).val < 4608 := (y 0).isLt
  have h1 : (y 1).val < 28672 := (y 1).isLt
  have hp : Fin.cast N_1.symm (Fin.ofNat 84 (6 * ((y 1).val % 14336 / 1024) + (y 0).val / 768)) = pt y := by
    refine Fin.ext ?_
    show (6 * ((y 1).val % 14336 / 1024) + (y 0).val / 768) % 84 = 6 * ((y 1).val % 14336 / 1024) + (y 0).val / 768
    omega
  have hl : (ix2 (Fin.ofNat 768 ((y 0).val % 768)) (Fin.ofNat 1024 ((y 1).val % 1024)) : S768x1024.Idx) = loc y := by
    refine congrArg₂ ix2 (Fin.ext ?_) (Fin.ext ?_)
    · exact Nat.mod_mod _ _
    · exact Nat.mod_mod _ _
  have hc := col_pt y
  unfold dhArr XV codes
  rw [hp, hl]
  by_cases hb : (y 1).val < 14336
  · have hm : (Fin.ofNat 2 ((y 1).val / 14336)) = 0 := by
      rw [Nat.div_eq_of_lt hb]
      rfl
    rw [if_pos hm, code0_apply, row_pt]
    refine congrArg (fun j => clip (grad V c j * V c main_v9 (ix1 1))) ((congrArg (ix2 (y 0)) (Fin.ext ?_)).trans (eq_ix2 y).symm)
    exact hc.trans (Nat.mod_eq_of_lt hb)
  · have hd : (y 1).val / 14336 = 1 := by omega
    have hm : ¬ (Fin.ofNat 2 ((y 1).val / 14336)) = 0 := by
      rw [hd]
      decide
    rw [if_neg hm, code1_apply, row_pt]
    refine congrArg (fun j => clip (grad V c j * V c main_v9 (ix1 1))) ((congrArg (ix2 (y 0)) (Fin.ext ?_)).trans (eq_ix2 y).symm)
    show (col (pt y) (loc y)).val + 14336 = (y 1).val
    omega

/-- The greater absolute value of the two halves at an entry of a point's block. -/
def top (c : Dev nD) (s : Fin cfg1.N) (i : S768x1024.Idx) : EReal :=
  max (mag (grad V c (ix2 (row s i) ⟨(col s i).val, by omega⟩))) (mag (grad V c (ix2 (row s i) ⟨(col s i).val + 14336, by omega⟩)))

theorem top_eq (c : Dev nD) (s : Fin cfg1.N) (i : S768x1024.Idx) :
    k1_pay7 (F := Ideal) (iblk V c 1 s) (iblk V c 2 s) (V c main_v9 (ix1 0)) (iblk V c 3 s) (iblk V c 4 s) i = top V c s i := by
  rw [h7_apply, gate, up]
  rfl

/-- One point's step of the accumulator. -/
theorem step_le (c : Dev nD) (s : Fin cfg1.N) (hx0) (v : Vec Ideal S8x1024 .f32) (y : S8x1024.Idx) (z : EReal) :
    k1_pay8 (F := Ideal) (k1_pay7 (iblk V c 1 s) (iblk V c 2 s) (View.ld (iblk V c 0 s) (Rect.unit ![0] ![1] inb_S2_S1_0) (Shape.Idx.first hx0)) (iblk V c 3 s) (iblk V c 4 s)) v y ≤ z
      ↔ v y ≤ z ∧ ∀ k : Fin 96, top V c s (ix2 ⟨k.val * 8 + (y 0).val, by have : (y 0).val < 8 := (y 0).isLt; omega⟩ (y 1)) ≤ z := by
  have hx : View.ld (iblk V c 0 s) (Rect.unit ![0] ![1] inb_S2_S1_0) (Shape.Idx.first hx0) = V c main_v9 (ix1 0) := by
    rw [View.ld_apply, blk0]
    refine congrArg (V c main_v9) ?_
    blk_ext <;> rfl
  rw [hx, h8_le]
  refine and_congr Iff.rfl (forall_congr' fun k => ?_)
  rw [top_eq]

/-- What the accumulator stays below, point by point. -/
theorem acc_le (c : Dev nD) (y : S8x1024.Idx) (z : EReal) : (n : ℕ) → (hn : n < cfg1.N) → (outsAt1 V c n hn y ≤ z ↔ 0 ≤ z ∧ ∀ (s : Fin cfg1.N), s.val ≤ n → ∀ k : Fin 96,
      top V c s (ix2 ⟨k.val * 8 + (y 0).val, by have : (y 0).val < 8 := (y 0).isLt; omega⟩ (y 1)) ≤ z)
  | 0, hn => by
    rw [outsAt1_A V c ⟨0, hn⟩ (by show ¬ 2 ≤ 0; omega) rfl (by show ¬ 0 % 84 = 83; omega)]
    frame_out
    rw [step_le, h1_apply]
    refine and_congr Iff.rfl ⟨fun h s hs k => ?_, fun h k => h ⟨0, hn⟩ le_rfl k⟩
    obtain rfl : s = ⟨0, hn⟩ := Fin.ext (Nat.le_zero.mp hs)
    exact h k
  | n + 1, hn => by
    have ih := acc_le c y z n (Nat.lt_of_succ_lt hn)
    have hN : n + 1 < 84 := lt_N ⟨n + 1, hn⟩
    have key : outsAt1 V c (n + 1) hn y ≤ z ↔ outsAt1 V c n (Nat.lt_of_succ_lt hn) y ≤ z
        ∧ ∀ k : Fin 96, top V c ⟨n + 1, hn⟩ (ix2 ⟨k.val * 8 + (y 0).val, by have : (y 0).val < 8 := (y 0).isLt; omega⟩ (y 1)) ≤ z := by
      by_cases h0 : 2 ≤ n + 1
      · by_cases h2 : (n + 1) % 84 = 83
        · rw [outsAt1_D V c ⟨n + 1, hn⟩ h0 (by show ¬ (n + 1) % 84 = 0; omega) h2]
          frame_out
          rw [step_le]
          rfl
        · rw [outsAt1_C V c ⟨n + 1, hn⟩ h0 (by show ¬ (n + 1) % 84 = 0; omega) h2]
          frame_out
          rw [step_le]
          rfl
      · rw [outsAt1_B V c ⟨n + 1, hn⟩ h0 (by show ¬ (n + 1) % 84 = 0; omega) (by show ¬ (n + 1) % 84 = 83; omega)]
        frame_out
        rw [step_le]
        rfl
    refine key.trans ((and_congr ih Iff.rfl).trans ⟨fun h => ⟨h.1.1, fun s hs k => ?_⟩, fun h => ⟨⟨h.1, fun s hs k => h.2 s (Nat.le_succ_of_le hs) k⟩, fun k => h.2 ⟨n + 1, hn⟩ le_rfl k⟩⟩)
    rcases Nat.lt_or_ge s.val (n + 1) with hlt | hge
    · exact h.1.2 s (Nat.lt_succ_iff.mp hlt) k
    · obtain rfl : s = ⟨n + 1, hn⟩ := Fin.ext (le_antisymm hs hge)
      exact h.2 k

/-- The accumulator's array after the run: what the last point leaves. -/
theorem arr5 (c : Dev nD) : (dat V c).arrAt 5 cfg1.N = outsAt1 V c 83 (lt_of_lt_of_eq (by omega) N_1.symm) := by
  refine (dat V c).arrAt_eq_of_after_last 5 ⟨83, lt_of_lt_of_eq (by omega) N_1.symm⟩ (by decide +kernel) _ fun j => ?_
  blk_simp
  exact congrFun (after1_5 V c ⟨83, lt_of_lt_of_eq (by omega) N_1.symm⟩) j

/-- The place of an entry in the block of its point. -/
theorem loc_eq (i : S4608x28672.Idx) : (ix2 ⟨(i 0).val % 768 / 8 * 8 + (i 0).val % 8, by omega⟩ ⟨(i 1).val % 1024, by omega⟩ : S768x1024.Idx) = loc i := by
  refine congrArg₂ ix2 (Fin.ext ?_) rfl
  show (i 0).val % 768 / 8 * 8 + (i 0).val % 8 = (i 0).val % 768
  omega

/-- An entry's absolute value is below that of its place. -/
theorem mag_le_top (c : Dev nD) (i : S4608x28672.Idx) : mag (grad V c i) ≤ top V c (pt i) (loc i) := by
  have hc := col_pt i
  have h1 : (i 1).val < 28672 := (i 1).isLt
  unfold top
  rw [row_pt]
  by_cases hb : (i 1).val < 14336
  · refine le_max_of_le_left (le_of_eq (congrArg (fun j => mag (grad V c j)) ((eq_ix2 i).trans (congrArg (ix2 (i 0)) (Fin.ext ?_)))))
    exact (hc.trans (Nat.mod_eq_of_lt hb)).symm
  · refine le_max_of_le_right (le_of_eq (congrArg (fun j => mag (grad V c j)) ((eq_ix2 i).trans (congrArg (ix2 (i 0)) (Fin.ext ?_)))))
    show (i 1).val = (col (pt i) (loc i)).val + 14336
    omega

/-- What the accumulator's array stays below: the same as all the absolute values of the gradient. -/
theorem arr5_le (c : Dev nD) (z : EReal) : (∀ y : S8x1024.Idx, outsAt1 V c 83 (lt_of_lt_of_eq (by omega) N_1.symm) y ≤ z)
    ↔ ∀ i : S4608x28672.Idx, mag (grad V c i) ≤ z := by
  refine ⟨fun h i => ?_, fun h y => ?_⟩
  · have h' := ((acc_le V c (ix2 ⟨(i 0).val % 8, by omega⟩ ⟨(i 1).val % 1024, by omega⟩) z 83 _).mp (h _)).2 (pt i) (Nat.lt_succ_iff.mp (lt_N (pt i)))
      ⟨(i 0).val % 768 / 8, by omega⟩
    refine (mag_le_top V c i).trans (le_of_eq_of_le ?_ h')
    exact congrArg (top V c (pt i)) (loc_eq i).symm
  · refine (acc_le V c y z 83 _).mpr ⟨(mag_nonneg _).trans (h (ix2 0 0)), fun s _ k => ?_⟩
    exact max_le (h _) (h _)

end Cert.KernelIdeal.Dh

end
-- ==== Proof.KDw2.lean ====
module

public import proofs.«01_k».proof.Proof.Dw2
public import proofs.«01_k».proof.Proof.KPay
public import Idealize.ShloMosaic.Lib.Pipeline.ReadBack

/-! What the call that makes the gradient of the second weights leaves, over exact numbers: the whole product. -/

@[expose] public section

set_option maxRecDepth 16384

noncomputable section

namespace Cert.KernelIdeal.Dw2

open Cert.KernelIdeal Cert.KernelIdeal.Gen Cert.KernelIdeal.Result Idealize.ShloMosaic Idealize.ShloMosaic.TcCoe Idealize.SL.Sem
open Cert.Products Cert.Spec

variable (V : (c : Dev nD) → (b : Ref sig .tc) → Buf (Elt Ideal) ((c : Thread nD τ).loc b))

/-- Which block each window stages at a grid point. -/
theorem idx : ∀ t : Fin cfg2.N, win2_0.index t = ![0] ∧ win2_1.index t = ![0, (grid2.coords t 1).val] ∧ win2_2.index t = ![0, (grid2.coords t 0).val]
    ∧ win2_3.index t = ![(grid2.coords t 1).val, (grid2.coords t 0).val] := (by decide +kernel : ∀ t : Fin grid2.N, _)

/-- The staged scale. -/
theorem blk0 (c : Dev nD) (t : Fin cfg2.N) (i : S1.Idx) : iblk V c 0 t i = V c main_v12 (ix1 0) := by
  blk_ext [iblk, idx t]

/-- The result array after the run: block by block, the whole product. -/
theorem arr (c : Dev nD) : (dat V c).arrAt 3 cfg2.N
    = prodTN (K := 4608) (M := 14336) (N := 4096) (V c main_v3) (V c main_v5_0) (V c main_v12 (ix1 0)) := by
  refine (dat V c).arrAt_eq_of_covers 3 _ (by decide +kernel) fun t hf y => ?_
  blk_simp
  rw [after2_3]
  unfold outsAt2
  frame_out
  rw [View.ld_apply, blk0]
  refine (w2_apply _ _ _ _).trans ?_
  unfold prodTN
  refine congrArg₂ (· * ·) (Finset.sum_congr rfl fun k _ => ?_) rfl
  refine congrArg₂ (· * ·) ?_ ?_ <;> blk_ext [iblk, idx t]

end Cert.KernelIdeal.Dw2

end
-- ==== Proof.KDw1.lean ====
module

public import proofs.«01_k».proof.Proof.Dw1
public import proofs.«01_k».proof.Proof.KPay
public import Idealize.ShloMosaic.Lib.Pipeline.ReadBack

/-! What the call that makes the gradient of the first weights leaves, over exact numbers: the whole product. -/

@[expose] public section

set_option maxRecDepth 16384

noncomputable section

namespace Cert.KernelIdeal.Dw1

open Cert.KernelIdeal Cert.KernelIdeal.Gen Cert.KernelIdeal.Result Idealize.ShloMosaic Idealize.ShloMosaic.TcCoe Idealize.SL.Sem
open Cert.Products Cert.Spec

variable (V : (c : Dev nD) → (b : Ref sig .tc) → Buf (Elt Ideal) ((c : Thread nD τ).loc b))

/-- Which block each window stages at a grid point. -/
theorem idx : ∀ t : Fin cfg3.N, win3_0.index t = ![0] ∧ win3_1.index t = ![0, (grid3.coords t 1).val] ∧ win3_2.index t = ![0, (grid3.coords t 0).val]
    ∧ win3_3.index t = ![(grid3.coords t 1).val, (grid3.coords t 0).val] := (by decide +kernel : ∀ t : Fin grid3.N, _)

/-- The staged scale. -/
theorem blk0 (c : Dev nD) (t : Fin cfg3.N) (i : S1.Idx) : iblk V c 0 t i = V c main_v15 (ix1 0) := by
  blk_ext [iblk, idx t]

/-- The result array after the run: block by block, the whole product. -/
theorem arr (c : Dev nD) : (dat V c).arrAt 3 cfg3.N
    = prodTN (K := 4608) (M := 4096) (N := 28672) (V c main_v2) (V c main_v10_0) (V c main_v15 (ix1 0)) := by
  refine (dat V c).arrAt_eq_of_covers 3 _ (by decide +kernel) fun t hf y => ?_
  blk_simp
  rw [after3_3]
  unfold outsAt3
  frame_out
  rw [View.ld_apply, blk0]
  refine (w1_apply _ _ _ _).trans ?_
  unfold prodTN
  refine congrArg₂ (· * ·) (Finset.sum_congr rfl fun k _ => ?_) rfl
  refine congrArg₂ (· * ·) ?_ ?_ <;> blk_ext [iblk, idx t]

end Cert.KernelIdeal.Dw1

end
-- ==== Proof.KDx.lean ====
module

public import proofs.«01_k».proof.Proof.Dx
public import proofs.«01_k».proof.Proof.KPay
public import Idealize.ShloMosaic.Lib.Pipeline.ReadBack

/-! What the call that makes the gradient of the input leaves, over exact numbers: fourteen partial
products added up are the whole product. -/

@[expose] public section

set_option maxRecDepth 16384

noncomputable section

namespace Cert.KernelIdeal.Dx

open Cert.KernelIdeal Cert.KernelIdeal.Gen Cert.KernelIdeal.Result Idealize.ShloMosaic Idealize.ShloMosaic.TcCoe Idealize.SL.Sem
open Cert.Products Cert.Spec

variable (V : (c : Dev nD) → (b : Ref sig .tc) → Buf (Elt Ideal) ((c : Thread nD τ).loc b))

/-- Which block each window stages at a grid point. -/
theorem idx : ∀ t : Fin cfg4.N, win4_0.index t = ![0] ∧ win4_1.index t = ![t.val / 28, t.val % 14] ∧ win4_2.index t = ![t.val / 14 % 2, t.val % 14]
    ∧ win4_3.index t = ![t.val / 28, t.val / 14 % 2] := (by decide +kernel : ∀ t : Fin grid4.N, _)

/-- The staged scale. -/
theorem blk0 (c : Dev nD) (t : Fin cfg4.N) (i : S1.Idx) : iblk V c 0 t i = V c main_v18 (ix1 0) := by
  blk_ext [iblk, idx t]

/-- The partial product of two blocks, at an index of the result's block. -/
def part (x1 : Vec Ideal S1536x2048 .fp8e5m2) (x2 : Vec Ideal S2048x2048 .fp8e4m3) (y : S1536x2048.Idx) : EReal :=
  ∑ k : Fin 2048, x1 (ix2 (y 0) k) * x2 (ix2 (y 1) k)

/-- The accumulator at a run's last point. -/
theorem acc (c : Dev nD) (t : Fin cfg4.N) (hr : t.val % 14 = 13) (y : S1536x2048.Idx) :
    (outsAt4 V c t.val t.isLt).2 y = 0 + ∑ s : Fin 14, part (iblk V c 1 ⟨14 * (t.val / 14) + s.val, Pipeline.run_point_lt_of_flush t hr s⟩)
      (iblk V c 2 ⟨14 * (t.val / 14) + s.val, Pipeline.run_point_lt_of_flush t hr s⟩) y := by
  rw [Pipeline.eq_sum_fin_of_reset_step_apply_of_flush (fun n h => (outsAt4 V c n h).2) 14 (fun _ => (0 : EReal))
    (fun t y => part (iblk V c 1 t) (iblk V c 2 t) y) ?_ ?_ t hr y]
  · intro t h y
    rw [outsAt4_A V c t h (by omega)]
    frame_out
    rw [x2_apply, x1_apply]
    rfl
  · intro t h y
    by_cases h1 : t.val % 14 = 13
    · rw [outsAt4_C V c t h h1]
      frame_out
      rw [x2_apply, read_unread_whole]
      rfl
    · rw [outsAt4_B V c t h h1]
      frame_out
      rw [x2_apply, read_unread_whole]
      rfl

/-- The scaled accumulator at a run's last point. -/
theorem last (c : Dev nD) (t : Fin cfg4.N) (hr : t.val % 14 = 13) (y : S1536x2048.Idx) :
    k4_pay2 (outsAt4 V c (t.val - 1) (Nat.lt_of_le_of_lt (Nat.sub_le _ _) t.isLt)).2 (iblk V c 1 t) (iblk V c 2 t) y
      = 0 + ∑ s : Fin 14, part (iblk V c 1 ⟨14 * (t.val / 14) + s.val, Pipeline.run_point_lt_of_flush t hr s⟩)
      (iblk V c 2 ⟨14 * (t.val / 14) + s.val, Pipeline.run_point_lt_of_flush t hr s⟩) y := by
  rw [← acc V c t hr y, outsAt4_C V c t (by omega) hr]
  frame_out
  rw [read_unread_whole]

/-- The result array after the run: block by block, the whole product. -/
theorem arr (c : Dev nD) : (dat V c).arrAt 3 cfg4.N = prodNT (K := 28672) (M := 4608) (N := 4096) (V c main_v10_0) (V c main_arg6) (V c main_v18 (ix1 0)) := by
  refine (dat V c).arrAt_eq_of_covers 3 _ (by decide +kernel) fun t hf y => ?_
  have hr : t.val % 14 = 13 := (flush4_3 t).mp hf
  blk_simp
  rw [after4_3, outsAt4_C V c t (by omega) hr]
  frame_out
  rw [read_unread_whole, x3_apply, last V c t hr]
  unfold prodNT part
  refine congrArg₂ (· * ·) ?_ ?_
  · rw [zero_add]
    refine Fin.sum_mul_add_congr fun s k h => ?_
    refine congrArg₂ (· * ·) ?_ ?_ <;> blk_ext [iblk, idx t, idx ⟨14 * (t.val / 14) + s.val, Pipeline.run_point_lt_of_flush t hr s⟩]
  · rw [View.ld_apply]
    exact blk0 V c t _

end Cert.KernelIdeal.Dx

end
-- ==== Proof.KVal.lean ====
module

public import proofs.«01_k».proof.Proof.KReads
public import proofs.«01_k».proof.Proof.KQuant
public import proofs.«01_k».proof.Proof.KDh
public import proofs.«01_k».proof.Proof.KDw2
public import proofs.«01_k».proof.Proof.KDw1
public import proofs.«01_k».proof.Proof.KDx

/-! What the whole kernel leaves, over exact numbers: call by call, then the seven results. -/

@[expose] public section

set_option maxRecDepth 16384

noncomputable section

namespace Cert.KernelIdeal.Result

open Cert.KernelIdeal Cert.KernelIdeal.Gen Cert.KernelIdeal.Run Idealize.ShloMosaic Idealize.ShloMosaic.TcCoe Idealize.SL.Sem
open Cert.Products Cert.Spec

variable (m : (ℓ : Loc nD τ sig) → Buf (Elt Ideal) ℓ)

/-! ## What no call and no host operation writes stays as given -/

/-- The references that something before a given stage writes. -/
def untouched2 (r : Ref sig .tc) : Prop := r ∉ hostOps0_W ∧ r ∉ ([main_v5_0, main_v5_1] : List (Ref sig .tc))
instance (r) : Decidable (untouched2 r) := by unfold untouched2; infer_instance
theorem X2_arg (c : Dev nD) (r : Ref sig .tc) (h : untouched2 r) : X2 m c r = m (c, Proc.devRef .tc r) :=
  (X2_of m c r h.2).trans (X1_of m c r h.1)

def untouched4 (r : Ref sig .tc) : Prop := untouched2 r ∧ r ∉ hostOps1_W ∧ r ∉ ([main_v10_1, main_v10_0] : List (Ref sig .tc))
instance (r) : Decidable (untouched4 r) := by unfold untouched4; infer_instance
theorem X4_arg (c : Dev nD) (r : Ref sig .tc) (h : untouched4 r) : X4 m c r = m (c, Proc.devRef .tc r) :=
  (X4_of m c r h.2.2).trans ((X3_of m c r h.2.1).trans (X2_arg m c r h.1))

def untouched6 (r : Ref sig .tc) : Prop := untouched4 r ∧ r ∉ hostOps2_W ∧ r ∉ ([main_v13] : List (Ref sig .tc))
instance (r) : Decidable (untouched6 r) := by unfold untouched6; infer_instance
theorem X6_arg (c : Dev nD) (r : Ref sig .tc) (h : untouched6 r) : X6 m c r = m (c, Proc.devRef .tc r) :=
  (X6_of m c r h.2.2).trans ((X5_of m c r h.2.1).trans (X4_arg m c r h.1))

def untouched8 (r : Ref sig .tc) : Prop := untouched6 r ∧ r ∉ hostOps3_W ∧ r ∉ ([main_v16] : List (Ref sig .tc))
instance (r) : Decidable (untouched8 r) := by unfold untouched8; infer_instance
theorem X8_arg (c : Dev nD) (r : Ref sig .tc) (h : untouched8 r) : X8 m c r = m (c, Proc.devRef .tc r) :=
  (X8_of m c r h.2.2).trans ((X7_of m c r h.2.1).trans (X6_arg m c r h.1))

def untouched10 (r : Ref sig .tc) : Prop := untouched8 r ∧ r ∉ hostOps4_W ∧ r ∉ ([main_v19] : List (Ref sig .tc))
instance (r) : Decidable (untouched10 r) := by unfold untouched10; infer_instance
theorem X10_arg (c : Dev nD) (r : Ref sig .tc) (h : untouched10 r) : X10 m c r = m (c, Proc.devRef .tc r) :=
  (X10_of m c r h.2.2).trans ((X9_of m c r h.2.1).trans (X8_arg m c r h.1))

/-! ## After the call that quantises the incoming gradient -/

theorem X2_dyc (c : Dev nD) : X2 m c main_v5_0 = (inp m c).dyc := by
  refine (X2_v5_0 m c).trans ((Quant.arr2 (tcV (X1 m)) c).trans ?_)
  exact congrArg₂ codes (X1_v0 m c) (X1_v4 m c)

theorem X2_most (c : Dev nD) : most (a := 8) (b := 4096) (X2 m c main_v5_1) = maxAbs (inp m c).dy := by
  refine eq_of_bounds fun z => ?_
  rw [most_le, maxAbs_le, X2_v5_1, Quant.arr3]
  refine (Quant.arr3_le (tcV (X1 m)) c z).trans ?_
  have h : tcV (X1 m) c main_v0 = (inp m c).dy := X1_v0 m c
  rw [h]

/-! ## After the call that makes the gradient of both halves -/

theorem X3_grad (c : Dev nD) : Dh.grad (tcV (X3 m)) c = (inp m c).dH := by
  have h0 : tcV (X3 m) c main_v5_0 = (inp m c).dyc := (X3_of m c main_v5_0 (by decide)).trans (X2_dyc m c)
  have h1 : tcV (X3 m) c main_arg8 = (inp m c).w2 := (X3_of m c main_arg8 (by decide)).trans (X2_arg m c main_arg8 (by decide))
  have h2 : tcV (X3 m) c main_v9 (ix1 0) = (inp m c).dys * (inp m c).w2s :=
    ops1_0 (X2 m c) _ _ (congrFun (X2_arg m c main_arg12 (by decide)) ix0) (congrFun (X2_arg m c main_arg9 (by decide)) ix0)
  have h3 : tcV (X3 m) c main_v1 = (inp m c).gu := (X3_of m c main_v1 (by decide)).trans ((X2_of m c main_v1 (by decide)).trans (X1_v1 m c))
  unfold Dh.grad
  rw [h0, h1, h2, h3]
  rfl

theorem X4_dHc (c : Dev nD) : X4 m c main_v10_0 = (inp m c).dHc := by
  refine (X4_v10_0 m c).trans ((Dh.arr (tcV (X3 m)) c).trans ?_)
  refine congrArg₂ codes (X3_grad m c) ?_
  exact (ops1_1 (X2 m c)).trans (congrFun (X2_arg m c main_arg15 (by decide)) ix0)

theorem X4_most (c : Dev nD) : most (a := 8) (b := 1024) (X4 m c main_v10_1) = maxAbs (inp m c).dH := by
  refine eq_of_bounds fun z => ?_
  rw [most_le, maxAbs_le, X4_v10_1, Dh.arr5]
  refine (Dh.arr5_le (tcV (X3 m)) c z).trans ?_
  rw [X3_grad]

/-! ## After the calls that make the gradients of weights and input -/

theorem X6_dW2 (c : Dev nD) : X6 m c main_v13 = (inp m c).dW2 := by
  have h0 : tcV (X5 m) c main_v3 = (inp m c).a := (X5_of m c main_v3 (by decide)).trans ((X4_of m c main_v3 (by decide)).trans
    ((X3_of m c main_v3 (by decide)).trans ((X2_of m c main_v3 (by decide)).trans (X1_v3 m c))))
  have h1 : tcV (X5 m) c main_v5_0 = (inp m c).dyc := (X5_of m c main_v5_0 (by decide)).trans ((X4_of m c main_v5_0 (by decide)).trans
    ((X3_of m c main_v5_0 (by decide)).trans (X2_dyc m c)))
  have h2 : tcV (X5 m) c main_v12 (ix1 0) = (inp m c).asc * (inp m c).dys :=
    ops2_0 (X4 m c) _ _ (congrFun (X4_arg m c main_arg5 (by decide)) ix0) (congrFun (X4_arg m c main_arg12 (by decide)) ix0)
  refine (X6_v13 m c).trans ((Dw2.arr (tcV (X5 m)) c).trans ?_)
  rw [h0, h1, h2]
  rfl

theorem X6_dHc (c : Dev nD) : X6 m c main_v10_0 = (inp m c).dHc :=
  (X6_of m c main_v10_0 (by decide)).trans ((X5_of m c main_v10_0 (by decide)).trans (X4_dHc m c))

theorem X8_dW1 (c : Dev nD) : X8 m c main_v16 = (inp m c).dW1 := by
  have h0 : tcV (X7 m) c main_v2 = (inp m c).x := (X7_of m c main_v2 (by decide)).trans ((X6_of m c main_v2 (by decide)).trans
    ((X5_of m c main_v2 (by decide)).trans ((X4_of m c main_v2 (by decide)).trans
    ((X3_of m c main_v2 (by decide)).trans ((X2_of m c main_v2 (by decide)).trans (X1_v2 m c))))))
  have h1 : tcV (X7 m) c main_v10_0 = (inp m c).dHc := (X7_of m c main_v10_0 (by decide)).trans (X6_dHc m c)
  have h2 : tcV (X7 m) c main_v15 (ix1 0) = (inp m c).xs * (inp m c).dhs :=
    ops3_0 (X6 m c) _ _ (congrFun (X6_arg m c main_arg3 (by decide)) ix0) (congrFun (X6_arg m c main_arg14 (by decide)) ix0)
  refine (X8_v16 m c).trans ((Dw1.arr (tcV (X7 m)) c).trans ?_)
  rw [h0, h1, h2]
  rfl

theorem X8_dHc (c : Dev nD) : X8 m c main_v10_0 = (inp m c).dHc :=
  (X8_of m c main_v10_0 (by decide)).trans ((X7_of m c main_v10_0 (by decide)).trans (X6_dHc m c))

theorem X10_dX (c : Dev nD) : X10 m c main_v19 = (inp m c).dX := by
  have h0 : tcV (X9 m) c main_v10_0 = (inp m c).dHc := (X9_of m c main_v10_0 (by decide)).trans (X8_dHc m c)
  have h1 : tcV (X9 m) c main_arg6 = (inp m c).w1 := (X9_of m c main_arg6 (by decide)).trans (X8_arg m c main_arg6 (by decide))
  have h2 : tcV (X9 m) c main_v18 (ix1 0) = (inp m c).dhs * (inp m c).w1s :=
    ops4_0 (X8 m c) _ _ (congrFun (X8_arg m c main_arg14 (by decide)) ix0) (congrFun (X8_arg m c main_arg7 (by decide)) ix0)
  refine (X10_v19 m c).trans ((Dx.arr (tcV (X9 m)) c).trans ?_)
  rw [h0, h1, h2]
  rfl

/-! ## At the end -/

/-- What nothing after the second call writes. -/
theorem X10_of4 (c : Dev nD) (r : Ref sig .tc) (h : r ∉ hostOps2_W ∧ r ∉ ([main_v13] : List (Ref sig .tc)) ∧ r ∉ hostOps3_W ∧ r ∉ ([main_v16] : List (Ref sig .tc))
    ∧ r ∉ hostOps4_W ∧ r ∉ ([main_v19] : List (Ref sig .tc))) : X10 m c r = X4 m c r :=
  (X10_of m c r h.2.2.2.2.2).trans ((X9_of m c r h.2.2.2.2.1).trans ((X8_of m c r h.2.2.2.1).trans
    ((X7_of m c r h.2.2.1).trans ((X6_of m c r h.2.1).trans (X5_of m c r h.1)))))

theorem dX (c : Dev nD) : X11 m c main_v19 = (inp m c).dX := (X11_of m c main_v19 (by decide)).trans (X10_dX m c)

theorem dW1 (c : Dev nD) : X11 m c main_v16 = (inp m c).dW1 :=
  (X11_of m c main_v16 (by decide)).trans ((X10_of m c main_v16 (by decide)).trans ((X9_of m c main_v16 (by decide)).trans (X8_dW1 m c)))

theorem dW2 (c : Dev nD) : X11 m c main_v13 = (inp m c).dW2 :=
  (X11_of m c main_v13 (by decide)).trans ((X10_of m c main_v13 (by decide)).trans ((X9_of m c main_v13 (by decide)).trans
    ((X8_of m c main_v13 (by decide)).trans ((X7_of m c main_v13 (by decide)).trans (X6_dW2 m c)))))

theorem dyc (c : Dev nD) : X11 m c main_v5_0 = (inp m c).dyc :=
  (X11_of m c main_v5_0 (by decide)).trans ((X10_of4 m c main_v5_0 (by decide)).trans ((X4_of m c main_v5_0 (by decide)).trans
    ((X3_of m c main_v5_0 (by decide)).trans (X2_dyc m c))))

theorem dHc (c : Dev nD) : X11 m c main_v10_0 = (inp m c).dHc :=
  (X11_of m c main_v10_0 (by decide)).trans ((X10_of4 m c main_v10_0 (by decide)).trans (X4_dHc m c))

theorem newH1 (c : Dev nD) : X11 m c main_v23 = (inp m c).newH1 := by
  have h : X10 m c main_v5_1 = X2 m c main_v5_1 := (X10_of4 m c main_v5_1 (by decide)).trans ((X4_of m c main_v5_1 (by decide)).trans (X3_of m c main_v5_1 (by decide)))
  have h' : X10 m c main_arg10 = (inp m c).h1 := X10_arg m c main_arg10 (by decide)
  refine (ops5_h1 (X10 m c)).trans ?_
  rw [h, X2_most, h']
  rfl

theorem newH2 (c : Dev nD) : X11 m c main_v27 = (inp m c).newH2 := by
  have h : X10 m c main_v10_1 = X4 m c main_v10_1 := X10_of4 m c main_v10_1 (by decide)
  have h' : X10 m c main_arg11 = (inp m c).h2 := X10_arg m c main_arg11 (by decide)
  refine (ops5_h2 (X10 m c)).trans ?_
  rw [h, X4_most, h']
  rfl

end Cert.KernelIdeal.Result

end
-- ==== Proof.KRun.lean ====
module

public import proofs.«01_k».proof.Proof.KVal

/-! One run of the whole kernel over exact numbers: its seven results, and its arguments as they were. -/

@[expose] public section

noncomputable section

namespace Cert.KernelIdeal.Result

open Cert.KernelIdeal Cert.KernelIdeal.Gen Cert.KernelIdeal.Run Idealize.ShloMosaic Idealize.ShloMosaic.TcCoe Idealize.SL.Sem
open Cert.Products Cert.Spec

variable (m : (ℓ : Loc nD τ sig) → Buf (Elt Ideal) ℓ)

/-- The kernel ends with the seven results of the specification. -/
theorem results (ρ : Dev nD → PrngReg) : θ_run defs (onTc (τ := τ) (main (F := Ideal))) ⟨m, fun _ => 0, ρ⟩ (fun r => ∀ c : Dev nD,
      r.2.mem ((c.tc : Thread nD τ).loc main_v19) = (inp m c).dX
      ∧ r.2.mem ((c.tc : Thread nD τ).loc main_v16) = (inp m c).dW1
      ∧ r.2.mem ((c.tc : Thread nD τ).loc main_v13) = (inp m c).dW2
      ∧ r.2.mem ((c.tc : Thread nD τ).loc main_v5_0) = (inp m c).dyc
      ∧ r.2.mem ((c.tc : Thread nD τ).loc main_v10_0) = (inp m c).dHc
      ∧ r.2.mem ((c.tc : Thread nD τ).loc main_v23) = (inp m c).newH1
      ∧ r.2.mem ((c.tc : Thread nD τ).loc main_v27) = (inp m c).newH2) := by
  refine (θ_run _ _ _).mono (fun r h c => ?_) (run m ρ)
  exact ⟨(h.1 c main_v19 rfl).trans (dX m c), (h.1 c main_v16 rfl).trans (dW1 m c), (h.1 c main_v13 rfl).trans (dW2 m c),
    (h.1 c main_v5_0 rfl).trans (dyc m c), (h.1 c main_v10_0 rfl).trans (dHc m c), (h.1 c main_v23 rfl).trans (newH1 m c),
    (h.1 c main_v27 rfl).trans (newH2 m c)⟩

end Cert.KernelIdeal.Result

end
-- ==== Proof.RefReads.lean ====
module

public import proofs.«01_k».proof.Proof.Gen.RefIdeal.Frame
public import proofs.«01_k».proof.Proof.Spec
public import Idealize.ShloMosaic.Lib.Pipeline.ReadBack

/-! What the reference's one grid point finds in its arrays, over exact numbers: the arguments, with the leading axis of
extent one dropped, and the eight scales one after the other. -/

@[expose] public section

set_option maxRecDepth 16384

noncomputable section

namespace Cert.RefIdeal.Result

open Cert.RefIdeal Cert.RefIdeal.Gen Idealize.ShloMosaic Idealize.ShloMosaic.TcCoe Idealize.SL.Sem
open Cert.Products Cert.Spec

variable (m : (ℓ : Loc nD τ sig) → Buf (Elt Ideal) ℓ)

/-- The one point stages the arrays whole. -/
theorem idx : ∀ t : Fin cfg0.N, win0_1.index t = ![0, 0] ∧ win0_2.index t = ![0, 0] ∧ win0_3.index t = ![0, 0] ∧ win0_4.index t = ![0, 0]
  ∧ win0_5.index t = ![0, 0] ∧ win0_6.index t = ![0, 0] ∧ win0_7.index t = ![0, 0] ∧ win0_8.index t = ![0, 0] ∧ win0_9.index t = ![0, 0]
  ∧ win0_10.index t = ![0, 0] ∧ win0_11.index t = ![0, 0] ∧ win0_12.index t = ![0, 0] ∧ win0_13.index t = ![0, 0] :=
  (by decide +kernel : ∀ t : Fin grid0.N, _)

/-- What the call finds in an array: the host operations before it. -/
theorem V_eq (c : Dev nD) (b : Ref sig .tc) : V m c b = StableHlo.after hostOps0 (fun b => m (c, b)) (Proc.devRef .tc b) := by
  simp only [V, V0, List.flatten_cons, List.flatten_nil, List.append_nil]

/-- The incoming gradient. -/
theorem v9 (c : Dev nD) : V m c main_v9 = flat (m (c, main_arg0)) := by
  funext y
  rw [V_eq]
  entry_read
  unfold flat
  pointwise

/-- The saved projections. -/
theorem v10 (c : Dev nD) : V m c main_v10 = flat (m (c, main_arg1)) := by
  funext y
  rw [V_eq]
  entry_read
  unfold flat
  pointwise

/-- The saved input codes. -/
theorem v11 (c : Dev nD) : V m c main_v11 = flat (m (c, main_arg2)) := by
  funext y
  rw [V_eq]
  entry_read
  unfold flat
  pointwise

/-- The saved activation codes. -/
theorem v12 (c : Dev nD) : V m c main_v12 = flat (m (c, main_arg4)) := by
  funext y
  rw [V_eq]
  entry_read
  unfold flat
  pointwise

/-- The weights. -/
theorem w1 (c : Dev nD) : V m c main_arg6 = m (c, main_arg6) := by
  rw [V_eq]
  entry_read
  rfl

/-- The weights. -/
theorem w2 (c : Dev nD) : V m c main_arg8 = m (c, main_arg8) := by
  rw [V_eq]
  entry_read
  rfl

/-- The eight scales are put together from what the host operations before leave. -/
theorem after8 (σ : Valuation τ sig (Elt Ideal)) : StableHlo.after hostOps0 σ main_v8
    = concatenate S8 0 [⟨S1, (StableHlo.after (hostOps0.take 8) σ main_v0 : (⟨S1, .f32⟩ : BufTy).Contents (Elt Ideal))⟩,
      ⟨S1, (StableHlo.after (hostOps0.take 8) σ main_v1 : (⟨S1, .f32⟩ : BufTy).Contents (Elt Ideal))⟩,
      ⟨S1, (StableHlo.after (hostOps0.take 8) σ main_v2 : (⟨S1, .f32⟩ : BufTy).Contents (Elt Ideal))⟩,
      ⟨S1, (StableHlo.after (hostOps0.take 8) σ main_v3 : (⟨S1, .f32⟩ : BufTy).Contents (Elt Ideal))⟩,
      ⟨S1, (StableHlo.after (hostOps0.take 8) σ main_v4 : (⟨S1, .f32⟩ : BufTy).Contents (Elt Ideal))⟩,
      ⟨S1, (StableHlo.after (hostOps0.take 8) σ main_v5 : (⟨S1, .f32⟩ : BufTy).Contents (Elt Ideal))⟩,
      ⟨S1, (StableHlo.after (hostOps0.take 8) σ main_v6 : (⟨S1, .f32⟩ : BufTy).Contents (Elt Ideal))⟩,
      ⟨S1, (StableHlo.after (hostOps0.take 8) σ main_v7 : (⟨S1, .f32⟩ : BufTy).Contents (Elt Ideal))⟩]
      concatenates_S1_S1_S1_S1_S1_S1_S1_S1_S8_d0 := by
  rw [show StableHlo.after hostOps0 σ = StableHlo.after (hostOps0.drop 8) (StableHlo.after (hostOps0.take 8) σ) from rfl]
  generalize StableHlo.after (hostOps0.take 8) σ = σ'
  simp only [hostOps0, List.drop_succ_cons, List.drop_zero, StableHlo.after_cons, StableHlo.after_nil]
  rw [StableHlo.reshape_result_ne, StableHlo.reshape_result_ne, StableHlo.reshape_result_ne, StableHlo.reshape_result_ne, StableHlo.nary_result]
  · rfl
  all_goals decide

/-! ## The scales, one by one -/

theorem s0 (c : Dev nD) : StableHlo.after (hostOps0.take 8) (fun b => m (c, b)) main_v0 (ix1 0) = m (c, main_arg3) ix0 := by
  simp only [hostOps0, List.take_succ_cons, List.take_zero]
  entry_read
  pointwise

theorem s1 (c : Dev nD) : StableHlo.after (hostOps0.take 8) (fun b => m (c, b)) main_v1 (ix1 0) = m (c, main_arg5) ix0 := by
  simp only [hostOps0, List.take_succ_cons, List.take_zero]
  entry_read
  pointwise

theorem s2 (c : Dev nD) : StableHlo.after (hostOps0.take 8) (fun b => m (c, b)) main_v2 (ix1 0) = m (c, main_arg7) ix0 := by
  simp only [hostOps0, List.take_succ_cons, List.take_zero]
  entry_read
  pointwise

theorem s3 (c : Dev nD) : StableHlo.after (hostOps0.take 8) (fun b => m (c, b)) main_v3 (ix1 0) = m (c, main_arg9) ix0 := by
  simp only [hostOps0, List.take_succ_cons, List.take_zero]
  entry_read
  pointwise

theorem s4 (c : Dev nD) : StableHlo.after (hostOps0.take 8) (fun b => m (c, b)) main_v4 (ix1 0) = m (c, main_arg12) ix0 := by
  simp only [hostOps0, List.take_succ_cons, List.take_zero]
  entry_read
  pointwise

theorem s5 (c : Dev nD) : StableHlo.after (hostOps0.take 8) (fun b => m (c, b)) main_v5 (ix1 0) = m (c, main_arg13) ix0 := by
  simp only [hostOps0, List.take_succ_cons, List.take_zero]
  entry_read
  pointwise

theorem s6 (c : Dev nD) : StableHlo.after (hostOps0.take 8) (fun b => m (c, b)) main_v6 (ix1 0) = m (c, main_arg14) ix0 := by
  simp only [hostOps0, List.take_succ_cons, List.take_zero]
  entry_read
  pointwise

theorem s7 (c : Dev nD) : StableHlo.after (hostOps0.take 8) (fun b => m (c, b)) main_v7 (ix1 0) = m (c, main_arg15) ix0 := by
  simp only [hostOps0, List.take_succ_cons, List.take_zero]
  entry_read
  pointwise

theorem v8_0 (c : Dev nD) : V m c main_v8 (ix1 0) = m (c, main_arg3) ix0 := by
  rw [V_eq, after8]
  pointwise
  exact s0 m c

theorem v8_1 (c : Dev nD) : V m c main_v8 (ix1 1) = m (c, main_arg5) ix0 := by
  rw [V_eq, after8]
  pointwise
  exact s1 m c

theorem v8_2 (c : Dev nD) : V m c main_v8 (ix1 2) = m (c, main_arg7) ix0 := by
  rw [V_eq, after8]
  pointwise
  exact s2 m c

theorem v8_3 (c : Dev nD) : V m c main_v8 (ix1 3) = m (c, main_arg9) ix0 := by
  rw [V_eq, after8]
  pointwise
  exact s3 m c

theorem v8_4 (c : Dev nD) : V m c main_v8 (ix1 4) = m (c, main_arg12) ix0 := by
  rw [V_eq, after8]
  pointwise
  exact s4 m c

theorem v8_5 (c : Dev nD) : V m c main_v8 (ix1 5) = m (c, main_arg13) ix0 := by
  rw [V_eq, after8]
  pointwise
  exact s5 m c

theorem v8_6 (c : Dev nD) : V m c main_v8 (ix1 6) = m (c, main_arg14) ix0 := by
  rw [V_eq, after8]
  pointwise
  exact s6 m c

theorem v8_7 (c : Dev nD) : V m c main_v8 (ix1 7) = m (c, main_arg15) ix0 := by
  rw [V_eq, after8]
  pointwise
  exact s7 m c

/-! ## The staged blocks -/

theorem blk1 (c : Dev nD) (t : Fin cfg0.N) : iblk m c 1 t = flat (m (c, main_arg0)) := by
  rw [← v9 m c]
  funext y
  blk_ext [iblk, idx t]

theorem blk2 (c : Dev nD) (t : Fin cfg0.N) : iblk m c 2 t = flat (m (c, main_arg1)) := by
  rw [← v10 m c]
  funext y
  blk_ext [iblk, idx t]

theorem blk3 (c : Dev nD) (t : Fin cfg0.N) : iblk m c 3 t = flat (m (c, main_arg2)) := by
  rw [← v11 m c]
  funext y
  blk_ext [iblk, idx t]

theorem blk4 (c : Dev nD) (t : Fin cfg0.N) : iblk m c 4 t = flat (m (c, main_arg4)) := by
  rw [← v12 m c]
  funext y
  blk_ext [iblk, idx t]

theorem blk5 (c : Dev nD) (t : Fin cfg0.N) : iblk m c 5 t = m (c, main_arg6) := by
  rw [← w1 m c]
  funext y
  blk_ext [iblk, idx t]

theorem blk6 (c : Dev nD) (t : Fin cfg0.N) : iblk m c 6 t = m (c, main_arg8) := by
  rw [← w2 m c]
  funext y
  blk_ext [iblk, idx t]

end Cert.RefIdeal.Result

end
-- ==== Proof.RefPay.lean ====
module

public import proofs.«01_k».proof.Proof.Gen.RefIdeal.Skeleton
public import proofs.«01_k».proof.Proof.Spec

/-! What the reference's body computes, over exact numbers. -/

@[expose] public section

set_option maxRecDepth 16384

noncomputable section

namespace Cert.RefIdeal.Result

open Cert.RefIdeal Cert.RefIdeal.Gen Idealize.ShloMosaic
open Cert.Products Cert.Spec

/-- The codes of the incoming gradient. -/
theorem pay4_eq (s : EReal) (x : Vec Ideal S4608x4096 .bf16) : k0_pay4 (F := Ideal) s x = codes x s := by
  funext y
  unfold codes clip
  pointwise [k0_pay4, k0_pay3]

/-- The incoming gradient, widened. -/
theorem pay3_eq (x : Vec Ideal S4608x4096 .bf16) : k0_pay3 (F := Ideal) x = x := by
  funext y
  pointwise [k0_pay3]

/-- The incoming gradient of the activations. -/
theorem pay5_apply (s s' i : EReal) (x : Vec Ideal S4608x4096 .bf16) (w : Vec Ideal S14336x4096 .fp8e4m3) (y : S4608x14336.Idx) :
    k0_pay5 (F := Ideal) s s' i x w y = gradA (k0_pay4 (F := Ideal) i x) w (s' * s) y := by
  unfold gradA prodNT
  pointwise [k0_pay5]

/-- The gradient of the gate. -/
theorem pay8_apply (s s' i : EReal) (x : Vec Ideal S4608x4096 .bf16) (w : Vec Ideal S14336x4096 .fp8e4m3) (g u : Vec Ideal S4608x14336 .bf16) (y : S4608x14336.Idx) :
    k0_pay8 (F := Ideal) s s' i x w g u y = gradGate (k0_pay5 (F := Ideal) s s' i x w y) (g y) (u y) := by
  unfold gradGate
  pointwise [k0_pay8, k0_pay7, k0_pay6]

/-- The gradient of both halves. -/
theorem pay10_apply (s s' i : EReal) (x : Vec Ideal S4608x4096 .bf16) (w : Vec Ideal S14336x4096 .fp8e4m3) (g u : Vec Ideal S4608x14336 .bf16) (y : S4608x28672.Idx) :
    k0_pay10 (F := Ideal) (k0_pay7 (F := Ideal) g) (k0_pay8 (F := Ideal) s s' i x w g u) (k0_pay9 (F := Ideal) s s' i x w g) y
      = if h : (y 1).val < 14336 then gradGate (k0_pay5 (F := Ideal) s s' i x w (ix2 (y 0) ⟨(y 1).val, h⟩)) (g (ix2 (y 0) ⟨(y 1).val, h⟩)) (u (ix2 (y 0) ⟨(y 1).val, h⟩))
        else gradUp (k0_pay5 (F := Ideal) s s' i x w (ix2 (y 0) ⟨(y 1).val - 14336, by have : (y 1).val < 28672 := (y 1).isLt; omega⟩))
          (g (ix2 (y 0) ⟨(y 1).val - 14336, by have : (y 1).val < 28672 := (y 1).isLt; omega⟩)) := by
  pointwise [k0_pay10]
  simp only [pay8_apply]
  unfold gradUp
  split
  · rfl
  · pointwise [k0_pay9, k0_pay7, k0_pay6]

/-- The codes of both halves. -/
theorem pay11_eq (i : EReal) (a b d : FVec Ideal S4608x14336 .f32) : k0_pay11 (F := Ideal) i a b d = codes (k0_pay10 (F := Ideal) a b d) i := by
  funext y
  unfold codes clip
  pointwise [k0_pay11]

/-- The gradient of the input. -/
theorem pay12_eq (s s' i : EReal) (a b d : FVec Ideal S4608x14336 .f32) (w : Vec Ideal S4096x28672 .fp8e4m3) :
    k0_pay12 (F := Ideal) s s' i a b d w = prodNT (k0_pay11 (F := Ideal) i a b d) w (s' * s) := by
  funext y
  unfold prodNT
  pointwise [k0_pay12]

/-- The gradient of the first weights. -/
theorem pay13_eq (s s' i : EReal) (a b d : FVec Ideal S4608x14336 .f32) (x : Vec Ideal S4608x4096 .fp8e4m3) :
    k0_pay13 (F := Ideal) s s' i a b d x = prodTN x (k0_pay11 (F := Ideal) i a b d) (s * s') := by
  funext y
  unfold prodTN
  pointwise [k0_pay13]

/-- The gradient of the second weights. -/
theorem pay14_eq (s s' : EReal) (q : FVec Ideal S4608x4096 .fp8e5m2) (x : Vec Ideal S4608x14336 .fp8e4m3) :
    k0_pay14 (F := Ideal) s s' q x = prodTN x q (s * s') := by
  funext y
  unfold prodTN
  pointwise [k0_pay14]

/-- The least number of the greatest-value search. -/
theorem negInf : Ideal.ofBits .f32 0xFF800000#32 = ⊥ := by
  rfl

/-- The greatest-value search over both axes finds the greatest absolute value. -/
theorem fold_mag {a b : ℕ} (v : Arr a b) :
    Finset.fold max (Ideal.ofBits .f32 0xFF800000#32) (fun x : Fin a × Fin b => mag (v (ix2 x.1 x.2))) Finset.univ = maxAbs v := by
  refine eq_of_bounds fun z => ?_
  rw [maxAbs_le, Finset.fold_max_le]
  refine ⟨fun h i => ?_, fun h => ⟨negInf ▸ bot_le, fun x _ => h (ix2 x.1 x.2)⟩⟩
  rw [eq_ix2 i]
  exact h.2 (i 0, i 1) (Finset.mem_univ _)

/-- The greatest absolute value of the incoming gradient. -/
theorem pay1_apply (v : FVec Ideal S4608x4096 .f32) (y : S1x1.Idx) : k0_pay1 (F := Ideal) v y = maxAbs v := by
  pointwise [k0_pay1]
  exact fold_mag v

/-- The greatest absolute value of the gradient of both halves. -/
theorem pay2_apply (v : FVec Ideal S4608x28672 .f32) (y : S1x1.Idx) : k0_pay2 (F := Ideal) v y = maxAbs v := by
  pointwise [k0_pay2]
  exact fold_mag v

end Cert.RefIdeal.Result

end
-- ==== Proof.RefVal.lean ====
module

public import proofs.«01_k».proof.Proof.RefReads
public import proofs.«01_k».proof.Proof.RefPay

/-! What the reference leaves in its results, over exact numbers. -/

@[expose] public section

set_option maxRecDepth 16384

noncomputable section

namespace Cert.RefIdeal.Result

open Cert.RefIdeal Cert.RefIdeal.Gen Idealize.ShloMosaic Idealize.ShloMosaic.TcCoe Idealize.SL.Sem
open Cert.Products Cert.Spec

/-- A rectangle's index, placed. -/
theorem unit_idx {s : Shape} (off size : Fin s.rank → ℕ) (inb) (j : (Rect.unit (s := s) off size inb).shape.Idx) (a : Fin s.rank) :
    ((Rect.unit off size inb).idx j a : ℕ) = off a + j a := by
  show off a + 1 * (j a : ℕ) = _
  omega

/-- The one point stages the scales whole. -/
theorem idx0 : ∀ t : Fin cfg0.N, win0_0.index t = ![0] := (by decide +kernel : ∀ t : Fin grid0.N, _)

variable (m : (ℓ : Loc nD τ sig) → Buf (Elt Ideal) ℓ)

/-- What the reference is given on a core. -/
def inp (c : Dev nD) : Inputs where
  dy := flat (m (c, main_arg0))
  gu := flat (m (c, main_arg1))
  x := flat (m (c, main_arg2))
  xs := m (c, main_arg3) ix0
  a := flat (m (c, main_arg4))
  asc := m (c, main_arg5) ix0
  w1 := m (c, main_arg6)
  w1s := m (c, main_arg7) ix0
  w2 := m (c, main_arg8)
  w2s := m (c, main_arg9) ix0
  h1 := m (c, main_arg10)
  h2 := m (c, main_arg11)
  dys := m (c, main_arg12) ix0
  dyi := m (c, main_arg13) ix0
  dhs := m (c, main_arg14) ix0
  dhi := m (c, main_arg15) ix0

theorem ld0 (c : Dev nD) (t : Fin cfg0.N) (h) : View.ld (iblk m c 0 t) (Rect.unit (s := S8) ![0] ![1] inb_S8_S1_0) (Shape.Idx.first h) = (inp m c).xs := by
  rw [View.ld_apply]
  refine Eq.trans ?_ (v8_0 m c)
  blk_ext [iblk, unit_idx, idx0 t] <;> rfl

theorem ld1 (c : Dev nD) (t : Fin cfg0.N) (h) : View.ld (iblk m c 0 t) (Rect.unit (s := S8) ![1] ![1] inb_S8_S1_1) (Shape.Idx.first h) = (inp m c).asc := by
  rw [View.ld_apply]
  refine Eq.trans ?_ (v8_1 m c)
  blk_ext [iblk, unit_idx, idx0 t] <;> rfl

theorem ld2 (c : Dev nD) (t : Fin cfg0.N) (h) : View.ld (iblk m c 0 t) (Rect.unit (s := S8) ![2] ![1] inb_S8_S1_2) (Shape.Idx.first h) = (inp m c).w1s := by
  rw [View.ld_apply]
  refine Eq.trans ?_ (v8_2 m c)
  blk_ext [iblk, unit_idx, idx0 t] <;> rfl

theorem ld3 (c : Dev nD) (t : Fin cfg0.N) (h) : View.ld (iblk m c 0 t) (Rect.unit (s := S8) ![3] ![1] inb_S8_S1_3) (Shape.Idx.first h) = (inp m c).w2s := by
  rw [View.ld_apply]
  refine Eq.trans ?_ (v8_3 m c)
  blk_ext [iblk, unit_idx, idx0 t] <;> rfl

theorem ld4 (c : Dev nD) (t : Fin cfg0.N) (h) : View.ld (iblk m c 0 t) (Rect.unit (s := S8) ![4] ![1] inb_S8_S1_4) (Shape.Idx.first h) = (inp m c).dys := by
  rw [View.ld_apply]
  refine Eq.trans ?_ (v8_4 m c)
  blk_ext [iblk, unit_idx, idx0 t] <;> rfl

theorem ld5 (c : Dev nD) (t : Fin cfg0.N) (h) : View.ld (iblk m c 0 t) (Rect.unit (s := S8) ![5] ![1] inb_S8_S1_5) (Shape.Idx.first h) = (inp m c).dyi := by
  rw [View.ld_apply]
  refine Eq.trans ?_ (v8_5 m c)
  blk_ext [iblk, unit_idx, idx0 t] <;> rfl

theorem ld6 (c : Dev nD) (t : Fin cfg0.N) (h) : View.ld (iblk m c 0 t) (Rect.unit (s := S8) ![6] ![1] inb_S8_S1_6) (Shape.Idx.first h) = (inp m c).dhs := by
  rw [View.ld_apply]
  refine Eq.trans ?_ (v8_6 m c)
  blk_ext [iblk, unit_idx, idx0 t] <;> rfl

theorem ld7 (c : Dev nD) (t : Fin cfg0.N) (h) : View.ld (iblk m c 0 t) (Rect.unit (s := S8) ![7] ![1] inb_S8_S1_7) (Shape.Idx.first h) = (inp m c).dhi := by
  rw [View.ld_apply]
  refine Eq.trans ?_ (v8_7 m c)
  blk_ext [iblk, unit_idx, idx0 t] <;> rfl

/-- The gate half of the saved projections. -/
theorem ldG (c : Dev nD) (t : Fin cfg0.N) : View.ld (iblk m c 2 t) (Rect.unit (s := S4608x28672) ![0, 0] ![4608, 14336] inb_S4608x28672_S4608x14336_0_0)
    = fun i => (inp m c).gu (ix2 (i 0) ⟨(i 1).val, by have : (i 1).val < 14336 := (i 1).isLt; omega⟩) := by
  rw [blk2]
  funext i
  rw [View.ld_apply]
  unfold inp
  blk_ext [unit_idx]

/-- The up half of the saved projections. -/
theorem ldU (c : Dev nD) (t : Fin cfg0.N) : View.ld (iblk m c 2 t) (Rect.unit (s := S4608x28672) ![0, 14336] ![4608, 14336] inb_S4608x28672_S4608x14336_0_14336)
    = fun i => (inp m c).gu (ix2 (i 0) ⟨(i 1).val + 14336, by have : (i 1).val < 14336 := (i 1).isLt; omega⟩) := by
  rw [blk2]
  funext i
  rw [View.ld_apply]
  unfold inp
  blk_ext [unit_idx]

/-- A staged block, as the argument. -/
theorem ib1 (c : Dev nD) (t : Fin cfg0.N) : iblk m c 1 t = (inp m c).dy := blk1 m c t

/-- A staged block, as the argument. -/
theorem ib3 (c : Dev nD) (t : Fin cfg0.N) : iblk m c 3 t = (inp m c).x := blk3 m c t

/-- A staged block, as the argument. -/
theorem ib4 (c : Dev nD) (t : Fin cfg0.N) : iblk m c 4 t = (inp m c).a := blk4 m c t

/-- A staged block, as the argument. -/
theorem ib5 (c : Dev nD) (t : Fin cfg0.N) : iblk m c 5 t = (inp m c).w1 := blk5 m c t

/-- A staged block, as the argument. -/
theorem ib6 (c : Dev nD) (t : Fin cfg0.N) : iblk m c 6 t = (inp m c).w2 := blk6 m c t

/-- The gradient of both halves, from the staged blocks. -/
theorem halves (c : Dev nD) (g u : Vec Ideal S4608x14336 .bf16)
    (hg : g = fun i => (inp m c).gu (ix2 (i 0) ⟨(i 1).val, by have : (i 1).val < 14336 := (i 1).isLt; omega⟩))
    (hu : u = fun i => (inp m c).gu (ix2 (i 0) ⟨(i 1).val + 14336, by have : (i 1).val < 14336 := (i 1).isLt; omega⟩)) :
    k0_pay10 (F := Ideal) (k0_pay7 (F := Ideal) g)
      (k0_pay8 (F := Ideal) (inp m c).w2s (inp m c).dys (inp m c).dyi (inp m c).dy (inp m c).w2 g u)
      (k0_pay9 (F := Ideal) (inp m c).w2s (inp m c).dys (inp m c).dyi (inp m c).dy (inp m c).w2 g) = (inp m c).dH := by
  subst hg hu
  funext y
  rw [pay10_apply]
  unfold Inputs.dH gradH gateAt upAt Inputs.dyc
  simp only [pay5_apply, pay4_eq]
  rfl

/-- The codes of the incoming gradient. -/
theorem arr10 (c : Dev nD) : (dats m 0 c).arrAt 10 cfg0.N = (inp m c).dyc := by
  refine (dats m 0 c).arrAt_eq_of_covers 10 _ (by decide +kernel) fun t hf y => ?_
  blk_simp
  rw [after0_10]
  unfold outsAt0
  frame_out
  simp only [read_unread_whole]
  rw [ld5, ib1, pay4_eq]
  refine congrArg (inp m c).dyc ?_
  blk_ext [idx t]

/-- The codes of the gradient of both halves. -/
theorem arr11 (c : Dev nD) : (dats m 0 c).arrAt 11 cfg0.N = (inp m c).dHc := by
  refine (dats m 0 c).arrAt_eq_of_covers 11 _ (by decide +kernel) fun t hf y => ?_
  blk_simp
  rw [after0_11]
  unfold outsAt0
  frame_out
  simp only [read_unread_whole]
  rw [ld7, ld3, ld4, ld5, pay11_eq]
  rw [ib1, ib6]
  erw [halves m c _ _ (ldG m c t) (ldU m c t)]
  refine congrArg (inp m c).dHc ?_
  blk_ext [idx t]

/-- The greatest absolute value of the gradient of both halves. -/
theorem arr13 (c : Dev nD) : (dats m 0 c).arrAt 13 cfg0.N = fun _ => maxAbs (inp m c).dH := by
  refine (dats m 0 c).arrAt_eq_of_covers 13 _ (by decide +kernel) fun t hf y => ?_
  blk_simp
  rw [after0_13]
  unfold outsAt0
  frame_out
  simp only [read_unread_whole]
  rw [ld3, ld4, ld5, pay2_apply]
  rw [ib1, ib6]
  erw [halves m c _ _ (ldG m c t) (ldU m c t)]

/-- The greatest absolute value of the incoming gradient. -/
theorem arr12 (c : Dev nD) : (dats m 0 c).arrAt 12 cfg0.N = fun _ => maxAbs (inp m c).dy := by
  refine (dats m 0 c).arrAt_eq_of_covers 12 _ (by decide +kernel) fun t hf y => ?_
  blk_simp
  rw [after0_12]
  unfold outsAt0
  frame_out
  simp only [read_unread_whole]
  rw [ib1, pay1_apply, pay3_eq]

/-- The gradient of the input. -/
theorem arr7 (c : Dev nD) : (dats m 0 c).arrAt 7 cfg0.N = (inp m c).dX := by
  refine (dats m 0 c).arrAt_eq_of_covers 7 _ (by decide +kernel) fun t hf y => ?_
  blk_simp
  rw [after0_7]
  unfold outsAt0
  frame_out
  simp only [read_unread_whole]
  rw [ld7, ld3, ld4, ld5, ld2, ld6, pay12_eq, pay11_eq]
  rw [ib1, ib6, ib5]
  erw [halves m c _ _ (ldG m c t) (ldU m c t)]
  refine congrArg (inp m c).dX ?_
  blk_ext [idx t]

/-- The gradient of the first weights. -/
theorem arr8 (c : Dev nD) : (dats m 0 c).arrAt 8 cfg0.N = (inp m c).dW1 := by
  refine (dats m 0 c).arrAt_eq_of_covers 8 _ (by decide +kernel) fun t hf y => ?_
  blk_simp
  rw [after0_8]
  unfold outsAt0
  frame_out
  simp only [read_unread_whole]
  rw [ld7, ld3, ld4, ld5, ld0, ld6, pay13_eq, pay11_eq]
  rw [ib1, ib6, ib3]
  erw [halves m c _ _ (ldG m c t) (ldU m c t)]
  refine congrArg (inp m c).dW1 ?_
  blk_ext [idx t]

/-- The gradient of the second weights. -/
theorem arr9 (c : Dev nD) : (dats m 0 c).arrAt 9 cfg0.N = (inp m c).dW2 := by
  refine (dats m 0 c).arrAt_eq_of_covers 9 _ (by decide +kernel) fun t hf y => ?_
  blk_simp
  rw [after0_9]
  unfold outsAt0
  frame_out
  simp only [read_unread_whole]
  rw [ld4, ld5, ld1, pay14_eq]
  rw [ib1, ib4, pay4_eq]
  refine congrArg (inp m c).dW2 ?_
  blk_ext [idx t]

end Cert.RefIdeal.Result

end
-- ==== Proof.RefRun.lean ====
module

public import proofs.«01_k».proof.Proof.RefVal
public import Idealize.ShloMosaic.Lib.Claim

/-! What a run of the reference leaves in all its results, over exact numbers. -/

@[expose] public section

set_option maxRecDepth 16384

noncomputable section

namespace Cert.RefIdeal.Result

open Cert.RefIdeal Cert.RefIdeal.Gen Idealize.ShloMosaic Idealize.ShloMosaic.TcCoe Idealize.SL.Sem
open Cert.Products Cert.Spec

/-- The first history, from what the host operations after the call find. -/
theorem tail1 (σ : Valuation τ sig (Elt Ideal)) : StableHlo.after hostOps1 σ main_v16 = hist (σ main_v13_5 (ix2 0 0)) (σ main_arg10) := by
  funext y
  entry_read
  unfold hist
  pointwise
  rfl

/-- The second history, from what the host operations after the call find. -/
theorem tail2 (σ : Valuation τ sig (Elt Ideal)) : StableHlo.after hostOps1 σ main_v19 = hist (σ main_v13_6 (ix2 0 0)) (σ main_arg11) := by
  funext y
  entry_read
  unfold hist
  pointwise
  rfl

variable (m : (ℓ : Loc nD τ sig) → Buf (Elt Ideal) ℓ)

/-- The first history. -/
theorem v16 (c : Dev nD) : Pipeline.afterTail₀ cfgs (dats m) 0 (V0 m) [hostOps1] c main_v16 = (inp m c).newH1 := by
  unfold Pipeline.afterTail₀
  simp only [List.flatten_cons, List.flatten_nil, List.append_nil]
  rw [tail1]
  refine congrArg₂ hist ?_ ?_
  · exact congrFun ((Pipeline.withArrays_arr spec0 (by decide) c (V0 m c) (fun w => (dats m 0 c).arrAt w cfg0.N) 12).trans (arr12 m c)) (ix2 0 0)
  · exact (Pipeline.withArrays_of_ne spec0 c (V0 m c) _ main_arg10 (by decide)).trans (V_main_arg10 m c)

/-- The second history. -/
theorem v19 (c : Dev nD) : Pipeline.afterTail₀ cfgs (dats m) 0 (V0 m) [hostOps1] c main_v19 = (inp m c).newH2 := by
  unfold Pipeline.afterTail₀
  simp only [List.flatten_cons, List.flatten_nil, List.append_nil]
  rw [tail2]
  refine congrArg₂ hist ?_ ?_
  · exact congrFun ((Pipeline.withArrays_arr spec0 (by decide) c (V0 m c) (fun w => (dats m 0 c).arrAt w cfg0.N) 13).trans (arr13 m c)) (ix2 0 0)
  · exact (Pipeline.withArrays_of_ne spec0 c (V0 m c) _ main_arg11 (by decide)).trans (V_main_arg11 m c)

/-- All seven results after a run. -/
theorem run (ρ : Dev nD → PrngReg) : θ_run defs (onTc (τ := τ) (main (F := Ideal))) ⟨m, fun _ => 0, ρ⟩ (fun r => ∀ c : Dev nD,
      r.2.mem ((c.tc : Thread nD τ).loc main_v13_0) = (inp m c).dX
      ∧ r.2.mem ((c.tc : Thread nD τ).loc main_v13_1) = (inp m c).dW1
      ∧ r.2.mem ((c.tc : Thread nD τ).loc main_v13_2) = (inp m c).dW2
      ∧ r.2.mem ((c.tc : Thread nD τ).loc main_v13_3) = (inp m c).dyc
      ∧ r.2.mem ((c.tc : Thread nD τ).loc main_v13_4) = (inp m c).dHc
      ∧ r.2.mem ((c.tc : Thread nD τ).loc main_v16) = (inp m c).newH1
      ∧ r.2.mem ((c.tc : Thread nD τ).loc main_v19) = (inp m c).newH2) := by
  refine (θ_run _ _ _).mono (fun r h c => ?_) (run_main m ρ)
  exact ⟨((h c).1 7).trans (arr7 m c), ((h c).1 8).trans (arr8 m c), ((h c).1 9).trans (arr9 m c), ((h c).1 10).trans (arr10 m c),
    ((h c).1 11).trans (arr11 m c), ((h c).2 main_v16 (Pipeline.mem_restRefs_of _ rfl (by decide))).trans (v16 m c),
    ((h c).2 main_v19 (Pipeline.mem_restRefs_of _ rfl (by decide))).trans (v19 m c)⟩

end Cert.RefIdeal.Result

end
-- ==== Proof.Pow2.lean ====
module

public import proofs.«01_k».proof.Proof.Gen.Quantdy.Launch

/-! How a scale comes out of a history of greatest absolute values: the exponent of the history's greatest value over the
greatest 8-bit number, 0 for an all-zero history, and the power of two with that exponent. The bit operations are the ones that
`frexp` and `ldexp` stand for. -/

@[expose] public section

noncomputable section

namespace Cert.Pow2

open Idealize.ShloMosaic

variable {F : FTy → Type} [BitOps F]

/-- The shape of a number. -/
abbrev S0 : Shape := ⟨0, ![]⟩

/-- The shape of a history. -/
abbrev S16 : Shape := ⟨1, ![16]⟩

/-- The exponent that `frexp` takes off a number, by its bits. -/
def frexp (x : Vec F S0 .f32) : Vec F S0 .i32 :=
  let v0 : Vec F S0 .i32 := bitcastToInt x
  let v1 : Vec F S0 .i32 := andi v0 (constantI S0 32 2139095040#32)
  let v2 : Vec F S0 .i1 := (cmpi .eq) v1 (constantI S0 32 0#32)
  let v3 : Vec F S0 .i32 := andi v0 (constantI S0 32 2147483648#32)
  let v4 : Vec F S0 .i32 := select v2 v3 v0
  let v5 : Vec F S0 .f32 := (bitcastToFloat .f32) v4
  let v6 : Vec F S0 .i32 := bitcastToInt v5
  let v8 : Vec F S0 .i32 := Host.shrui v6 (constantI S0 32 23#32)
  let v9 : Vec F S0 .i32 := andi v8 (constantI S0 32 255#32)
  let v11 : Vec F S0 .i1 := (cmpi .eq) v9 (constantI S0 32 0#32)
  let v12 : Vec F S0 .i1 := (cmpi .eq) v9 (constantI S0 32 255#32)
  let v17 : Vec F S0 .i1 := ori v12 v11
  let v19 : Vec F S0 .i32 := subi v9 (constantI S0 32 126#32)
  select v17 (constantI S0 32 0#32) v19

/-- A number with a power of two multiplied on by `ldexp`, by its bits. -/
def ldexp (x : Vec F S0 .f32) (e : Vec F S0 .i32) : Vec F S0 .f32 :=
  let v0 : Vec F S0 .i32 := bitcastToInt x
  let v1 : Vec F S0 .i32 := andi v0 (constantI S0 32 2139095040#32)
  let v2 : Vec F S0 .i1 := (cmpi .eq) v1 (constantI S0 32 0#32)
  let v3 : Vec F S0 .i32 := andi v0 (constantI S0 32 2147483648#32)
  let v4 : Vec F S0 .i32 := select v2 v3 v0
  let v5 : Vec F S0 .f32 := (bitcastToFloat .f32) v4
  let v6 : Vec F S0 .i32 := bitcastToInt v5
  let v7 : Vec F S0 .i32 := andi v6 (constantI S0 32 2147483648#32)
  let v8 : Vec F S0 .i32 := Host.shrui v6 (constantI S0 32 23#32)
  let v9 : Vec F S0 .i32 := andi v8 (constantI S0 32 255#32)
  let v10 : Vec F S0 .i32 := andi v6 (constantI S0 32 8388607#32)
  let v11 : Vec F S0 .i1 := (cmpi .eq) v9 (constantI S0 32 0#32)
  let v12 : Vec F S0 .i1 := (cmpi .eq) v9 (constantI S0 32 255#32)
  let v13 : Vec F S0 .i32 := (fun lo x hi => minsi (maxsi x lo) hi) (constantI S0 32 4294966784#32) e (constantI S0 32 512#32)
  let v15 : Vec F S0 .i32 := addi v9 v13
  let v16 : Vec F S0 .i32 := ori v7 (constantI S0 32 2139095040#32)
  let v18 : Vec F S0 .i32 := Host.shli v15 (constantI S0 32 23#32)
  let v19 : Vec F S0 .i32 := ori v7 v18
  let v20 : Vec F S0 .i32 := ori v19 v10
  let v21 : Vec F S0 .i1 := (cmpi .sle) v15 (constantI S0 32 0#32)
  let v22 : Vec F S0 .i1 := (cmpi .sge) v15 (constantI S0 32 255#32)
  let v23 : Vec F S0 .i32 := select v22 v16 v20
  let v24 : Vec F S0 .i32 := select v21 v7 v23
  let v25 : Vec F S0 .i32 := select v11 v7 v24
  let v26 : Vec F S0 .i32 := select v12 v6 v25
  (bitcastToFloat .f32) v26

/-- The greatest value of a history. -/
def amax (h : Vec F S16 .f32) : Vec F S0 .f32 :=
  Host.reduce FloatOps.maximumf h (constant S0 .f32 0xFF800000#32) (by decide : S16.ReducesTo [0] S0) (by decide)

/-- The exponent of a history's scale. -/
def expo (h : Vec F S16 .f32) : Vec F S0 .i32 :=
  select (cmpf .oeq (amax h) (constant S0 .f32 0x00000000#32)) (constantI S0 32 0#32) (frexp (mulf (amax h) (constant S0 .f32 0x37924925#32)))

/-- A power of two. -/
def pow2 (e : Vec F S0 .i32) : Vec F S0 .f32 := ldexp (constant S0 .f32 0x3F800000#32) e

/-- The scale of a history. -/
def scale (h : Vec F S16 .f32) : Vec F S0 .f32 := pow2 (expo h)

/-- The inverse scale of a history. -/
def invScale (h : Vec F S16 .f32) : Vec F S0 .f32 := pow2 (negi (expo h))

/-- The 8-bit codes of an array: times the inverse scale, clipped, rounded. -/
def codes {s : Shape} (v : Vec F s .bf16) (i : F .f32) : Vec F s .fp8e5m2 :=
  truncf .fp8e5m2 (minimumf (broadcast s (Scalar.ofBits .f32 0x47600000#32)) (maximumf (broadcast s (Scalar.ofBits .f32 0xC7600000#32))
    (mulf (extf .f32 v (by decide)) (broadcast s i)))) (by decide)

/-- A code is of its own entry only. -/
theorem codes_congr {s t : Shape} (v : Vec F s .bf16) (w : Vec F t .bf16) (i : F .f32) (y : s.Idx) (z : t.Idx) (h : v y = w z) : codes v i y = codes w i z := by
  show _ = _
  unfold codes truncf minimumf maximumf mulf extf broadcast
  simp only [h]

end Cert.Pow2

end
-- ==== Proof.QReads.lean ====
module

public import proofs.«01_k».proof.Proof.Pow2
public import proofs.«01_k».proof.Proof.Gen.Quantdy.Frame
public import Idealize.ShloMosaic.Lib.Pipeline.ReadBack

/-! What the host operations before the call leave: the two scales, the inverse scale and the array to quantise. -/

@[expose] public section

set_option maxRecDepth 16384

noncomputable section

namespace Cert.Quantdy.Result

open Cert.Quantdy Cert.Quantdy.Gen Idealize.ShloMosaic Idealize.ShloMosaic.TcCoe Idealize.SL.Sem
open Cert.Pow2

variable {F : FTy → Type} [BitOps F]
variable (m : (ℓ : Loc nD τ sig) → Buf (Elt F) ℓ)

/-- The first scale. -/
theorem v11 (c : Dev nD) : V m c main_v11 = scale (m (c, main_arg1)) := by
  simp only [V, List.flatten_cons, List.flatten_nil, List.append_nil, StableHlo.after_append]
  after_results_simp
  sl_kernel_rfl

/-- The second scale. -/
theorem v14 (c : Dev nD) : V m c main_v14 = scale (m (c, main_arg2)) := by
  simp only [V, List.flatten_cons, List.flatten_nil, List.append_nil, StableHlo.after_append]
  after_results_simp
  sl_kernel_rfl

/-- The inverse of the first scale. -/
theorem v17 (c : Dev nD) : V m c main_v17 = shapeCast S1 (invScale (m (c, main_arg1))) (by decide) := by
  simp only [V, List.flatten_cons, List.flatten_nil, List.append_nil, StableHlo.after_append]
  after_results_simp
  sl_kernel_rfl

/-- The array to quantise. -/
theorem v0 (c : Dev nD) : V m c main_v0 = shapeCast S4608x4096 (s := S1x4608x4096) (m (c, main_arg0)) (by decide) := by
  simp only [V, List.flatten_cons, List.flatten_nil, List.append_nil, StableHlo.after_append]
  after_results_simp
  sl_kernel_rfl

end Cert.Quantdy.Result

end
-- ==== Proof.QVal.lean ====
module

public import proofs.«01_k».proof.Proof.QReads
public import Idealize.ShloMosaic.Lib.Pointwise
public import Idealize.ShloMosaic.Lib.Pipeline.ValueKit

/-! What the call leaves in its codes, and a run of the program in its three results. -/

@[expose] public section

set_option maxRecDepth 16384

noncomputable section

namespace Cert.Quantdy.Result

open Cert.Quantdy Cert.Quantdy.Gen Idealize.ShloMosaic Idealize.ShloMosaic.TcCoe Idealize.SL.Sem
open Cert.Pow2

variable {F : FTy → Type} [BitOps F]
variable (m : (ℓ : Loc nD τ sig) → Buf (Elt F) ℓ)

/-- The array to quantise, without its leading axis. -/
def dy (c : Dev nD) : Vec F S4608x4096 .bf16 := shapeCast S4608x4096 (s := S1x4608x4096) (m (c, main_arg0)) (by decide)

/-- Which block each window stages at a grid point. -/
theorem idx : ∀ t : Fin cfg0.N, win0_0.index t = ![0] ∧ win0_1.index t = ![t.val, 0] ∧ win0_2.index t = ![t.val, 0]
    ∧ win0_3.index t = ![0, 0] := (by decide +kernel : ∀ t : Fin grid0.N, _)

/-- One block's codes. -/
theorem pay4 (v : Vec F S256x4096 .bf16) (i : F .f32) : k0_pay4 v i = codes v i := by
  funext y
  unfold codes
  pointwise [k0_pay4, k0_pay1]

/-- The staged inverse scale. -/
theorem blk0 (c : Dev nD) (t : Fin cfg0.N) (i : S1.Idx) : iblk m c 0 t i = invScale (m (c, main_arg1)) ix0 := by
  refine Eq.trans (b := V m c main_v17 (ix1 0)) ?_ ?_
  · blk_ext [iblk, idx t]
  · rw [v17]; rfl

/-- The staged block. -/
theorem blk1 (c : Dev nD) (t : Fin cfg0.N) (y : S256x4096.Idx) : iblk m c 1 t y = dy m c (((View.whole main_v18_0).slice (win0_2.rect t)).emb y) := by
  refine Eq.trans ?_ (congrFun (v0 m c) _)
  blk_ext [iblk, idx t]

/-- The codes after the run. -/
theorem arr2 (c : Dev nD) : (dats m 0 c).arrAt 2 cfg0.N = codes (dy m c) (invScale (m (c, main_arg1)) ix0) := by
  refine (dats m 0 c).arrAt_eq_of_covers 2 _ (by decide +kernel) fun t hf y => ?_
  blk_simp
  rw [after0_2]
  by_cases h0 : t.val % 18 = 0
  · rw [outsAt0_A m c t h0]
    frame_out
    rw [View.ld_apply, blk0, pay4]
    exact codes_congr _ _ _ _ _ (blk1 m c t y)
  · rw [outsAt0_B m c t h0]
    frame_out
    rw [View.ld_apply, blk0, pay4]
    exact codes_congr _ _ _ _ _ (blk1 m c t y)

/-- A run: the codes, the two scales, and the arguments as they were. -/
theorem run (ρ : Dev nD → PrngReg) : θ_run defs (onTc (τ := τ) (main (F := F))) ⟨m, fun _ => 0, ρ⟩ (fun r => ∀ c : Dev nD,
      r.2.mem ((c.tc : Thread nD τ).loc main_v18_0) = codes (dy m c) (invScale (m (c, main_arg1)) ix0)
      ∧ r.2.mem ((c.tc : Thread nD τ).loc main_v11) = scale (m (c, main_arg1))
      ∧ r.2.mem ((c.tc : Thread nD τ).loc main_v14) = scale (m (c, main_arg2))) := by
  refine (θ_run _ _ _).mono (fun r h c => ?_) (run_main m ρ)
  exact ⟨((h c).1 2).trans (arr2 m c), ((h c).2 main_v11 (Pipeline.mem_restRefs_of _ rfl (by decide))).trans (v11 m c),
    ((h c).2 main_v14 (Pipeline.mem_restRefs_of _ rfl (by decide))).trans (v14 m c)⟩

end Cert.Quantdy.Result

end
-- ==== Proof.QrefReads.lean ====
module

public import proofs.«01_k».proof.Proof.Pow2
public import proofs.«01_k».proof.Proof.Gen.Quantref.Frame
public import Idealize.ShloMosaic.Lib.Pipeline.ReadBack

/-! What the host operations before the call leave: the two scales, the inverse scale and the array to quantise. -/

@[expose] public section

set_option maxRecDepth 16384

noncomputable section

namespace Cert.Quantref.Result

open Cert.Quantref Cert.Quantref.Gen Idealize.ShloMosaic Idealize.ShloMosaic.TcCoe Idealize.SL.Sem
open Cert.Pow2

variable {F : FTy → Type} [BitOps F]
variable (m : (ℓ : Loc nD τ sig) → Buf (Elt F) ℓ)

/-- The first scale. -/
theorem v5 (c : Dev nD) : V m c main_v5 = scale (m (c, main_arg1)) := by
  simp only [V, List.flatten_cons, List.flatten_nil, List.append_nil, StableHlo.after_append]
  after_results_simp
  sl_kernel_rfl

/-- The second scale. -/
theorem v13 (c : Dev nD) : V m c main_v13 = scale (m (c, main_arg2)) := by
  simp only [V, List.flatten_cons, List.flatten_nil, List.append_nil, StableHlo.after_append]
  after_results_simp
  sl_kernel_rfl

/-- The inverse of the first scale. -/
theorem v17 (c : Dev nD) : V m c main_v17 = shapeCast S1 (invScale (m (c, main_arg1))) (by decide) := by
  simp only [V, List.flatten_cons, List.flatten_nil, List.append_nil, StableHlo.after_append]
  after_results_simp
  sl_kernel_rfl

/-- The array to quantise. -/
theorem v16 (c : Dev nD) : V m c main_v16 = shapeCast S4608x4096 (s := S1x4608x4096) (m (c, main_arg0)) (by decide) := by
  simp only [V, List.flatten_cons, List.flatten_nil, List.append_nil, StableHlo.after_append]
  after_results_simp
  sl_kernel_rfl

end Cert.Quantref.Result

end
-- ==== Proof.QrefVal.lean ====
module

public import proofs.«01_k».proof.Proof.QrefReads
public import Idealize.ShloMosaic.Lib.Pointwise
public import Idealize.ShloMosaic.Lib.Pipeline.ValueKit
public import Idealize.ShloMosaic.Lib.Pipeline.ReadBack

/-! What the call leaves in its codes, and a run of the program in its three results. -/

@[expose] public section

set_option maxRecDepth 16384

noncomputable section

namespace Cert.Quantref.Result

open Cert.Quantref Cert.Quantref.Gen Idealize.ShloMosaic Idealize.ShloMosaic.TcCoe Idealize.SL.Sem
open Cert.Pow2

variable {F : FTy → Type} [BitOps F]
variable (m : (ℓ : Loc nD τ sig) → Buf (Elt F) ℓ)

/-- The array to quantise, without its leading axis. -/
def dy (c : Dev nD) : Vec F S4608x4096 .bf16 := shapeCast S4608x4096 (s := S1x4608x4096) (m (c, main_arg0)) (by decide)

/-- The one point stages the arrays whole. -/
theorem idx : ∀ t : Fin cfg0.N, win0_0.index t = ![0] ∧ win0_1.index t = ![0, 0] ∧ win0_2.index t = ![0, 0] :=
  (by decide +kernel : ∀ t : Fin grid0.N, _)

/-- One block's codes. -/
theorem pay1 (v : Vec F S4608x4096 .bf16) (i : F .f32) : k0_pay1 v i = codes v i := by
  funext y
  unfold codes
  pointwise [k0_pay1]

/-- The staged inverse scale. -/
theorem blk0 (c : Dev nD) (t : Fin cfg0.N) (i : S1.Idx) : iblk m c 0 t i = invScale (m (c, main_arg1)) ix0 := by
  refine Eq.trans (b := V m c main_v17 (ix1 0)) ?_ ?_
  · blk_ext [iblk, idx t]
  · rw [v17]; rfl

/-- The staged block. -/
theorem blk1 (c : Dev nD) (t : Fin cfg0.N) (y : S4608x4096.Idx) : iblk m c 1 t y = dy m c (((View.whole main_v18).slice (win0_2.rect t)).emb y) := by
  refine Eq.trans ?_ (congrFun (v16 m c) _)
  blk_ext [iblk, idx t]

/-- The codes after the run. -/
theorem arr2 (c : Dev nD) : (dats m 0 c).arrAt 2 cfg0.N = codes (dy m c) (invScale (m (c, main_arg1)) ix0) := by
  refine (dats m 0 c).arrAt_eq_of_covers 2 _ (by decide +kernel) fun t hf y => ?_
  blk_simp
  rw [after0_2]
  unfold outsAt0
  frame_out
  simp only [read_unread_whole]
  rw [blk0, pay1]
  exact codes_congr _ _ _ _ _ (blk1 m c t y)

/-- A run: the codes, the two scales, and the arguments as they were. -/
theorem run (ρ : Dev nD → PrngReg) : θ_run defs (onTc (τ := τ) (main (F := F))) ⟨m, fun _ => 0, ρ⟩ (fun r => ∀ c : Dev nD,
      r.2.mem ((c.tc : Thread nD τ).loc main_v18) = codes (dy m c) (invScale (m (c, main_arg1)) ix0)
      ∧ r.2.mem ((c.tc : Thread nD τ).loc main_v5) = scale (m (c, main_arg1))
      ∧ r.2.mem ((c.tc : Thread nD τ).loc main_v13) = scale (m (c, main_arg2))) := by
  refine (θ_run _ _ _).mono (fun r h c => ?_) (run_main m ρ)
  exact ⟨((h c).1 2).trans (arr2 m c), ((h c).2 main_v5 (Pipeline.mem_restRefs_of _ rfl (by decide))).trans (v5 m c),
    ((h c).2 main_v13 (Pipeline.mem_restRefs_of _ rfl (by decide))).trans (v13 m c)⟩

end Cert.Quantref.Result

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.RefIdeal
public import proofs.«01_k».proof.Proof.Gen.RefIdeal.Skeleton
public import proofs.«01_k».proof.Proof.Gen.RefIdeal.Launch
public import proofs.«01_k».proof.Proof.Gen.RefIdeal.Points
public import proofs.«01_k».proof.Proof.Gen.RefIdeal.Frame
public import proofs.«01_k».proof.Proof.Gen.Quantdy
public import proofs.«01_k».proof.Proof.Gen.Quantdy.Skeleton
public import proofs.«01_k».proof.Proof.Gen.Quantdy.Launch
public import proofs.«01_k».proof.Proof.Gen.Quantdy.Points
public import proofs.«01_k».proof.Proof.Gen.Quantdy.Frame
public import proofs.«01_k».proof.Proof.Gen.Quantref
public import proofs.«01_k».proof.Proof.Gen.Quantref.Skeleton
public import proofs.«01_k».proof.Proof.Gen.Quantref.Launch
public import proofs.«01_k».proof.Proof.Gen.Quantref.Points
public import proofs.«01_k».proof.Proof.Gen.Quantref.Frame
public import proofs.«01_k».proof.Proof.FrameWords
public import proofs.«01_k».proof.Proof.KRun
public import proofs.«01_k».proof.Proof.RefRun
public import proofs.«01_k».proof.Proof.QVal
public import proofs.«01_k».proof.Proof.QrefVal
public import Idealize.ShloMosaic.Adequacy
public import Idealize.ShloMosaic.Init

@[expose] public section

noncomputable section

namespace Cert.Proof

open Idealize.ShloMosaic Idealize.SL.Sem Cert.Kernel

/-- What both programs are given is the same. -/
theorem same_inputs (m : (ℓ : Loc Cert.KernelIdeal.nD Cert.KernelIdeal.τ Cert.KernelIdeal.sig) → Buf (Elt Ideal) ℓ)
    (m' : (ℓ : Loc Cert.RefIdeal.nD Cert.RefIdeal.τ Cert.RefIdeal.sig) → Buf (Elt Ideal) ℓ) (c : Dev Cert.KernelIdeal.nD)
    (e0 : m' ((c.tc : Thread Cert.RefIdeal.nD Cert.RefIdeal.τ).loc Cert.RefIdeal.main_arg0) = m ((c.tc : Thread Cert.KernelIdeal.nD Cert.KernelIdeal.τ).loc Cert.KernelIdeal.main_arg0))
    (e1 : m' ((c.tc : Thread Cert.RefIdeal.nD Cert.RefIdeal.τ).loc Cert.RefIdeal.main_arg1) = m ((c.tc : Thread Cert.KernelIdeal.nD Cert.KernelIdeal.τ).loc Cert.KernelIdeal.main_arg1))
    (e2 : m' ((c.tc : Thread Cert.RefIdeal.nD Cert.RefIdeal.τ).loc Cert.RefIdeal.main_arg2) = m ((c.tc : Thread Cert.KernelIdeal.nD Cert.KernelIdeal.τ).loc Cert.KernelIdeal.main_arg2))
    (e3 : m' ((c.tc : Thread Cert.RefIdeal.nD Cert.RefIdeal.τ).loc Cert.RefIdeal.main_arg3) = m ((c.tc : Thread Cert.KernelIdeal.nD Cert.KernelIdeal.τ).loc Cert.KernelIdeal.main_arg3))
    (e4 : m' ((c.tc : Thread Cert.RefIdeal.nD Cert.RefIdeal.τ).loc Cert.RefIdeal.main_arg4) = m ((c.tc : Thread Cert.KernelIdeal.nD Cert.KernelIdeal.τ).loc Cert.KernelIdeal.main_arg4))
    (e5 : m' ((c.tc : Thread Cert.RefIdeal.nD Cert.RefIdeal.τ).loc Cert.RefIdeal.main_arg5) = m ((c.tc : Thread Cert.KernelIdeal.nD Cert.KernelIdeal.τ).loc Cert.KernelIdeal.main_arg5))
    (e6 : m' ((c.tc : Thread Cert.RefIdeal.nD Cert.RefIdeal.τ).loc Cert.RefIdeal.main_arg6) = m ((c.tc : Thread Cert.KernelIdeal.nD Cert.KernelIdeal.τ).loc Cert.KernelIdeal.main_arg6))
    (e7 : m' ((c.tc : Thread Cert.RefIdeal.nD Cert.RefIdeal.τ).loc Cert.RefIdeal.main_arg7) = m ((c.tc : Thread Cert.KernelIdeal.nD Cert.KernelIdeal.τ).loc Cert.KernelIdeal.main_arg7))
    (e8 : m' ((c.tc : Thread Cert.RefIdeal.nD Cert.RefIdeal.τ).loc Cert.RefIdeal.main_arg8) = m ((c.tc : Thread Cert.KernelIdeal.nD Cert.KernelIdeal.τ).loc Cert.KernelIdeal.main_arg8))
    (e9 : m' ((c.tc : Thread Cert.RefIdeal.nD Cert.RefIdeal.τ).loc Cert.RefIdeal.main_arg9) = m ((c.tc : Thread Cert.KernelIdeal.nD Cert.KernelIdeal.τ).loc Cert.KernelIdeal.main_arg9))
    (e10 : m' ((c.tc : Thread Cert.RefIdeal.nD Cert.RefIdeal.τ).loc Cert.RefIdeal.main_arg10) = m ((c.tc : Thread Cert.KernelIdeal.nD Cert.KernelIdeal.τ).loc Cert.KernelIdeal.main_arg10))
    (e11 : m' ((c.tc : Thread Cert.RefIdeal.nD Cert.RefIdeal.τ).loc Cert.RefIdeal.main_arg11) = m ((c.tc : Thread Cert.KernelIdeal.nD Cert.KernelIdeal.τ).loc Cert.KernelIdeal.main_arg11))
    (e12 : m' ((c.tc : Thread Cert.RefIdeal.nD Cert.RefIdeal.τ).loc Cert.RefIdeal.main_arg12) = m ((c.tc : Thread Cert.KernelIdeal.nD Cert.KernelIdeal.τ).loc Cert.KernelIdeal.main_arg12))
    (e13 : m' ((c.tc : Thread Cert.RefIdeal.nD Cert.RefIdeal.τ).loc Cert.RefIdeal.main_arg13) = m ((c.tc : Thread Cert.KernelIdeal.nD Cert.KernelIdeal.τ).loc Cert.KernelIdeal.main_arg13))
    (e14 : m' ((c.tc : Thread Cert.RefIdeal.nD Cert.RefIdeal.τ).loc Cert.RefIdeal.main_arg14) = m ((c.tc : Thread Cert.KernelIdeal.nD Cert.KernelIdeal.τ).loc Cert.KernelIdeal.main_arg14))
    (e15 : m' ((c.tc : Thread Cert.RefIdeal.nD Cert.RefIdeal.τ).loc Cert.RefIdeal.main_arg15) = m ((c.tc : Thread Cert.KernelIdeal.nD Cert.KernelIdeal.τ).loc Cert.KernelIdeal.main_arg15)) :
    Cert.RefIdeal.Result.inp m' c = Cert.KernelIdeal.Result.inp m c := by
  show Cert.Spec.Inputs.mk _ _ _ _ _ _ _ _ _ _ _ _ _ _ _ _ = Cert.Spec.Inputs.mk _ _ _ _ _ _ _ _ _ _ _ _ _ _ _ _
  congr 1
  · exact congrArg Cert.Spec.flat e0
  · exact congrArg Cert.Spec.flat e1
  · exact congrArg Cert.Spec.flat e2
  · exact congrFun e3 ix0
  · exact congrArg Cert.Spec.flat e4
  · exact congrFun e5 ix0
  · exact congrFun e7 ix0
  · exact congrFun e9 ix0
  · exact congrFun e12 ix0
  · exact congrFun e13 ix0
  · exact congrFun e14 ix0
  · exact congrFun e15 ix0

/-- Kernel and reference leave the same seven arrays. -/
theorem tie : letI := Cert.KernelIdeal.Gen.facts; letI := Cert.RefIdeal.Gen.facts; Cert.algebraic_KernelIdeal_RefIdeal := by
  letI := Cert.KernelIdeal.Gen.facts
  letI := Cert.RefIdeal.Gen.facts
  intro m g m' g' _ hm
  refine ⟨fun c => (Cert.KernelIdeal.Result.inp m c).dX, fun c => (Cert.KernelIdeal.Result.inp m c).dW1, fun c => (Cert.KernelIdeal.Result.inp m c).dW2,
    fun c => (Cert.KernelIdeal.Result.inp m c).dyc, fun c => (Cert.KernelIdeal.Result.inp m c).dHc, fun c => (Cert.KernelIdeal.Result.inp m c).newH1,
    fun c => (Cert.KernelIdeal.Result.inp m c).newH2, ?_, ?_⟩
  · refine (θ_run _ _ _).mono (fun r h c => ?_) (θ_run_and (Cert.KernelIdeal.Result.results m g) (Cert.KernelIdeal.Run.frame m g))
    obtain ⟨r0, r1, r2, r3, r4, r5, r6⟩ := h.1 c
    exact ⟨r0, r1, r2, r3, r4, r5, r6, h.2.1 c⟩
  · refine (θ_run _ _ _).mono (fun r h c => ?_) (θ_run_and (Cert.RefIdeal.Result.run m' g') (Cert.RefIdeal.Gen.frame m' g'))
    obtain ⟨r0, r1, r2, r3, r4, r5, r6⟩ := h.1 c
    obtain ⟨e0, e1, e2, e3, e4, e5, e6, e7, e8, e9, e10, e11, e12, e13, e14, e15⟩ := hm c
    have e := same_inputs m m' c e0 e1 e2 e3 e4 e5 e6 e7 e8 e9 e10 e11 e12 e13 e14 e15
    exact ⟨r0.trans (congrArg _ e), r1.trans (congrArg _ e), r2.trans (congrArg _ e), r3.trans (congrArg _ e), r4.trans (congrArg _ e),
      r5.trans (congrArg _ e), r6.trans (congrArg _ e), h.2.1 c⟩

/-- The host code and the first call, and their reference, leave the same codes and the same two scales, to the bit. -/
theorem tie_quant : letI := Cert.Quantdy.Gen.facts; letI := Cert.Quantref.Gen.facts; Cert.bitexact_Quantdy_Quantref := by
  letI := Cert.Quantdy.Gen.facts
  letI := Cert.Quantref.Gen.facts
  intro m g m' g' _ hm
  refine ⟨fun c => Cert.Pow2.codes (Cert.Quantdy.Result.dy m c) (Cert.Pow2.invScale (m (c, Proc.tc.devRef Cert.Quantdy.main_arg1)) ix0),
    fun c => Cert.Pow2.scale (m (c, Proc.tc.devRef Cert.Quantdy.main_arg1)), fun c => Cert.Pow2.scale (m (c, Proc.tc.devRef Cert.Quantdy.main_arg2)), ?_, ?_⟩
  · refine (θ_run _ _ _).mono (fun r h c => ?_) (θ_run_and (Cert.Quantdy.Result.run m g) (Cert.Quantdy.Gen.frame m g))
    obtain ⟨r0, r1, r2⟩ := h.1 c
    exact ⟨r0, r1, r2, h.2.1 c⟩
  · refine (θ_run _ _ _).mono (fun r h c => ?_) (θ_run_and (Cert.Quantref.Result.run m' g') (Cert.Quantref.Gen.frame m' g'))
    obtain ⟨r0, r1, r2⟩ := h.1 c
    obtain ⟨e0, e1, e2⟩ := hm c
    have d : Cert.Quantref.Result.dy m' c = Cert.Quantdy.Result.dy m c :=
      congrArg (fun v : Vec Bits Cert.Quantref.S1x4608x4096 .bf16 => shapeCast Cert.Quantref.S4608x4096 v (by decide)) e0
    have i : Cert.Pow2.invScale (m' (c, Proc.tc.devRef Cert.Quantref.main_arg1)) = Cert.Pow2.invScale (m (c, Proc.tc.devRef Cert.Quantdy.main_arg1)) :=
      congrArg Cert.Pow2.invScale e1
    refine ⟨r0.trans ?_, r1.trans (congrArg Cert.Pow2.scale e1), r2.trans (congrArg Cert.Pow2.scale e2), h.2.1 c⟩
    rw [d, i]

theorem claim : Cert.Claim := ⟨Cert.Kernel.Gen.facts, Cert.KernelIdeal.Gen.facts, Cert.RefIdeal.Gen.facts, Cert.Quantdy.Gen.facts, Cert.Quantref.Gen.facts,
  frame_Kernel, fun m ρ _ => Cert.KernelIdeal.Run.frame m ρ, fun m ρ _ => Cert.RefIdeal.Gen.frame m ρ,
  fun m ρ _ => Cert.Quantdy.Gen.frame m ρ, fun m ρ _ => Cert.Quantref.Gen.frame m ρ, trivial, tie, tie_quant⟩

end Cert.Proof

end
